-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v51) = v0 c
          ∧ r.2.mem ((c.tc : Thread Cert.Reference6Ideal.nD Cert.Reference6Ideal.τ).loc Cert.Reference6Ideal.main_v53) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)) →
    ∃ (v0 : (c : Dev Cert.Kernel7Ideal.nD) → Buf (Elt Ideal) ((c.tc : Thread Cert.Kernel7Ideal.nD Cert.Kernel7Ideal.τ).loc Cert.Kernel7Ideal.main_v104_3)) (v1 : (c : Dev Cert.Kernel7Ideal.nD) → Buf (Elt Ideal) ((c.tc : Thread Cert.Kernel7Ideal.nD Cert.Kernel7Ideal.τ).loc Cert.Kernel7Ideal.main_v105)) (v2 : (c : Dev Cert.Kernel7Ideal.nD) → Buf (Elt Ideal) ((c.tc : Thread Cert.Kernel7Ideal.nD Cert.Kernel7Ideal.τ).loc Cert.Kernel7Ideal.main_v104_5)) (v3 : (c : Dev Cert.Kernel7Ideal.nD) → Buf (Elt Ideal) ((c.tc : Thread Cert.Kernel7Ideal.nD Cert.Kernel7Ideal.τ).loc Cert.Kernel7Ideal.main_v104_6)) (v4 : (c : Dev Cert.Kernel7Ideal.nD) → Buf (Elt Ideal) ((c.tc : Thread Cert.Kernel7Ideal.nD Cert.Kernel7Ideal.τ).loc Cert.Kernel7Ideal.main_v104_7)) (v5 : (c : Dev Cert.Kernel7Ideal.nD) → Buf (Elt Ideal) ((c.tc : Thread Cert.Kernel7Ideal.nD Cert.Kernel7Ideal.τ).loc Cert.Kernel7Ideal.main_v104_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v104_3) = v0 c
          ∧ r.2.mem ((c.tc : Thread Cert.Kernel7Ideal.nD Cert.Kernel7Ideal.τ).loc Cert.Kernel7Ideal.main_v105) = v1 c
          ∧ r.2.mem ((c.tc : Thread Cert.Kernel7Ideal.nD Cert.Kernel7Ideal.τ).loc Cert.Kernel7Ideal.main_v104_5) = v2 c
          ∧ r.2.mem ((c.tc : Thread Cert.Kernel7Ideal.nD Cert.Kernel7Ideal.τ).loc Cert.Kernel7Ideal.main_v104_6) = v3 c
          ∧ r.2.mem ((c.tc : Thread Cert.Kernel7Ideal.nD Cert.Kernel7Ideal.τ).loc Cert.Kernel7Ideal.main_v104_7) = v4 c
          ∧ r.2.mem ((c.tc : Thread Cert.Kernel7Ideal.nD Cert.Kernel7Ideal.τ).loc Cert.Kernel7Ideal.main_v104_8) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_v51) = v1 c
          ∧ r.2.mem ((c.tc : Thread Cert.Reference7Ideal.nD Cert.Reference7Ideal.τ).loc Cert.Reference7Ideal.main_v53) = v2 c
          ∧ r.2.mem ((c.tc : Thread Cert.Reference7Ideal.nD Cert.Reference7Ideal.τ).loc Cert.Reference7Ideal.main_v33) = v3 c
          ∧ r.2.mem ((c.tc : Thread Cert.Reference7Ideal.nD Cert.Reference7Ideal.τ).loc Cert.Reference7Ideal.main_v54) = v4 c
          ∧ r.2.mem ((c.tc : Thread Cert.Reference7Ideal.nD Cert.Reference7Ideal.τ).loc Cert.Reference7Ideal.main_v35) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S16 : Shape := ⟨1, ![16]⟩
abbrev S20480x1024 : Shape := ⟨2, ![20480, 1024]⟩
abbrev S20480x256 : Shape := ⟨2, ![20480, 256]⟩
abbrev S4x256x4x64 : Shape := ⟨4, ![4, 256, 4, 64]⟩
abbrev S_ : Shape := ⟨0, ![]⟩
abbrev S16384x1024 : Shape := ⟨2, ![16384, 1024]⟩
abbrev S16384x256 : Shape := ⟨2, ![16384, 256]⟩

class Facts : Prop where
  bcast_S_S16 : S_.BroadcastsInDim S16 (![] : Fin 0 → Fin S16.rank)
  reducesTo_S16_S_d0 : S16.ReducesTo [0] S_
  h_S_ : 0 < S_.numel
  slices_S20480x1024_S16384x1024_4096_0 : S20480x1024.Slices ![4096, 0] S16384x1024
  bcast_S_S16384x1024 : S_.BroadcastsInDim S16384x1024 (![] : Fin 0 → Fin S16384x1024.rank)
  reducesTo_S16384x1024_S_d0_1 : S16384x1024.ReducesTo [0, 1] S_
  slices_S20480x256_S16384x256_4096_0 : S20480x256.Slices ![4096, 0] S16384x256
  bcast_S_S16384x256 : S_.BroadcastsInDim S16384x256 (![] : Fin 0 → Fin S16384x256.rank)
  reducesTo_S16384x256_S_d0_1 : S16384x256.ReducesTo [0, 1] S_
  bcast_S_S4x256x4x64 : S_.BroadcastsInDim S4x256x4x64 (![] : Fin 0 → Fin S4x256x4x64.rank)
  reducesTo_S4x256x4x64_S_d0_1_2_3 : S4x256x4x64.ReducesTo [0, 1, 2, 3] S_

variable [Facts]

def fn_part1 {F : FTy → Type} [FloatOps F] (main_v14 : IVec S_ 1) (main_v15 : FVec F S4x256x4x64 .f32) (main_v16 : FVec F S4x256x4x64 .f32) : IVec S_ 1 :=
  let main_v17 : IVec S4x256x4x64 1 := cmpf .olt main_v15 main_v16
  let main_c_5 : IVec S_ 1 := constantI S_ 1 1#1
  let main_v18 : IVec S_ 1 := (fun x v => Host.reduce IntOp.andi x v reducesTo_S4x256x4x64_S_d0_1_2_3 h_S_) main_v17 main_c_5
  let main_v19 : IVec S_ 1 := andi main_v14 main_v18
  main_v19

def fn {F : FTy → Type} [FloatOps F] (main_arg0 : FVec F S16 .f32) (main_arg1 : FVec F S20480x1024 .f32) (main_arg2 : FVec F S20480x256 .f32) (main_arg3 : FVec F S20480x256 .f32) (main_arg4 : FVec F S4x256x4x64 .f32) (main_arg5 : FVec F S4x256x4x64 .f32) : IVec S_ 1 :=
  let main_cst : FVec F S_ .f32 := constant S_ .f32 0x7F800000#32
  let main_v0 : FVec F S16 .f32 := broadcastInDim S16 ![] bcast_S_S16 main_cst
  let main_v1 : IVec S16 1 := cmpf .olt main_arg0 main_v0
  let main_c : IVec S_ 1 := constantI S_ 1 1#1
  let main_v2 : IVec S_ 1 := (fun x v => Host.reduce IntOp.andi x v reducesTo_S16_S_d0 h_S_) main_v1 main_c
  let main_v3 : FVec F S16384x1024 .f32 := (extractStridedSlice S16384x1024 ![4096, 0] · slices_S20480x1024_S16384x1024_4096_0) main_arg1
  let main_v4 : FVec F S16384x1024 .f32 := Host.absf main_v3
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v2 main_v7
  let main_v9 : FVec F S16384x256 .f32 := (extractStridedSlice S16384x256 ![4096, 0] · slices_S20480x256_S16384x256_4096_0) main_arg2
  let main_v10 : FVec F S16384x256 .f32 := Host.absf main_v9
  let main_cst_2 : FVec F S_ .f32 := constant S_ .f32 0x7F800000#32
  let main_v11 : FVec F S16384x256 .f32 := broadcastInDim S16384x256 ![] bcast_S_S16384x256 main_cst_2
  let main_v12 : IVec S16384x256 1 := cmpf .olt main_v10 main_v11
  let main_c_3 : IVec S_ 1 := constantI S_ 1 1#1
  let main_v13 : IVec S_ 1 := (fun x v => Host.reduce IntOp.andi x v reducesTo_S16384x256_S_d0_1 h_S_) main_v12 main_c_3
  let main_v14 : IVec S_ 1 := andi main_v8 main_v13
  let main_v15 : FVec F S4x256x4x64 .f32 := Host.absf main_arg4
  let main_cst_4 : FVec F S_ .f32 := constant S_ .f32 0x7F800000#32
  let main_v16 : FVec F S4x256x4x64 .f32 := broadcastInDim S4x256x4x64 ![] bcast_S_S4x256x4x64 main_cst_4
  fn_part1 (F := F) main_v14 main_v15 main_v16
-- ==== Pre_routed.lean ====
abbrev S88 : Shape := ⟨1, ![88]⟩
abbrev S45056x1024 : Shape := ⟨2, ![45056, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S88 : S_.BroadcastsInDim S88 (![] : Fin 0 → Fin S88.rank)
  reducesTo_S88_S_d0 : S88.ReducesTo [0] S_
  h_S_ : 0 < S_.numel

variable [Facts]

def fn {F : FTy → Type} [FloatOps F] (main_arg0 : IVec S88 32) (main_arg1 : IVec S88 32) (main_arg2 : FVec F S45056x1024 .f32) (main_arg3 : FVec F S8x1024x2816 .f32) (main_arg4 : FVec F S8x1024x2816 .f32) (main_arg5 : FVec F S8x2816x1024 .f32) : IVec S_ 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 1 := constantI S_ 1 1#1
  let main_v2 : IVec S_ 1 := (fun x v => Host.reduce IntOp.andi x v reducesTo_S88_S_d0 h_S_) main_v1 main_c_0
  let main_c_1 : IVec S_ 32 := constantI S_ 32 8#32
  let main_v3 : IVec S88 32 := broadcastInDim S88 ![] bcast_S_S88 main_c_1
  let main_v4 : IVec S88 1 := cmpi .slt main_arg0 main_v3
  let main_c_2 : IVec S_ 1 := constantI S_ 1 1#1
  let main_v5 : IVec S_ 1 := (fun x v => Host.reduce IntOp.andi x v reducesTo_S88_S_d0 h_S_) main_v4 main_c_2
  let main_v6 : IVec S_ 1 := andi main_v2 main_v5
  let main_c_3 : IVec S_ 32 := constantI S_ 32 0#32
  let main_v7 : IVec S88 32 := broadcastInDim S88 ![] bcast_S_S88 main_c_3
  let main_v8 : IVec S88 1 := cmpi .sge main_arg1 main_v7
  let main_c_4 : IVec S_ 1 := constantI S_ 1 1#1
  let main_v9 : IVec S_ 1 := (fun x v => Host.reduce IntOp.andi x v reducesTo_S88_S_d0 h_S_) main_v8 main_c_4
  let main_v10 : IVec S_ 1 := andi main_v6 main_v9
  main_v10
-- ==== Kernel.lean ====
abbrev S16 : Shape := ⟨1, ![16]⟩
abbrev S20480x1024 : Shape := ⟨2, ![20480, 1024]⟩
abbrev S20480x256 : Shape := ⟨2, ![20480, 256]⟩
abbrev S4x256x4x64 : Shape := ⟨4, ![4, 256, 4, 64]⟩
abbrev S_ : Shape := ⟨0, ![]⟩
abbrev S20480x2x128 : Shape := ⟨3, ![20480, 2, 128]⟩
abbrev S20480x2x256 : Shape := ⟨3, ![20480, 2, 256]⟩
abbrev S20480x512 : Shape := ⟨2, ![20480, 512]⟩
abbrev S1024x256 : Shape := ⟨2, ![1024, 256]⟩
abbrev S1024x2x128 : Shape := ⟨3, ![1024, 2, 128]⟩
abbrev S1024x2x256 : Shape := ⟨3, ![1024, 2, 256]⟩
abbrev S1024x512 : Shape := ⟨2, ![1024, 512]⟩
abbrev S16384x1024 : Shape := ⟨2, ![16384, 1024]⟩
abbrev S256x1024 : Shape := ⟨2, ![256, 1024]⟩
abbrev S4096x256 : Shape := ⟨2, ![4096, 256]⟩
abbrev S4096x512 : Shape := ⟨2, ![4096, 512]⟩
abbrev S256x256 : Shape := ⟨2, ![256, 256]⟩
abbrev S256x512 : Shape := ⟨2, ![256, 512]⟩
abbrev S256x128 : Shape := ⟨2, ![256, 128]⟩
abbrev S512x128 : Shape := ⟨2, ![512, 128]⟩
abbrev S512x256 : Shape := ⟨2, ![512, 256]⟩
abbrev S1 : Shape := ⟨1, ![1]⟩
abbrev S256 : Shape := ⟨1, ![256]⟩
abbrev S256x1 : Shape := ⟨2, ![256, 1]⟩

abbrev nBuf : Space → Nat
  | .hbm => 27
  | .vmem => 12
  | .smem => 1
  | _ => 0

abbrev bufTy : (tb : Table) → Fin (tcTables nBuf tb) → BufTy
  | .hbm, ⟨0, _⟩ => ⟨S16, .f32⟩
  | .hbm, ⟨1, _⟩ => ⟨S20480x1024, .f32⟩
  | .hbm, ⟨2, _⟩ => ⟨S20480x256, .f32⟩
  | .hbm, ⟨3, _⟩ => ⟨S20480x256, .f32⟩
  | .hbm, ⟨4, _⟩ => ⟨S4x256x4x64, .f32⟩
  | .hbm, ⟨5, _⟩ => ⟨S4x256x4x64, .f32⟩
  | .hbm, ⟨6, _⟩ => ⟨S_, .f32⟩
  | .hbm, ⟨7, _⟩ => ⟨S20480x1024, .f32⟩
  | .hbm, ⟨8, _⟩ => ⟨S20480x1024, .f32⟩
  | .hbm, ⟨9, _⟩ => ⟨S20480x1024, .bf16⟩
  | .hbm, ⟨10, _⟩ => ⟨S20480x256, .bf16⟩
  | .hbm, ⟨11, _⟩ => ⟨S20480x2x128, .f32⟩
  | .hbm, ⟨12, _⟩ => ⟨S_, .f32⟩
  | .hbm, ⟨13, _⟩ => ⟨S20480x2x128, .f32⟩
  | .hbm, ⟨14, _⟩ => ⟨S20480x2x256, .f32⟩
  | .hbm, ⟨15, _⟩ => ⟨S20480x512, .f32⟩
  | .hbm, ⟨16, _⟩ => ⟨S20480x512, .bf16⟩
  | .hbm, ⟨17, _⟩ => ⟨S1024x256, .f32⟩
  | .hbm, ⟨18, _⟩ => ⟨S1024x256, .bf16⟩
  | .hbm, ⟨19, _⟩ => ⟨S1024x256, .f32⟩
  | .hbm, ⟨20, _⟩ => ⟨S1024x2x128, .f32⟩
  | .hbm, ⟨21, _⟩ => ⟨S_, .f32⟩
  | .hbm, ⟨22, _⟩ => ⟨S1024x2x128, .f32⟩
  | .hbm, ⟨23, _⟩ => ⟨S1024x2x256, .f32⟩
  | .hbm, ⟨24, _⟩ => ⟨S1024x512, .f32⟩
  | .hbm, ⟨25, _⟩ => ⟨S1024x512, .bf16⟩
  | .hbm, ⟨26, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S4096x256, .bf16⟩
  | .local _ .vmem, ⟨3, _⟩ => ⟨S4096x256, .bf16⟩
  | .local _ .vmem, ⟨4, _⟩ => ⟨S4096x512, .bf16⟩
  | .local _ .vmem, ⟨5, _⟩ => ⟨S4096x512, .bf16⟩
  | .local _ .vmem, ⟨6, _⟩ => ⟨S256x256, .bf16⟩
  | .local _ .vmem, ⟨7, _⟩ => ⟨S256x256, .bf16⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c3584_i32 : BitVec 32 := 3584#32
  let c0_i32 : BitVec 32 := 0#32
  let arg1 : BitVec 32 := BitVec.ofNat 32 (i 1).val
  let c256_i32 : BitVec 32 := 256#32
  let v3 : BitVec 32 := Scalar.muli arg1 c256_i32
  let c128_i32 : BitVec 32 := 128#32
  let v4 : BitVec 32 := Scalar.subi v3 c128_i32
  let v5 : BitVec 32 := Scalar.maxsi c0_i32 v4
  let v6 : BitVec 32 := Scalar.minsi c3584_i32 v5
  v6
def k0_off1 (i : grid0.Coords) : Fin 2 → Nat :=
  let c3584_i32 : BitVec 32 := 3584#32
  let c0_i32 : BitVec 32 := 0#32
  let arg1 : BitVec 32 := BitVec.ofNat 32 (i 1).val
  let c256_i32 : BitVec 32 := 256#32
  let v3 : BitVec 32 := Scalar.muli arg1 c256_i32
  let c128_i32 : BitVec 32 := 128#32
  let v4 : BitVec 32 := Scalar.subi v3 c128_i32
  let v5 : BitVec 32 := Scalar.maxsi c0_i32 v4
  let v6 : BitVec 32 := Scalar.minsi c3584_i32 v5
  let v7 : BitVec 32 := v6
  let v22 : Index := Scalar.indexCast v7
  let c0_4 : Index := 0#32
  ![v22.toNat, 0]
def k0_off2 (i : grid0.Coords) : Fin 2 → Nat :=
  let c3584_i32 : BitVec 32 := 3584#32
  let c0_i32 : BitVec 32 := 0#32
  let arg1 : BitVec 32 := BitVec.ofNat 32 (i 1).val
  let c256_i32 : BitVec 32 := 256#32
  let v3 : BitVec 32 := Scalar.muli arg1 c256_i32
  let c128_i32 : BitVec 32 := 128#32
  let v4 : BitVec 32 := Scalar.subi v3 c128_i32
  let v5 : BitVec 32 := Scalar.maxsi c0_i32 v4
  let v6 : BitVec 32 := Scalar.minsi c3584_i32 v5
  let v7 : BitVec 32 := v6
  let v25 : Index := Scalar.indexCast v7
  let c0_5 : Index := 0#32
  ![v25.toNat, 0]
def k0_off3 (i : grid0.Coords) : Fin 2 → Nat :=
  let c3584_i32 : BitVec 32 := 3584#32
  let c0_i32 : BitVec 32 := 0#32
  let arg1 : BitVec 32 := BitVec.ofNat 32 (i 1).val
  let c256_i32 : BitVec 32 := 256#32
  let v3 : BitVec 32 := Scalar.muli arg1 c256_i32
  let c128_i32 : BitVec 32 := 128#32
  let v4 : BitVec 32 := Scalar.subi v3 c128_i32
  let v5 : BitVec 32 := Scalar.maxsi c0_i32 v4
  let v6 : BitVec 32 := Scalar.minsi c3584_i32 v5
  let v7 : BitVec 32 := v6
  let v320 : Index := Scalar.indexCast v7
  let c128_91 : Index := 128#32
  ![v320.toNat, 128]
def k0_off4 (i : grid0.Coords) : Fin 2 → Nat :=
  let c3584_i32 : BitVec 32 := 3584#32
  let c0_i32 : BitVec 32 := 0#32
  let arg1 : BitVec 32 := BitVec.ofNat 32 (i 1).val
  let c256_i32 : BitVec 32 := 256#32
  let v3 : BitVec 32 := Scalar.muli arg1 c256_i32
  let c128_i32 : BitVec 32 := 128#32
  let v4 : BitVec 32 := Scalar.subi v3 c128_i32
  let v5 : BitVec 32 := Scalar.maxsi c0_i32 v4
  let v6 : BitVec 32 := Scalar.minsi c3584_i32 v5
  let v7 : BitVec 32 := v6
  let v323 : Index := Scalar.indexCast v7
  let c256_92 : Index := 256#32
  ![v323.toNat, 256]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi c16_i32_0 v0
  let v2 : BitVec 32 := Scalar.addi v1 arg1
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16 : Shape := ⟨1, ![16]⟩
abbrev S20480x1024 : Shape := ⟨2, ![20480, 1024]⟩
abbrev S20480x256 : Shape := ⟨2, ![20480, 256]⟩
abbrev S4x256x4x64 : Shape := ⟨4, ![4, 256, 4, 64]⟩
abbrev S16384x1024 : Shape := ⟨2, ![16384, 1024]⟩
abbrev S4x4096x2x4x2x64 : Shape := ⟨6, ![4, 4096, 2, 4, 2, 64]⟩
abbrev S4x4096x2x2x4x64 : Shape := ⟨6, ![4, 4096, 2, 2, 4, 64]⟩
abbrev S4x4096x4x4x64 : Shape := ⟨5, ![4, 4096, 4, 4, 64]⟩
abbrev S16384x256 : Shape := ⟨2, ![16384, 256]⟩
abbrev S4x4096x4x64 : Shape := ⟨4, ![4, 4096, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4x4096x4096x4 : Shape := ⟨5, ![4, 4, 4096, 4096, 4]⟩
abbrev S4x4x4x4096x4096 : Shape := ⟨5, ![4, 4, 4, 4096, 4096]⟩
abbrev S4x4x256x4096x4 : Shape := ⟨5, ![4, 4, 256, 4096, 4]⟩
abbrev S4x4x4x4096x256 : Shape := ⟨5, ![4, 4, 4, 4096, 256]⟩
abbrev S4x4 : Shape := ⟨2, ![4, 4]⟩
abbrev S1x4x4x1x1 : Shape := ⟨5, ![1, 4, 4, 1, 1]⟩
abbrev S4x4x4x4096x1 : Shape := ⟨5, ![4, 4, 4, 4096, 1]⟩
abbrev S4x4x4x4096x4353 : Shape := ⟨5, ![4, 4, 4, 4096, 4353]⟩
abbrev S4x4x4x4096 : Shape := ⟨4, ![4, 4, 4, 4096]⟩
abbrev S4x4x64x4x4096 : Shape := ⟨5, ![4, 4, 64, 4, 4096]⟩

abbrev nBuf : Space → Nat
  | .hbm => 68
  | .vmem => 0
  | .smem => 0
  | _ => 0

abbrev bufTy : (tb : Table) → Fin (tcTables nBuf tb) → BufTy
  | .hbm, ⟨0, _⟩ => ⟨S16, .f32⟩
  | .hbm, ⟨1, _⟩ => ⟨S20480x1024, .f32⟩
  | .hbm, ⟨2, _⟩ => ⟨S20480x256, .f32⟩
  | .hbm, ⟨3, _⟩ => ⟨S20480x256, .f32⟩
  | .hbm, ⟨4, _⟩ => ⟨S4x256x4x64, .f32⟩
  | .hbm, ⟨5, _⟩ => ⟨S4x256x4x64, .f32⟩
  | .hbm, ⟨6, _⟩ => ⟨S16384x1024, .f32⟩
  | .hbm, ⟨7, _⟩ => ⟨S4x4096x2x4x2x64, .f32⟩
  | .hbm, ⟨8, _⟩ => ⟨S4x4096x2x2x4x64, .f32⟩
  | .hbm, ⟨9, _⟩ => ⟨S4x4096x4x4x64, .f32⟩
  | .hbm, ⟨10, _⟩ => ⟨S16384x256, .f32⟩
  | .hbm, ⟨11, _⟩ => ⟨S4x4096x4x64, .f32⟩
  | .hbm, ⟨12, _⟩ => ⟨S16384x256, .f32⟩
  | .hbm, ⟨13, _⟩ => ⟨S4x4096x4x64, .f32⟩
  | .hbm, ⟨14, _⟩ => ⟨S4096, .i32⟩
  | .hbm, ⟨15, _⟩ => ⟨S4096x1, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S4x4x4096x4096x4, .f32⟩
  | .hbm, ⟨25, _⟩ => ⟨S4x4x4x4096x4096, .f32⟩
  | .hbm, ⟨26, _⟩ => ⟨S_, .f32⟩
  | .hbm, ⟨27, _⟩ => ⟨S4x4x4x4096x4096, .f32⟩
  | .hbm, ⟨28, _⟩ => ⟨S4x4x4x4096x4096, .f32⟩
  | .hbm, ⟨29, _⟩ => ⟨S_, .f32⟩
  | .hbm, ⟨30, _⟩ => ⟨S_, .f32⟩
  | .hbm, ⟨31, _⟩ => ⟨S4x4x4x4096x4096, .i1⟩
  | .hbm, ⟨32, _⟩ => ⟨S4x4x4x4096x4096, .f32⟩
  | .hbm, ⟨33, _⟩ => ⟨S4x4x4x4096x4096, .f32⟩
  | .hbm, ⟨34, _⟩ => ⟨S4x4x256x4096x4, .f32⟩
  | .hbm, ⟨35, _⟩ => ⟨S4x4x4x4096x256, .f32⟩
  | .hbm, ⟨36, _⟩ => ⟨S_, .f32⟩
  | .hbm, ⟨37, _⟩ => ⟨S4x4x4x4096x256, .f32⟩
  | .hbm, ⟨38, _⟩ => ⟨S4x4x4x4096x256, .f32⟩
  | .hbm, ⟨39, _⟩ => ⟨S4x4, .f32⟩
  | .hbm, ⟨40, _⟩ => ⟨S1x4x4x1x1, .f32⟩
  | .hbm, ⟨41, _⟩ => ⟨S4x4x4x4096x1, .f32⟩
  | .hbm, ⟨42, _⟩ => ⟨S4x4x4x4096x4353, .f32⟩
  | .hbm, ⟨43, _⟩ => ⟨S_, .f32⟩
  | .hbm, ⟨44, _⟩ => ⟨S4x4x4x4096, .f32⟩
  | .hbm, ⟨45, _⟩ => ⟨S_, .f32⟩
  | .hbm, ⟨46, _⟩ => ⟨S4x4x4x4096, .f32⟩
  | .hbm, ⟨47, _⟩ => ⟨S4x4x4x4096, .f32⟩
  | .hbm, ⟨48, _⟩ => ⟨S4x4x4x4096x1, .f32⟩
  | .hbm, ⟨49, _⟩ => ⟨S4x4x4x4096x4353, .f32⟩
  | .hbm, ⟨50, _⟩ => ⟨S4x4x4x4096x4353, .f32⟩
  | .hbm, ⟨51, _⟩ => ⟨S4x4x4x4096x4353, .f32⟩
  | .hbm, ⟨52, _⟩ => ⟨S_, .f32⟩
  | .hbm, ⟨53, _⟩ => ⟨S4x4x4x4096, .f32⟩
  | .hbm, ⟨54, _⟩ => ⟨S4x4x4x4096x1, .f32⟩
  | .hbm, ⟨55, _⟩ => ⟨S4x4x4x4096x4353, .f32⟩
  | .hbm, ⟨56, _⟩ => ⟨S4x4x4x4096x4353, .f32⟩
  | .hbm, ⟨57, _⟩ => ⟨S4x4x4x4096x4096, .f32⟩
  | .hbm, ⟨58, _⟩ => ⟨S4x4x64x4x4096, .f32⟩
  | .hbm, ⟨59, _⟩ => ⟨S4x4096x4x4x64, .f32⟩
  | .hbm, ⟨60, _⟩ => ⟨S4x4x4x4096x256, .f32⟩
  | .hbm, ⟨61, _⟩ => ⟨S4x4x64x4x4096, .f32⟩
  | .hbm, ⟨62, _⟩ => ⟨S4x4096x4x4x64, .f32⟩
  | .hbm, ⟨63, _⟩ => ⟨S4x4096x4x4x64, .f32⟩
  | .hbm, ⟨64, _⟩ => ⟨S4x4096x2x2x4x64, .f32⟩
  | .hbm, ⟨65, _⟩ => ⟨S4x4096x2x4x2x64, .f32⟩
  | .hbm, ⟨66, _⟩ => ⟨S16384x1024, .f32⟩
  | .hbm, ⟨67, _⟩ => ⟨S16384x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel2.lean ====
abbrev S88 : Shape := ⟨1, ![88]⟩
abbrev S45056x1024 : Shape := ⟨2, ![45056, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x2816 : Shape := ⟨3, ![1, 1024, 2816]⟩
abbrev S1 : Shape := ⟨1, ![1]⟩
abbrev S1x2816x1024 : Shape := ⟨3, ![1, 2816, 1024]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 5
  | .vmem => 7
  | .smem => 2
  | _ => 0

abbrev bufTy : (tb : Table) → Fin (tcTables nBuf tb) → BufTy
  | .hbm, ⟨0, _⟩ => ⟨S45056x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S45056x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .f32⟩
  | .local _ .vmem, ⟨3, _⟩ => ⟨S1x1024x2816, .f32⟩
  | .local _ .vmem, ⟨4, _⟩ => ⟨S1x2816x1024, .f32⟩
  | .local _ .vmem, ⟨5, _⟩ => ⟨S512x1024, .f32⟩
  | .local _ .vmem, ⟨6, _⟩ => ⟨S512x1024, .f32⟩
  | .local _ .smem, ⟨0, _⟩ => ⟨S88, .i32⟩
  | .local _ .smem, ⟨1, _⟩ => ⟨S88, .i32⟩
  | _, _ => ⟨S45056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![88], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S88 : Shape := ⟨1, ![88]⟩
abbrev S45056x1024 : Shape := ⟨2, ![45056, 1024]⟩
abbrev S8x1024x2816 : Shape := ⟨3, ![8, 1024, 2816]⟩
abbrev S8x2816x1024 : Shape := ⟨3, ![8, 2816, 1024]⟩
abbrev S88x1 : Shape := ⟨2, ![88, 1]⟩
abbrev S88x512 : Shape := ⟨2, ![88, 512]⟩
abbrev S45056 : Shape := ⟨1, ![45056]⟩
abbrev S512 : Shape := ⟨1, ![512]⟩
abbrev S1x512 : Shape := ⟨2, ![1, 512]⟩
abbrev S45056x1 : Shape := ⟨2, ![45056, 1]⟩
abbrev S1x8 : Shape := ⟨2, ![1, 8]⟩
abbrev S45056x8 : Shape := ⟨2, ![45056, 8]⟩
abbrev S_ : Shape := ⟨0, ![]⟩
abbrev S8x2816x45056 : Shape := ⟨3, ![8, 2816, 45056]⟩
abbrev S8x45056x2816 : Shape := ⟨3, ![8, 45056, 2816]⟩
abbrev S8x45056x1024 : Shape := ⟨3, ![8, 45056, 1024]⟩
abbrev S8x45056 : Shape := ⟨2, ![8, 45056]⟩
abbrev S8x45056x1 : Shape := ⟨3, ![8, 45056, 1]⟩

abbrev nBuf : Space → Nat
  | .hbm => 49
  | .vmem => 0
  | .smem => 0
  | _ => 0

abbrev bufTy : (tb : Table) → Fin (tcTables nBuf tb) → BufTy
  | .hbm, ⟨0, _⟩ => ⟨S88, .i32⟩
  | .hbm, ⟨1, _⟩ => ⟨S88, .i32⟩
  | .hbm, ⟨2, _⟩ => ⟨S45056x1024, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S88x1, .i32⟩
  | .hbm, ⟨7, _⟩ => ⟨S88x512, .i32⟩
  | .hbm, ⟨8, _⟩ => ⟨S45056, .i32⟩
  | .hbm, ⟨9, _⟩ => ⟨S512, .i32⟩
  | .hbm, ⟨10, _⟩ => ⟨S1x512, .i32⟩
  | .hbm, ⟨11, _⟩ => ⟨S88x1, .i32⟩
  | .hbm, ⟨12, _⟩ => ⟨S88x512, .i32⟩
  | .hbm, ⟨13, _⟩ => ⟨S88x512, .i32⟩
  | .hbm, ⟨14, _⟩ => ⟨S88x512, .i1⟩
  | .hbm, ⟨15, _⟩ => ⟨S45056, .i1⟩
  | .hbm, ⟨16, _⟩ => ⟨S45056x1, .i1⟩
  | .hbm, ⟨17, _⟩ => ⟨S45056x1, .i32⟩
  | .hbm, ⟨18, _⟩ => ⟨S1x8, .i32⟩
  | .hbm, ⟨19, _⟩ => ⟨S45056x8, .i32⟩
  | .hbm, ⟨20, _⟩ => ⟨S45056x8, .i32⟩
  | .hbm, ⟨21, _⟩ => ⟨S45056x8, .i1⟩
  | .hbm, ⟨22, _⟩ => ⟨S45056x8, .f32⟩
  | .hbm, ⟨23, _⟩ => ⟨S_, .f32⟩
  | .hbm, ⟨24, _⟩ => ⟨S_, .f32⟩
  | .hbm, ⟨25, _⟩ => ⟨S45056x8, .i1⟩
  | .hbm, ⟨26, _⟩ => ⟨S45056x8, .f32⟩
  | .hbm, ⟨27, _⟩ => ⟨S45056x8, .f32⟩
  | .hbm, ⟨28, _⟩ => ⟨S8x2816x45056, .f32⟩
  | .hbm, ⟨29, _⟩ => ⟨S8x45056x2816, .f32⟩
  | .hbm, ⟨30, _⟩ => ⟨S8x2816x45056, .f32⟩
  | .hbm, ⟨31, _⟩ => ⟨S8x45056x2816, .f32⟩
  | .hbm, ⟨32, _⟩ => ⟨S8x45056x2816, .f32⟩
  | .hbm, ⟨33, _⟩ => ⟨S8x45056x2816, .f32⟩
  | .hbm, ⟨34, _⟩ => ⟨S_, .f32⟩
  | .hbm, ⟨35, _⟩ => ⟨S8x45056x2816, .f32⟩
  | .hbm, ⟨36, _⟩ => ⟨S8x45056x2816, .f32⟩
  | .hbm, ⟨37, _⟩ => ⟨S_, .f32⟩
  | .hbm, ⟨38, _⟩ => ⟨S8x45056x2816, .f32⟩
  | .hbm, ⟨39, _⟩ => ⟨S8x45056x2816, .f32⟩
  | .hbm, ⟨40, _⟩ => ⟨S8x45056x2816, .f32⟩
  | .hbm, ⟨41, _⟩ => ⟨S8x45056x2816, .f32⟩
  | .hbm, ⟨42, _⟩ => ⟨S8x45056x1024, .f32⟩
  | .hbm, ⟨43, _⟩ => ⟨S8x45056, .f32⟩
  | .hbm, ⟨44, _⟩ => ⟨S8x45056x1, .f32⟩
  | .hbm, ⟨45, _⟩ => ⟨S8x45056x1024, .f32⟩
  | .hbm, ⟨46, _⟩ => ⟨S8x45056x1024, .f32⟩
  | .hbm, ⟨47, _⟩ => ⟨S_, .f32⟩
  | .hbm, ⟨48, _⟩ => ⟨S45056x1024, .f32⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Kernel3.lean ====
abbrev S20480x1024 : Shape := ⟨2, ![20480, 1024]⟩
abbrev S1024x2816 : Shape := ⟨2, ![1024, 2816]⟩
abbrev S2816x1024 : Shape := ⟨2, ![2816, 1024]⟩
abbrev S2x8x6x1x1024 : Shape := ⟨5, ![2, 8, 6, 1, 1024]⟩
abbrev S1x1024 : Shape := ⟨2, ![1, 1024]⟩
abbrev S512x1024 : Shape := ⟨2, ![512, 1024]⟩
abbrev S1x1x1x1x1024 : Shape := ⟨5, ![1, 1, 1, 1, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S20480x1024, .bf16⟩
  | .hbm, ⟨1, _⟩ => ⟨S20480x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x8x6x1x1024, .f32⟩
  | .hbm, ⟨6, _⟩ => ⟨S1x1024, .f32⟩
  | .hbm, ⟨7, _⟩ => ⟨S20480x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .f32⟩
  | .local _ .vmem, ⟨5, _⟩ => ⟨S1024x2816, .f32⟩
  | .local _ .vmem, ⟨6, _⟩ => ⟨S2816x1024, .f32⟩
  | .local _ .vmem, ⟨7, _⟩ => ⟨S1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S512x1024, .f32⟩
  | .local _ .vmem, ⟨11, _⟩ => ⟨S512x1024, .f32⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  let c0_i32_6 : BitVec 32 := 0#32
  let c0_i32_7 : BitVec 32 := 0#32
  ![c0_i32_4.toNat, v16.toNat, c5_i32.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S20480x1024 : Shape := ⟨2, ![20480, 1024]⟩
abbrev S1024x2816 : Shape := ⟨2, ![1024, 2816]⟩
abbrev S2816x1024 : Shape := ⟨2, ![2816, 1024]⟩
abbrev S2x8x6x1x1024 : Shape := ⟨5, ![2, 8, 6, 1, 1024]⟩
abbrev S1x1024 : Shape := ⟨2, ![1, 1024]⟩
abbrev S20480x2816 : Shape := ⟨2, ![20480, 2816]⟩
abbrev S_ : Shape := ⟨0, ![]⟩
abbrev S1x5x1x1x1024 : Shape := ⟨5, ![1, 5, 1, 1, 1024]⟩
abbrev S5x1x1024 : Shape := ⟨3, ![5, 1, 1024]⟩
abbrev S5x4096x1024 : Shape := ⟨3, ![5, 4096, 1024]⟩
abbrev S20480 : Shape := ⟨1, ![20480]⟩
abbrev S20480x1 : Shape := ⟨2, ![20480, 1]⟩

abbrev nBuf : Space → Nat
  | .hbm => 44
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S20480x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x8x6x1x1024, .f32⟩
  | .hbm, ⟨6, _⟩ => ⟨S1x1024, .f32⟩
  | .hbm, ⟨7, _⟩ => ⟨S20480x1024, .f32⟩
  | .hbm, ⟨8, _⟩ => ⟨S20480x2816, .f32⟩
  | .hbm, ⟨9, _⟩ => ⟨S20480x2816, .f32⟩
  | .hbm, ⟨10, _⟩ => ⟨S20480x2816, .f32⟩
  | .hbm, ⟨11, _⟩ => ⟨S_, .f32⟩
  | .hbm, ⟨12, _⟩ => ⟨S20480x2816, .f32⟩
  | .hbm, ⟨13, _⟩ => ⟨S20480x2816, .f32⟩
  | .hbm, ⟨14, _⟩ => ⟨S_, .f32⟩
  | .hbm, ⟨15, _⟩ => ⟨S20480x2816, .f32⟩
  | .hbm, ⟨16, _⟩ => ⟨S20480x2816, .f32⟩
  | .hbm, ⟨17, _⟩ => ⟨S20480x2816, .f32⟩
  | .hbm, ⟨18, _⟩ => ⟨S20480x2816, .f32⟩
  | .hbm, ⟨19, _⟩ => ⟨S20480x2816, .f32⟩
  | .hbm, ⟨20, _⟩ => ⟨S20480x1024, .f32⟩
  | .hbm, ⟨21, _⟩ => ⟨S1x5x1x1x1024, .f32⟩
  | .hbm, ⟨22, _⟩ => ⟨S5x1x1024, .f32⟩
  | .hbm, ⟨23, _⟩ => ⟨S5x4096x1024, .f32⟩
  | .hbm, ⟨24, _⟩ => ⟨S20480x1024, .f32⟩
  | .hbm, ⟨25, _⟩ => ⟨S_, .f32⟩
  | .hbm, ⟨26, _⟩ => ⟨S20480, .f32⟩
  | .hbm, ⟨27, _⟩ => ⟨S20480x1, .f32⟩
  | .hbm, ⟨28, _⟩ => ⟨S_, .f32⟩
  | .hbm, ⟨29, _⟩ => ⟨S20480x1, .f32⟩
  | .hbm, ⟨30, _⟩ => ⟨S20480x1, .f32⟩
  | .hbm, ⟨31, _⟩ => ⟨S_, .f32⟩
  | .hbm, ⟨32, _⟩ => ⟨S20480x1, .f32⟩
  | .hbm, ⟨33, _⟩ => ⟨S20480x1, .f32⟩
  | .hbm, ⟨34, _⟩ => ⟨S20480x1, .f32⟩
  | .hbm, ⟨35, _⟩ => ⟨S20480x1024, .f32⟩
  | .hbm, ⟨36, _⟩ => ⟨S20480x1024, .f32⟩
  | .hbm, ⟨37, _⟩ => ⟨S20480x1024, .f32⟩
  | .hbm, ⟨38, _⟩ => ⟨S20480x1024, .f32⟩
  | .hbm, ⟨39, _⟩ => ⟨S5x4096x1024, .f32⟩
  | .hbm, ⟨40, _⟩ => ⟨S5x4096x1024, .f32⟩
  | .hbm, ⟨41, _⟩ => ⟨S5x4096x1024, .f32⟩
  | .hbm, ⟨42, _⟩ => ⟨S5x4096x1024, .f32⟩
  | .hbm, ⟨43, _⟩ => ⟨S20480x1024, .f32⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel4.lean ====
abbrev S40960x1024 : Shape := ⟨2, ![40960, 1024]⟩
abbrev S20480x128 : Shape := ⟨2, ![20480, 128]⟩
abbrev S20480x1024 : Shape := ⟨2, ![20480, 1024]⟩
abbrev S2x8x6x1x1024 : Shape := ⟨5, ![2, 8, 6, 1, 1024]⟩
abbrev S1x1024 : Shape := ⟨2, ![1, 1024]⟩
abbrev S4096x1024 : Shape := ⟨2, ![4096, 1024]⟩
abbrev S512x1024 : Shape := ⟨2, ![512, 1024]⟩
abbrev S512x128 : Shape := ⟨2, ![512, 128]⟩
abbrev S1x1x1x1x1024 : Shape := ⟨5, ![1, 1, 1, 1, 1024]⟩
abbrev S512x1 : Shape := ⟨2, ![512, 1]⟩
abbrev S512 : Shape := ⟨1, ![512]⟩

abbrev nBuf : Space → Nat
  | .hbm => 6
  | .vmem => 13
  | .smem => 0
  | _ => 0

abbrev bufTy : (tb : Table) → Fin (tcTables nBuf tb) → BufTy
  | .hbm, ⟨0, _⟩ => ⟨S40960x1024, .f32⟩
  | .hbm, ⟨1, _⟩ => ⟨S20480x128, .f32⟩
  | .hbm, ⟨2, _⟩ => ⟨S20480x1024, .f32⟩
  | .hbm, ⟨3, _⟩ => ⟨S2x8x6x1x1024, .f32⟩
  | .hbm, ⟨4, _⟩ => ⟨S1x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S512x1024, .f32⟩
  | .local _ .vmem, ⟨12, _⟩ => ⟨S512x1024, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 32 := Scalar.divsi v0 c8_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32 c0_i32_2
  let v8 : BitVec 32 := Scalar.extui v7
  let c0_i32_3 : BitVec 32 := 0#32
  let v9 : BitVec 1 := Scalar.cmpi .slt c8_i32 c0_i32_3
  let v10 : BitVec 32 := Scalar.extui v9
  let v11 : BitVec 32 := Scalar.subi v8 v10
  let v12 : BitVec 1 := Scalar.cmpi .ne v6 v11
  let v13 : BitVec 32 := Scalar.remsi v0 c8_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c5_i32 : BitVec 32 := 5#32
  let c0_i32_6 : BitVec 32 := 0#32
  let c0_i32_7 : BitVec 32 := 0#32
  let c0_i32_8 : BitVec 32 := 0#32
  ![c1_i32_5.toNat, v17.toNat, c5_i32.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S40960x1024 : Shape := ⟨2, ![40960, 1024]⟩
abbrev S20480x128 : Shape := ⟨2, ![20480, 128]⟩
abbrev S20480x1024 : Shape := ⟨2, ![20480, 1024]⟩
abbrev S2x8x6x1x1024 : Shape := ⟨5, ![2, 8, 6, 1, 1024]⟩
abbrev S1x1024 : Shape := ⟨2, ![1, 1024]⟩
abbrev S4096x1024 : Shape := ⟨2, ![4096, 1024]⟩
abbrev S4096x1 : Shape := ⟨2, ![4096, 1]⟩
abbrev S1x1x1x1x1024 : Shape := ⟨5, ![1, 1, 1, 1, 1024]⟩
abbrev S_ : Shape := ⟨0, ![]⟩
abbrev S4096 : Shape := ⟨1, ![4096]⟩

abbrev nBuf : Space → Nat
  | .hbm => 35
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S20480x128, .f32⟩
  | .hbm, ⟨2, _⟩ => ⟨S20480x1024, .f32⟩
  | .hbm, ⟨3, _⟩ => ⟨S2x8x6x1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1, .f32⟩
  | .hbm, ⟨8, _⟩ => ⟨S4096x1024, .f32⟩
  | .hbm, ⟨9, _⟩ => ⟨S4096x1024, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1x1x1x1024, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel5.lean ====
abbrev S40960x1024 : Shape := ⟨2, ![40960, 1024]⟩
abbrev S20480x128 : Shape := ⟨2, ![20480, 128]⟩
abbrev S20480x1024 : Shape := ⟨2, ![20480, 1024]⟩
abbrev S2x8x6x1x1024 : Shape := ⟨5, ![2, 8, 6, 1, 1024]⟩
abbrev S1x1024 : Shape := ⟨2, ![1, 1024]⟩
abbrev S16384x1024 : Shape := ⟨2, ![16384, 1024]⟩
abbrev S512x1024 : Shape := ⟨2, ![512, 1024]⟩
abbrev S512x128 : Shape := ⟨2, ![512, 128]⟩
abbrev S1x1x1x1x1024 : Shape := ⟨5, ![1, 1, 1, 1, 1024]⟩
abbrev S512x1 : Shape := ⟨2, ![512, 1]⟩
abbrev S512 : Shape := ⟨1, ![512]⟩

abbrev nBuf : Space → Nat
  | .hbm => 6
  | .vmem => 13
  | .smem => 0
  | _ => 0

abbrev bufTy : (tb : Table) → Fin (tcTables nBuf tb) → BufTy
  | .hbm, ⟨0, _⟩ => ⟨S40960x1024, .f32⟩
  | .hbm, ⟨1, _⟩ => ⟨S20480x128, .f32⟩
  | .hbm, ⟨2, _⟩ => ⟨S20480x1024, .f32⟩
  | .hbm, ⟨3, _⟩ => ⟨S2x8x6x1x1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S512x1024, .f32⟩
  | .local _ .vmem, ⟨12, _⟩ => ⟨S512x1024, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c8_i32 : BitVec 32 := 8#32
  let v0 : BitVec 32 := Scalar.addi c8_i32 arg0
  let c8_i32_0 : BitVec 32 := 8#32
  let v1 : BitVec 32 := Scalar.divsi v0 c8_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32_0 c0_i32_2
  let v8 : BitVec 32 := Scalar.extui v7
  let c0_i32_3 : BitVec 32 := 0#32
  let v9 : BitVec 1 := Scalar.cmpi .slt c8_i32_0 c0_i32_3
  let v10 : BitVec 32 := Scalar.extui v9
  let v11 : BitVec 32 := Scalar.subi v8 v10
  let v12 : BitVec 1 := Scalar.cmpi .ne v6 v11
  let v13 : BitVec 32 := Scalar.remsi v0 c8_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c5_i32 : BitVec 32 := 5#32
  let c0_i32_6 : BitVec 32 := 0#32
  let c0_i32_7 : BitVec 32 := 0#32
  let c0_i32_8 : BitVec 32 := 0#32
  ![c1_i32_5.toNat, v17.toNat, c5_i32.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S40960x1024 : Shape := ⟨2, ![40960, 1024]⟩
abbrev S20480x128 : Shape := ⟨2, ![20480, 128]⟩
abbrev S20480x1024 : Shape := ⟨2, ![20480, 1024]⟩
abbrev S2x8x6x1x1024 : Shape := ⟨5, ![2, 8, 6, 1, 1024]⟩
abbrev S1x1024 : Shape := ⟨2, ![1, 1024]⟩
abbrev S16384x1024 : Shape := ⟨2, ![16384, 1024]⟩
abbrev S16384x1 : Shape := ⟨2, ![16384, 1]⟩
abbrev S_ : Shape := ⟨0, ![]⟩
abbrev S16384 : Shape := ⟨1, ![16384]⟩
abbrev S4x4096x1024 : Shape := ⟨3, ![4, 4096, 1024]⟩
abbrev S1x4x1x1x1024 : Shape := ⟨5, ![1, 4, 1, 1, 1024]⟩
abbrev S4x1x1024 : Shape := ⟨3, ![4, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S20480x128, .f32⟩
  | .hbm, ⟨2, _⟩ => ⟨S20480x1024, .f32⟩
  | .hbm, ⟨3, _⟩ => ⟨S2x8x6x1x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1, .f32⟩
  | .hbm, ⟨8, _⟩ => ⟨S16384x1024, .f32⟩
  | .hbm, ⟨9, _⟩ => ⟨S16384x1024, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S4x4096x1024, .f32⟩
  | .hbm, ⟨30, _⟩ => ⟨S16384x1024, .f32⟩
  | .hbm, ⟨31, _⟩ => ⟨S4x4096x1024, .f32⟩
  | .hbm, ⟨32, _⟩ => ⟨S1x4x1x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S16384x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel6.lean ====
abbrev S4096x512 : Shape := ⟨2, ![4096, 512]⟩
abbrev S16384x512 : Shape := ⟨2, ![16384, 512]⟩
abbrev S1024x1024 : Shape := ⟨2, ![1024, 1024]⟩
abbrev S4096x1024 : Shape := ⟨2, ![4096, 1024]⟩
abbrev S16384x1024 : Shape := ⟨2, ![16384, 1024]⟩
abbrev S2x8x6x1x1024 : Shape := ⟨5, ![2, 8, 6, 1, 1024]⟩
abbrev S1x1024 : Shape := ⟨2, ![1, 1024]⟩
abbrev S20480x1024 : Shape := ⟨2, ![20480, 1024]⟩
abbrev S512x512 : Shape := ⟨2, ![512, 512]⟩
abbrev S512x1024 : Shape := ⟨2, ![512, 1024]⟩
abbrev S1x1x1x1x1024 : Shape := ⟨5, ![1, 1, 1, 1, 1024]⟩
abbrev S512 : Shape := ⟨1, ![512]⟩
abbrev S512x1 : Shape := ⟨2, ![512, 1]⟩

abbrev nBuf : Space → Nat
  | .hbm => 13
  | .vmem => 25
  | .smem => 0
  | _ => 0

abbrev bufTy : (tb : Table) → Fin (tcTables nBuf tb) → BufTy
  | .hbm, ⟨0, _⟩ => ⟨S4096x512, .bf16⟩
  | .hbm, ⟨1, _⟩ => ⟨S16384x512, .bf16⟩
  | .hbm, ⟨2, _⟩ => ⟨S4096x512, .bf16⟩
  | .hbm, ⟨3, _⟩ => ⟨S16384x512, .bf16⟩
  | .hbm, ⟨4, _⟩ => ⟨S1024x1024, .f32⟩
  | .hbm, ⟨5, _⟩ => ⟨S4096x1024, .f32⟩
  | .hbm, ⟨6, _⟩ => ⟨S16384x1024, .f32⟩
  | .hbm, ⟨7, _⟩ => ⟨S2x8x6x1x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S20480x1024, .f32⟩
  | .hbm, ⟨12, _⟩ => ⟨S20480x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1x1x1x1024, .f32⟩
  | .local _ .vmem, ⟨15, _⟩ => ⟨S1x1x1x1x1024, .f32⟩
  | .local _ .vmem, ⟨16, _⟩ => ⟨S1x1024, .f32⟩
  | .local _ .vmem, ⟨17, _⟩ => ⟨S1x1x1x1x1024, .f32⟩
  | .local _ .vmem, ⟨18, _⟩ => ⟨S1x1x1x1x1024, .f32⟩
  | .local _ .vmem, ⟨19, _⟩ => ⟨S1x1x1x1x1024, .f32⟩
  | .local _ .vmem, ⟨20, _⟩ => ⟨S1x1x1x1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, v16.toNat, c2_i32.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  let c0_i32_6 : BitVec 32 := 0#32
  let c0_i32_7 : BitVec 32 := 0#32
  ![c0_i32_4.toNat, v16.toNat, c3_i32.toNat, c0_i32_5.toNat, c0_i32_6.toNat]

def cc0_transform_11 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  let c0_i32_6 : BitVec 32 := 0#32
  let c0_i32_7 : BitVec 32 := 0#32
  ![c0_i32_4.toNat, v16.toNat, c4_i32.toNat, c0_i32_5.toNat, c0_i32_6.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S4096x512 : Shape := ⟨2, ![4096, 512]⟩
abbrev S16384x512 : Shape := ⟨2, ![16384, 512]⟩
abbrev S1024x1024 : Shape := ⟨2, ![1024, 1024]⟩
abbrev S4096x1024 : Shape := ⟨2, ![4096, 1024]⟩
abbrev S16384x1024 : Shape := ⟨2, ![16384, 1024]⟩
abbrev S2x8x6x1x1024 : Shape := ⟨5, ![2, 8, 6, 1, 1024]⟩
abbrev S1x1024 : Shape := ⟨2, ![1, 1024]⟩
abbrev S20480x512 : Shape := ⟨2, ![20480, 512]⟩
abbrev S1x5x6x1x1024 : Shape := ⟨5, ![1, 5, 6, 1, 1024]⟩
abbrev S5x6x1x1024 : Shape := ⟨4, ![5, 6, 1, 1024]⟩
abbrev S20480x1024 : Shape := ⟨2, ![20480, 1024]⟩
abbrev S5x4096x1024 : Shape := ⟨3, ![5, 4096, 1024]⟩
abbrev S5x1x1x1024 : Shape := ⟨4, ![5, 1, 1, 1024]⟩
abbrev S5x1x1024 : Shape := ⟨3, ![5, 1, 1024]⟩
abbrev S_ : Shape := ⟨0, ![]⟩
abbrev S20480 : Shape := ⟨1, ![20480]⟩
abbrev S20480x1 : Shape := ⟨2, ![20480, 1]⟩
abbrev S5x4096 : Shape := ⟨2, ![5, 4096]⟩
abbrev S5x4096x1 : Shape := ⟨3, ![5, 4096, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S16384x512, .bf16⟩
  | .hbm, ⟨2, _⟩ => ⟨S4096x512, .bf16⟩
  | .hbm, ⟨3, _⟩ => ⟨S16384x512, .bf16⟩
  | .hbm, ⟨4, _⟩ => ⟨S1024x1024, .f32⟩
  | .hbm, ⟨5, _⟩ => ⟨S4096x1024, .f32⟩
  | .hbm, ⟨6, _⟩ => ⟨S16384x1024, .f32⟩
  | .hbm, ⟨7, _⟩ => ⟨S2x8x6x1x1024, .f32⟩
  | .hbm, ⟨8, _⟩ => ⟨S1x1024, .f32⟩
  | .hbm, ⟨9, _⟩ => ⟨S1x1024, .f32⟩
  | .hbm, ⟨10, _⟩ => ⟨S20480x512, .bf16⟩
  | .hbm, ⟨11, _⟩ => ⟨S20480x512, .f32⟩
  | .hbm, ⟨12, _⟩ => ⟨S20480x512, .bf16⟩
  | .hbm, ⟨13, _⟩ => ⟨S20480x512, .f32⟩
  | .hbm, ⟨14, _⟩ => ⟨S1x5x6x1x1024, .f32⟩
  | .hbm, ⟨15, _⟩ => ⟨S5x6x1x1024, .f32⟩
  | .hbm, ⟨16, _⟩ => ⟨S20480x1024, .f32⟩
  | .hbm, ⟨17, _⟩ => ⟨S20480x1024, .f32⟩
  | .hbm, ⟨18, _⟩ => ⟨S20480x1024, .f32⟩
  | .hbm, ⟨19, _⟩ => ⟨S5x4096x1024, .f32⟩
  | .hbm, ⟨20, _⟩ => ⟨S5x1x1x1024, .f32⟩
  | .hbm, ⟨21, _⟩ => ⟨S5x1x1024, .f32⟩
  | .hbm, ⟨22, _⟩ => ⟨S20480x1024, .f32⟩
  | .hbm, ⟨23, _⟩ => ⟨S_, .f32⟩
  | .hbm, ⟨24, _⟩ => ⟨S20480, .f32⟩
  | .hbm, ⟨25, _⟩ => ⟨S20480x1, .f32⟩
  | .hbm, ⟨26, _⟩ => ⟨S_, .f32⟩
  | .hbm, ⟨27, _⟩ => ⟨S20480x1, .f32⟩
  | .hbm, ⟨28, _⟩ => ⟨S20480x1, .f32⟩
  | .hbm, ⟨29, _⟩ => ⟨S_, .f32⟩
  | .hbm, ⟨30, _⟩ => ⟨S20480x1, .f32⟩
  | .hbm, ⟨31, _⟩ => ⟨S20480x1, .f32⟩
  | .hbm, ⟨32, _⟩ => ⟨S20480x1, .f32⟩
  | .hbm, ⟨33, _⟩ => ⟨S20480x1024, .f32⟩
  | .hbm, ⟨34, _⟩ => ⟨S20480x1024, .f32⟩
  | .hbm, ⟨35, _⟩ => ⟨S20480x1024, .f32⟩
  | .hbm, ⟨36, _⟩ => ⟨S20480x1024, .f32⟩
  | .hbm, ⟨37, _⟩ => ⟨S5x4096x1024, .f32⟩
  | .hbm, ⟨38, _⟩ => ⟨S5x4096x1024, .f32⟩
  | .hbm, ⟨39, _⟩ => ⟨S5x4096x1024, .f32⟩
  | .hbm, ⟨40, _⟩ => ⟨S5x4096x1024, .f32⟩
  | .hbm, ⟨41, _⟩ => ⟨S5x4096x1024, .f32⟩
  | .hbm, ⟨42, _⟩ => ⟨S_, .f32⟩
  | .hbm, ⟨43, _⟩ => ⟨S5x4096, .f32⟩
  | .hbm, ⟨44, _⟩ => ⟨S5x4096x1, .f32⟩
  | .hbm, ⟨45, _⟩ => ⟨S_, .f32⟩
  | .hbm, ⟨46, _⟩ => ⟨S5x4096x1, .f32⟩
  | .hbm, ⟨47, _⟩ => ⟨S5x4096x1, .f32⟩
  | .hbm, ⟨48, _⟩ => ⟨S_, .f32⟩
  | .hbm, ⟨49, _⟩ => ⟨S5x4096x1, .f32⟩
  | .hbm, ⟨50, _⟩ => ⟨S5x4096x1, .f32⟩
  | .hbm, ⟨51, _⟩ => ⟨S5x4096x1, .f32⟩
  | .hbm, ⟨52, _⟩ => ⟨S5x4096x1024, .f32⟩
  | .hbm, ⟨53, _⟩ => ⟨S5x4096x1024, .f32⟩
  | .hbm, ⟨54, _⟩ => ⟨S1x1x1024, .f32⟩
  | .hbm, ⟨55, _⟩ => ⟨S5x4096x1024, .f32⟩
  | .hbm, ⟨56, _⟩ => ⟨S5x4096x1024, .f32⟩
  | .hbm, ⟨57, _⟩ => ⟨S5x1x1x1024, .f32⟩
  | .hbm, ⟨58, _⟩ => ⟨S5x1x1024, .f32⟩
  | .hbm, ⟨59, _⟩ => ⟨S_, .f32⟩
  | .hbm, ⟨60, _⟩ => ⟨S5x1x1024, .f32⟩
  | .hbm, ⟨61, _⟩ => ⟨S5x1x1024, .f32⟩
  | .hbm, ⟨62, _⟩ => ⟨S5x4096x1024, .f32⟩
  | .hbm, ⟨63, _⟩ => ⟨S5x4096x1024, .f32⟩
  | .hbm, ⟨64, _⟩ => ⟨S5x1x1x1024, .f32⟩
  | .hbm, ⟨65, _⟩ => ⟨S5x1x1024, .f32⟩
  | .hbm, ⟨66, _⟩ => ⟨S5x4096x1024, .f32⟩
  | .hbm, ⟨67, _⟩ => ⟨S5x4096x1024, .f32⟩
  | .hbm, ⟨68, _⟩ => ⟨S20480x1024, .f32⟩
  | .hbm, ⟨69, _⟩ => ⟨S20480x1024, .f32⟩
  | .hbm, ⟨70, _⟩ => ⟨S20480x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel7.lean ====
abbrev S4096x1024 : Shape := ⟨2, ![4096, 1024]⟩
abbrev S16384x1024 : Shape := ⟨2, ![16384, 1024]⟩
abbrev S2x8x6x1x1024 : Shape := ⟨5, ![2, 8, 6, 1, 1024]⟩
abbrev S1x1024 : Shape := ⟨2, ![1, 1024]⟩
abbrev S1024x2240 : Shape := ⟨2, ![1024, 2240]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16x256 : Shape := ⟨2, ![16, 256]⟩
abbrev S4096x32 : Shape := ⟨2, ![4096, 32]⟩
abbrev S256x256 : Shape := ⟨2, ![256, 256]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x16 : Shape := ⟨2, ![1024, 16]⟩
abbrev S_ : Shape := ⟨0, ![]⟩
abbrev S1024x2x2x8 : Shape := ⟨4, ![1024, 2, 2, 8]⟩
abbrev S1024x2x1x8 : Shape := ⟨4, ![1024, 2, 1, 8]⟩
abbrev S1024x2x8 : Shape := ⟨3, ![1024, 2, 8]⟩
abbrev S1024x2304 : Shape := ⟨2, ![1024, 2304]⟩
abbrev S384x8x96 : Shape := ⟨3, ![384, 8, 96]⟩
abbrev S384x8x64 : Shape := ⟨3, ![384, 8, 64]⟩
abbrev S384x8x32 : Shape := ⟨3, ![384, 8, 32]⟩
abbrev S384x256 : Shape := ⟨2, ![384, 256]⟩
abbrev S384x16x2x8 : Shape := ⟨4, ![384, 16, 2, 8]⟩
abbrev S384x16x1x8 : Shape := ⟨4, ![384, 16, 1, 8]⟩
abbrev S384x16x8 : Shape := ⟨3, ![384, 16, 8]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x4x128 : Shape := ⟨3, ![256, 4, 128]⟩
abbrev S256x4x256 : Shape := ⟨3, ![256, 4, 256]⟩
abbrev S128 : Shape := ⟨1, ![128]⟩
abbrev S1x256 : Shape := ⟨2, ![1, 256]⟩
abbrev S4x256 : Shape := ⟨2, ![4, 256]⟩
abbrev S1024 : Shape := ⟨1, ![1024]⟩
abbrev S32x64 : Shape := ⟨2, ![32, 64]⟩
abbrev S32x32 : Shape := ⟨2, ![32, 32]⟩
abbrev S32x128 : Shape := ⟨2, ![32, 128]⟩
abbrev S1x32x1x128 : Shape := ⟨4, ![1, 32, 1, 128]⟩
abbrev S1x32x8x128 : Shape := ⟨4, ![1, 32, 8, 128]⟩
abbrev S32x1024 : Shape := ⟨2, ![32, 1024]⟩
abbrev S1x384 : Shape := ⟨2, ![1, 384]⟩
abbrev S384x2048 : Shape := ⟨2, ![384, 2048]⟩
abbrev S128x256 : Shape := ⟨2, ![128, 256]⟩
abbrev S1 : Shape := ⟨1, ![1]⟩
abbrev S4096x64 : Shape := ⟨2, ![4096, 64]⟩
abbrev S4096x128 : Shape := ⟨2, ![4096, 128]⟩
abbrev S512x128 : Shape := ⟨2, ![512, 128]⟩
abbrev S4608x128 : Shape := ⟨2, ![4608, 128]⟩
abbrev S512x32 : Shape := ⟨2, ![512, 32]⟩
abbrev S4608x32 : Shape := ⟨2, ![4608, 32]⟩
abbrev S20480x1024 : Shape := ⟨2, ![20480, 1024]⟩
abbrev S20480x256 : Shape := ⟨2, ![20480, 256]⟩
abbrev S20480x32 : Shape := ⟨2, ![20480, 32]⟩
abbrev S20480x512 : Shape := ⟨2, ![20480, 512]⟩
abbrev S512x1024 : Shape := ⟨2, ![512, 1024]⟩
abbrev S1x1x1x1x1024 : Shape := ⟨5, ![1, 1, 1, 1, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x2304 : Shape := ⟨2, ![512, 2304]⟩
abbrev S512x384 : Shape := ⟨2, ![512, 384]⟩
abbrev S512x2048 : Shape := ⟨2, ![512, 2048]⟩

abbrev nBuf : Space → Nat
  | .hbm => 155
  | .vmem => 53
  | .smem => 0
  | _ => 0

abbrev hbmTy0_0 (i : Nat) : BufTy := match i % 128 with
  | 0 => ⟨S4096x1024, .f32⟩
  | 1 => ⟨S16384x1024, .f32⟩
  | 2 => ⟨S2x8x6x1x1024, .f32⟩
  | 3 => ⟨S1x1024, .f32⟩
  | 4 => ⟨S1024x2240, .f32⟩
  | 5 => ⟨S384, .f32⟩
  | 6 => ⟨S384x768, .f32⟩
  | 7 => ⟨S256, .f32⟩
  | 8 => ⟨S256x1024, .f32⟩
  | 9 => ⟨S16x256, .f32⟩
  | 10 => ⟨S256, .f32⟩
  | 11 => ⟨S16x256, .f32⟩
  | 12 => ⟨S256, .f32⟩
  | 13 => ⟨S4096x32, .f32⟩
  | 14 => ⟨S4096x32, .f32⟩
  | 15 => ⟨S256x256, .bf16⟩
  | 16 => ⟨S256x256, .bf16⟩
  | 17 => ⟨S1024x384, .f32⟩
  | 18 => ⟨S1024x256, .f32⟩
  | 19 => ⟨S1024x32, .f32⟩
  | 20 => ⟨S1024x256, .f32⟩
  | 21 => ⟨S1024x256, .f32⟩
  | 22 => ⟨S1024x512, .f32⟩
  | 23 => ⟨S1024x512, .f32⟩
  | 24 => ⟨S1024x16, .f32⟩
  | 25 => ⟨S1024x16, .f32⟩
  | 26 => ⟨S_, .f32⟩
  | 27 => ⟨S1024x32, .f32⟩
  | 28 => ⟨S1024x2x2x8, .f32⟩
  | 29 => ⟨S1024x2x1x8, .f32⟩
  | 30 => ⟨S1024x2x8, .f32⟩
  | 31 => ⟨S1024x2x8, .f32⟩
  | 32 => ⟨S1024x2x1x8, .f32⟩
  | 33 => ⟨S1024x2x8, .f32⟩
  | 34 => ⟨S1024x2x1x8, .f32⟩
  | 35 => ⟨S1024x2x1x8, .f32⟩
  | 36 => ⟨S1024x2x2x8, .f32⟩
  | 37 => ⟨S1024x32, .f32⟩
  | 38 => ⟨S1024x2304, .f32⟩
  | 39 => ⟨S384x8x96, .f32⟩
  | 40 => ⟨S384x8x64, .f32⟩
  | 41 => ⟨S384x8x32, .f32⟩
  | 42 => ⟨S384x256, .f32⟩
  | 43 => ⟨S384x16x2x8, .f32⟩
  | 44 => ⟨S384x16x1x8, .f32⟩
  | 45 => ⟨S384x16x8, .f32⟩
  | 46 => ⟨S384x16x8, .f32⟩
  | 47 => ⟨S384x16x1x8, .f32⟩
  | 48 => ⟨S384x16x8, .f32⟩
  | 49 => ⟨S384x16x1x8, .f32⟩
  | 50 => ⟨S384x16x1x8, .f32⟩
  | 51 => ⟨S384x16x2x8, .f32⟩
  | 52 => ⟨S384x256, .f32⟩
  | 53 => ⟨S384x8x32, .f32⟩
  | 54 => ⟨S_, .f32⟩
  | 55 => ⟨S384x8x32, .f32⟩
  | 56 => ⟨S384x8x128, .f32⟩
  | 57 => ⟨S384x1024, .f32⟩
  | 58 => ⟨S_, .f32⟩
  | 59 => ⟨S384x8x64, .f32⟩
  | 60 => ⟨S384x8x64, .f32⟩
  | 61 => ⟨S384x8x128, .f32⟩
  | 62 => ⟨S384x1024, .f32⟩
  | 63 => ⟨S256x8x128, .f32⟩
  | 64 => ⟨S256x8x64, .f32⟩
  | 65 => ⟨S256x8x64, .f32⟩
  | 66 => ⟨S_, .f32⟩
  | 67 => ⟨S256x8x64, .f32⟩
  | 68 => ⟨S256x8x128, .f32⟩
  | 69 => ⟨S256x1024, .f32⟩
  | 70 => ⟨S256x4x128, .f32⟩
  | 71 => ⟨S_, .f32⟩
  | 72 => ⟨S256x4x128, .f32⟩
  | 73 => ⟨S256x4x256, .f32⟩
  | 74 => ⟨S256x1024, .f32⟩
  | 75 => ⟨S_, .f32⟩
  | 76 => ⟨S128, .f32⟩
  | 77 => ⟨S_, .f32⟩
  | 78 => ⟨S128, .f32⟩
  | 79 => ⟨S256, .f32⟩
  | 80 => ⟨S1x256, .f32⟩
  | 81 => ⟨S4x256, .f32⟩
  | 82 => ⟨S1024, .f32⟩
  | 83 => ⟨S1x1024, .f32⟩
  | 84 => ⟨S_, .f32⟩
  | 85 => ⟨S32x64, .f32⟩
  | 86 => ⟨S32x32, .i32⟩
  | 87 => ⟨S32x32, .i32⟩
  | 88 => ⟨S_, .i32⟩
  | 89 => ⟨S32x32, .i32⟩
  | 90 => ⟨S32x32, .i32⟩
  | 91 => ⟨S32x32, .i1⟩
  | 92 => ⟨S32x32, .f32⟩
  | 93 => ⟨S_, .f32⟩
  | 94 => ⟨S32x32, .f32⟩
  | 95 => ⟨S32x128, .f32⟩
  | 96 => ⟨S1x32x1x128, .f32⟩
  | 97 => ⟨S1x32x8x128, .f32⟩
  | 98 => ⟨S32x1024, .f32⟩
  | 99 => ⟨S1024x2304, .bf16⟩
  | 100 => ⟨S1x384, .f32⟩
  | 101 => ⟨S384x2048, .f32⟩
  | 102 => ⟨S384x2048, .bf16⟩
  | 103 => ⟨S1x256, .f32⟩
  | 104 => ⟨S256x1024, .bf16⟩
  | 105 => ⟨S256x1024, .bf16⟩
  | 106 => ⟨S32x1024, .bf16⟩
  | 107 => ⟨S_, .f32⟩
  | 108 => ⟨S128x256, .f32⟩
  | 109 => ⟨S_, .i32⟩
  | 110 => ⟨S1, .i32⟩
  | 111 => ⟨S128x256, .f32⟩
  | 112 => ⟨S128x256, .bf16⟩
  | 113 => ⟨S1x256, .f32⟩
  | 114 => ⟨S_, .f32⟩
  | 115 => ⟨S128x256, .f32⟩
  | 116 => ⟨S_, .i32⟩
  | 117 => ⟨S1, .i32⟩
  | 118 => ⟨S128x256, .f32⟩
  | 119 => ⟨S128x256, .bf16⟩
  | 120 => ⟨S1x256, .f32⟩
  | 121 => ⟨S_, .f32⟩
  | 122 => ⟨S4096x64, .f32⟩
  | 123 => ⟨S_, .f32⟩
  | 124 => ⟨S4096x32, .f32⟩
  | 125 => ⟨S4096x128, .f32⟩
  | 126 => ⟨S_, .f32⟩
  | 127 => ⟨S512x128, .f32⟩
  | _ => ⟨S4096x1024, .f32⟩

abbrev hbmTy0_1 (i : Nat) : BufTy := match i % 128 with
  | 0 => ⟨S4608x128, .f32⟩
  | 1 => ⟨S_, .f32⟩
  | 2 => ⟨S4096x64, .f32⟩
  | 3 => ⟨S_, .f32⟩
  | 4 => ⟨S4096x32, .f32⟩
  | 5 => ⟨S4096x128, .f32⟩
  | 6 => ⟨S_, .f32⟩
  | 7 => ⟨S512x128, .f32⟩
  | 8 => ⟨S4608x128, .f32⟩
  | 9 => ⟨S_, .f32⟩
  | 10 => ⟨S512x32, .f32⟩
  | 11 => ⟨S4608x32, .f32⟩
  | 12 => ⟨S_, .f32⟩
  | 13 => ⟨S512x32, .f32⟩
  | 14 => ⟨S4608x32, .f32⟩
  | 15 => ⟨S20480x1024, .bf16⟩
  | 16 => ⟨S20480x1024, .bf16⟩
  | 17 => ⟨S20480x1024, .bf16⟩
  | 18 => ⟨S20480x256, .f32⟩
  | 19 => ⟨S20480x32, .f32⟩
  | 20 => ⟨S20480x256, .f32⟩
  | 21 => ⟨S20480x256, .f32⟩
  | 22 => ⟨S20480x512, .bf16⟩
  | 23 => ⟨S20480x512, .f32⟩
  | 24 => ⟨S20480x256, .f32⟩
  | 25 => ⟨S20480x256, .f32⟩
  | 26 => ⟨S4096x32, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1024x2304, .bf16⟩
  | .local _ .vmem, ⟨10, _⟩ => ⟨S1x384, .f32⟩
  | .local _ .vmem, ⟨11, _⟩ => ⟨S384x2048, .bf16⟩
  | .local _ .vmem, ⟨12, _⟩ => ⟨S1x256, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S32x1024, .bf16⟩
  | .local _ .vmem, ⟨17, _⟩ => ⟨S128x256, .bf16⟩
  | .local _ .vmem, ⟨18, _⟩ => ⟨S1x256, .f32⟩
  | .local _ .vmem, ⟨19, _⟩ => ⟨S128x256, .bf16⟩
  | .local _ .vmem, ⟨20, _⟩ => ⟨S1x256, .f32⟩
  | .local _ .vmem, ⟨21, _⟩ => ⟨S256x256, .bf16⟩
  | .local _ .vmem, ⟨22, _⟩ => ⟨S256x256, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x32, .f32⟩
  | .local _ .vmem, ⟨28, _⟩ => ⟨S512x32, .f32⟩
  | .local _ .vmem, ⟨29, _⟩ => ⟨S512x32, .f32⟩
  | .local _ .vmem, ⟨30, _⟩ => ⟨S512x32, .f32⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x256, .f32⟩
  | .local _ .vmem, ⟨38, _⟩ => ⟨S512x256, .f32⟩
  | .local _ .vmem, ⟨39, _⟩ => ⟨S512x32, .f32⟩
  | .local _ .vmem, ⟨40, _⟩ => ⟨S512x32, .f32⟩
  | .local _ .vmem, ⟨41, _⟩ => ⟨S512x256, .f32⟩
  | .local _ .vmem, ⟨42, _⟩ => ⟨S512x256, .f32⟩
  | .local _ .vmem, ⟨43, _⟩ => ⟨S512x256, .f32⟩
  | .local _ .vmem, ⟨44, _⟩ => ⟨S512x256, .f32⟩
  | .local _ .vmem, ⟨45, _⟩ => ⟨S512x512, .bf16⟩
  | .local _ .vmem, ⟨46, _⟩ => ⟨S512x512, .bf16⟩
  | .local _ .vmem, ⟨47, _⟩ => ⟨S512x512, .f32⟩
  | .local _ .vmem, ⟨48, _⟩ => ⟨S512x512, .f32⟩
  | .local _ .vmem, ⟨49, _⟩ => ⟨S512x256, .f32⟩
  | .local _ .vmem, ⟨50, _⟩ => ⟨S512x256, .f32⟩
  | .local _ .vmem, ⟨51, _⟩ => ⟨S512x256, .f32⟩
  | .local _ .vmem, ⟨52, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_10 : Ref sig .tc := ⟨.hbm, 107, rfl⟩
abbrev main_v80 : Ref sig .tc := ⟨.hbm, 108, rfl⟩
abbrev main_c_11 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_12 : Ref sig .tc := ⟨.hbm, 114, rfl⟩
abbrev main_v85 : Ref sig .tc := ⟨.hbm, 115, rfl⟩
abbrev main_c_13 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_v90 : Ref sig .tc := ⟨.hbm, 122, rfl⟩
abbrev main_cst_15 : Ref sig .tc := ⟨.hbm, 123, rfl⟩
abbrev main_v91 : Ref sig .tc := ⟨.hbm, 124, rfl⟩
abbrev main_v92 : Ref sig .tc := ⟨.hbm, 125, rfl⟩
abbrev main_cst_16 : Ref sig .tc := ⟨.hbm, 126, rfl⟩
abbrev main_v93 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_cst_18 : Ref sig .tc := ⟨.hbm, 131, rfl⟩
abbrev main_v96 : Ref sig .tc := ⟨.hbm, 132, rfl⟩
abbrev main_v97 : Ref sig .tc := ⟨.hbm, 133, rfl⟩
abbrev main_cst_19 : Ref sig .tc := ⟨.hbm, 134, rfl⟩
abbrev main_v98 : Ref sig .tc := ⟨.hbm, 135, rfl⟩
abbrev main_v99 : Ref sig .tc := ⟨.hbm, 136, rfl⟩
abbrev main_cst_20 : Ref sig .tc := ⟨.hbm, 137, rfl⟩
abbrev main_v100 : Ref sig .tc := ⟨.hbm, 138, rfl⟩
abbrev main_v101 : Ref sig .tc := ⟨.hbm, 139, rfl⟩
abbrev main_cst_21 : Ref sig .tc := ⟨.hbm, 140, rfl⟩
abbrev main_v102 : Ref sig .tc := ⟨.hbm, 141, rfl⟩
abbrev main_v103 : Ref sig .tc := ⟨.hbm, 142, rfl⟩
abbrev main_v104_0 : Ref sig .tc := ⟨.hbm, 143, rfl⟩
abbrev main_v104_1 : Ref sig .tc := ⟨.hbm, 144, rfl⟩
abbrev main_v104_2 : Ref sig .tc := ⟨.hbm, 145, rfl⟩
abbrev main_v104_3 : Ref sig .tc := ⟨.hbm, 146, rfl⟩
abbrev main_v104_4 : Ref sig .tc := ⟨.hbm, 147, rfl⟩
abbrev main_v104_5 : Ref sig .tc := ⟨.hbm, 148, rfl⟩
abbrev main_v104_6 : Ref sig .tc := ⟨.hbm, 149, rfl⟩
abbrev main_v104_7 : Ref sig .tc := ⟨.hbm, 150, rfl⟩
abbrev main_v104_8 : Ref sig .tc := ⟨.hbm, 151, rfl⟩
abbrev main_v104_9 : Ref sig .tc := ⟨.hbm, 152, rfl⟩
abbrev main_v104_10 : Ref sig .tc := ⟨.hbm, 153, rfl⟩
abbrev main_v105 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg30_1 : Ref sig .tc := ⟨.vmem, 46, rfl⟩
abbrev cc0_stg31_0 : Ref sig .tc := ⟨.vmem, 47, rfl⟩
abbrev cc0_stg31_1 : Ref sig .tc := ⟨.vmem, 48, rfl⟩
abbrev cc0_stg32_0 : Ref sig .tc := ⟨.vmem, 49, rfl⟩
abbrev cc0_stg32_1 : Ref sig .tc := ⟨.vmem, 50, rfl⟩
abbrev cc0_stg33_0 : Ref sig .tc := ⟨.vmem, 51, rfl⟩
abbrev cc0_stg33_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42
abbrev cc0_sem29_0 : DmaSem sig := 43
abbrev cc0_sem29_1 : DmaSem sig := 44
abbrev cc0_sem30_0 : DmaSem sig := 45
abbrev cc0_sem30_1 : DmaSem sig := 46
abbrev cc0_sem31_0 : DmaSem sig := 47
abbrev cc0_sem31_1 : DmaSem sig := 48
abbrev cc0_sem32_0 : DmaSem sig := 49
abbrev cc0_sem32_1 : DmaSem sig := 50
abbrev cc0_sem33_0 : DmaSem sig := 51
abbrev cc0_sem33_1 : DmaSem sig := 52

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_4 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  ![v13.toNat, c0_i32_7.toNat]

def cc0_transform_20 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  ![v13.toNat, c0_i32_7.toNat]

def cc0_transform_21 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  ![v13.toNat, c0_i32_7.toNat]

def cc0_transform_22 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi c1_i32_5 v11
  let c0_i32_6 : BitVec 32 := 0#32
  let v13 : BitVec 32 := Scalar.select v0 c0_i32_6 v12
  let c0_i32_7 : BitVec 32 := 0#32
  let c0_i32_8 : BitVec 32 := 0#32
  ![v13.toNat, c0_i32_7.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x32 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x512 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S512x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S512x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]
-- ==== Reference7Ideal.lean ====
abbrev S4096x1024 : Shape := ⟨2, ![4096, 1024]⟩
abbrev S16384x1024 : Shape := ⟨2, ![16384, 1024]⟩
abbrev S2x8x6x1x1024 : Shape := ⟨5, ![2, 8, 6, 1, 1024]⟩
abbrev S1x1024 : Shape := ⟨2, ![1, 1024]⟩
abbrev S1024x2240 : Shape := ⟨2, ![1024, 2240]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16x256 : Shape := ⟨2, ![16, 256]⟩
abbrev S4096x32 : Shape := ⟨2, ![4096, 32]⟩
abbrev S20480x1024 : Shape := ⟨2, ![20480, 1024]⟩
abbrev S5x4096x1024 : Shape := ⟨3, ![5, 4096, 1024]⟩
abbrev S1x5x6x1x1024 : Shape := ⟨5, ![1, 5, 6, 1, 1024]⟩
abbrev S5x6x1x1024 : Shape := ⟨4, ![5, 6, 1, 1024]⟩
abbrev S_ : Shape := ⟨0, ![]⟩
abbrev S5x4096 : Shape := ⟨2, ![5, 4096]⟩
abbrev S5x4096x1 : Shape := ⟨3, ![5, 4096, 1]⟩
abbrev S1x1x1024 : Shape := ⟨3, ![1, 1, 1024]⟩
abbrev S5x1x1x1024 : Shape := ⟨4, ![5, 1, 1, 1024]⟩
abbrev S5x1x1024 : Shape := ⟨3, ![5, 1, 1024]⟩
abbrev S20480x2240 : Shape := ⟨2, ![20480, 2240]⟩
abbrev S20480x384 : Shape := ⟨2, ![20480, 384]⟩
abbrev S20480x256 : Shape := ⟨2, ![20480, 256]⟩
abbrev S20480x32 : Shape := ⟨2, ![20480, 32]⟩
abbrev S20480x512 : Shape := ⟨2, ![20480, 512]⟩
abbrev S20480x16 : Shape := ⟨2, ![20480, 16]⟩
abbrev S20480 : Shape := ⟨1, ![20480]⟩
abbrev S20480x1 : Shape := ⟨2, ![20480, 1]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S2x8x6x1x1024, .f32⟩
  | .hbm, ⟨3, _⟩ => ⟨S1x1024, .f32⟩
  | .hbm, ⟨4, _⟩ => ⟨S1024x2240, .f32⟩
  | .hbm, ⟨5, _⟩ => ⟨S384, .f32⟩
  | .hbm, ⟨6, _⟩ => ⟨S384x768, .f32⟩
  | .hbm, ⟨7, _⟩ => ⟨S256, .f32⟩
  | .hbm, ⟨8, _⟩ => ⟨S256x1024, .f32⟩
  | .hbm, ⟨9, _⟩ => ⟨S16x256, .f32⟩
  | .hbm, ⟨10, _⟩ => ⟨S256, .f32⟩
  | .hbm, ⟨11, _⟩ => ⟨S16x256, .f32⟩
  | .hbm, ⟨12, _⟩ => ⟨S256, .f32⟩
  | .hbm, ⟨13, _⟩ => ⟨S4096x32, .f32⟩
  | .hbm, ⟨14, _⟩ => ⟨S4096x32, .f32⟩
  | .hbm, ⟨15, _⟩ => ⟨S20480x1024, .f32⟩
  | .hbm, ⟨16, _⟩ => ⟨S5x4096x1024, .f32⟩
  | .hbm, ⟨17, _⟩ => ⟨S1x5x6x1x1024, .f32⟩
  | .hbm, ⟨18, _⟩ => ⟨S5x6x1x1024, .f32⟩
  | .hbm, ⟨19, _⟩ => ⟨S5x4096x1024, .f32⟩
  | .hbm, ⟨20, _⟩ => ⟨S_, .f32⟩
  | .hbm, ⟨21, _⟩ => ⟨S5x4096, .f32⟩
  | .hbm, ⟨22, _⟩ => ⟨S5x4096x1, .f32⟩
  | .hbm, ⟨23, _⟩ => ⟨S_, .f32⟩
  | .hbm, ⟨24, _⟩ => ⟨S5x4096x1, .f32⟩
  | .hbm, ⟨25, _⟩ => ⟨S5x4096x1, .f32⟩
  | .hbm, ⟨26, _⟩ => ⟨S_, .f32⟩
  | .hbm, ⟨27, _⟩ => ⟨S5x4096x1, .f32⟩
  | .hbm, ⟨28, _⟩ => ⟨S5x4096x1, .f32⟩
  | .hbm, ⟨29, _⟩ => ⟨S5x4096x1, .f32⟩
  | .hbm, ⟨30, _⟩ => ⟨S5x4096x1024, .f32⟩
  | .hbm, ⟨31, _⟩ => ⟨S5x4096x1024, .f32⟩
  | .hbm, ⟨32, _⟩ => ⟨S1x1x1024, .f32⟩
  | .hbm, ⟨33, _⟩ => ⟨S5x4096x1024, .f32⟩
  | .hbm, ⟨34, _⟩ => ⟨S5x4096x1024, .f32⟩
  | .hbm, ⟨35, _⟩ => ⟨S5x1x1x1024, .f32⟩
  | .hbm, ⟨36, _⟩ => ⟨S5x1x1024, .f32⟩
  | .hbm, ⟨37, _⟩ => ⟨S_, .f32⟩
  | .hbm, ⟨38, _⟩ => ⟨S5x1x1024, .f32⟩
  | .hbm, ⟨39, _⟩ => ⟨S5x1x1024, .f32⟩
  | .hbm, ⟨40, _⟩ => ⟨S5x4096x1024, .f32⟩
  | .hbm, ⟨41, _⟩ => ⟨S5x4096x1024, .f32⟩
  | .hbm, ⟨42, _⟩ => ⟨S5x1x1x1024, .f32⟩
  | .hbm, ⟨43, _⟩ => ⟨S5x1x1024, .f32⟩
  | .hbm, ⟨44, _⟩ => ⟨S5x4096x1024, .f32⟩
  | .hbm, ⟨45, _⟩ => ⟨S5x4096x1024, .f32⟩
  | .hbm, ⟨46, _⟩ => ⟨S20480x1024, .f32⟩
  | .hbm, ⟨47, _⟩ => ⟨S20480x2240, .f32⟩
  | .hbm, ⟨48, _⟩ => ⟨S20480x384, .f32⟩
  | .hbm, ⟨49, _⟩ => ⟨S20480x256, .f32⟩
  | .hbm, ⟨50, _⟩ => ⟨S20480x32, .f32⟩
  | .hbm, ⟨51, _⟩ => ⟨S20480x256, .f32⟩
  | .hbm, ⟨52, _⟩ => ⟨S20480x256, .f32⟩
  | .hbm, ⟨53, _⟩ => ⟨S20480x512, .f32⟩
  | .hbm, ⟨54, _⟩ => ⟨S20480x512, .f32⟩
  | .hbm, ⟨55, _⟩ => ⟨S20480x16, .f32⟩
  | .hbm, ⟨56, _⟩ => ⟨S20480x16, .f32⟩
  | .hbm, ⟨57, _⟩ => ⟨S20480x256, .f32⟩
  | .hbm, ⟨58, _⟩ => ⟨S_, .f32⟩
  | .hbm, ⟨59, _⟩ => ⟨S20480, .f32⟩
  | .hbm, ⟨60, _⟩ => ⟨S20480x1, .f32⟩
  | .hbm, ⟨61, _⟩ => ⟨S_, .f32⟩
  | .hbm, ⟨62, _⟩ => ⟨S20480x1, .f32⟩
  | .hbm, ⟨63, _⟩ => ⟨S20480x1, .f32⟩
  | .hbm, ⟨64, _⟩ => ⟨S_, .f32⟩
  | .hbm, ⟨65, _⟩ => ⟨S20480x1, .f32⟩
  | .hbm, ⟨66, _⟩ => ⟨S20480x1, .f32⟩
  | .hbm, ⟨67, _⟩ => ⟨S20480x1, .f32⟩
  | .hbm, ⟨68, _⟩ => ⟨S20480x256, .f32⟩
  | .hbm, ⟨69, _⟩ => ⟨S20480x256, .f32⟩
  | .hbm, ⟨70, _⟩ => ⟨S1x256, .f32⟩
  | .hbm, ⟨71, _⟩ => ⟨S20480x256, .f32⟩
  | .hbm, ⟨72, _⟩ => ⟨S20480x256, .f32⟩
  | .hbm, ⟨73, _⟩ => ⟨S4096x32, .f32⟩
  | .hbm, ⟨74, _⟩ => ⟨S_, .f32⟩
  | .hbm, ⟨75, _⟩ => ⟨S20480x256, .f32⟩
  | .hbm, ⟨76, _⟩ => ⟨S20480x256, .f32⟩
  | .hbm, ⟨77, _⟩ => ⟨S20480x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Proof.EvenIn.IdealFrame.lean ====
/- The frame of the program at extended reals: the whole run of its call, with what every window holds. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-- No host operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2040000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel7Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 4).trans (((dats 0 c).arrAt_in 4 rfl _).trans ((hA c 4).trans (V_main_arg2 m c))),
      ((h c).1 2).trans (((dats 0 c).arrAt_in 2 rfl _).trans ((hA c 2).trans (V_main_arg3 m c))),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c))⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1x1x1x1x1024 := Rect.unit (s := S1x1x1x1x1024) ![0, 0, 0, 0, 0] S1x1x1x1x1024.size inb_S1x1x1x1x1024_S1x1x1x1x1024_0_0_0_0_0
abbrev r0_3 : Rect S1024x2304 := Rect.unit (s := S1024x2304) ![0, 0] S1024x2304.size inb_S1024x2304_S1024x2304_0_0
abbrev r0_4 : Rect S1x384 := Rect.unit (s := S1x384) ![0, 0] S1x384.size inb_S1x384_S1x384_0_0
abbrev r0_5 : Rect S384x2048 := Rect.unit (s := S384x2048) ![0, 0] S384x2048.size inb_S384x2048_S384x2048_0_0
abbrev r0_6 : Rect S512x128 := Rect.unit (s := S512x128) ![0, 0] S512x128.size inb_S512x128_S512x128_0_0
abbrev r0_7 : Rect S1x256 := Rect.unit (s := S1x256) ![0, 0] S1x256.size inb_S1x256_S1x256_0_0
abbrev r0_8 : Rect S512x256 := Rect.unit (s := S512x256) ![0, 0] S512x256.size inb_S512x256_S512x256_0_0
abbrev r0_9 : Rect S512x32 := Rect.unit (s := S512x32) ![0, 0] S512x32.size inb_S512x32_S512x32_0_0
abbrev r0_10 : Rect S256x1024 := Rect.unit (s := S256x1024) ![0, 0] S256x1024.size inb_S256x1024_S256x1024_0_0
abbrev r0_11 : Rect S32x1024 := Rect.unit (s := S32x1024) ![0, 0] S32x1024.size inb_S32x1024_S32x1024_0_0
abbrev r0_12 : Rect S512x512 := Rect.unit (s := S512x512) ![0, 0] S512x512.size inb_S512x512_S512x512_0_0
abbrev r0_13 : Rect S128x256 := Rect.unit (s := S128x256) ![0, 0] S128x256.size inb_S128x256_S128x256_0_0
abbrev r0_14 : Rect S256x256 := Rect.unit (s := S256x256) ![0, 0] S256x256.size inb_S256x256_S256x256_0_0
abbrev r0_15 : Rect S512x256 := Rect.unit (s := S512x256) ![0, 0] S256x256.size inb_S512x256_S256x256_0_0
abbrev r0_16 : Rect S512x256 := Rect.unit (s := S512x256) ![256, 0] S256x256.size inb_S512x256_S256x256_256_0

/-! ## What the body leaves in each output window's buffer -/

/-! ### Values of the body that the stores' payloads, spelt out, would write more than once

    Each is a vector the body binds (often a part call's result), stated over the input windows' blocks and
    numbered on from the skeleton's payload functions (`k0_pay25` …, after `k0_pay24`), so that
    `out0_W` and the values after it name it instead of spelling it out; the comment after each is the printed function's
    name for the value (a count appended where that name is bound again). -/

def k0_pay25 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : FVec F S512x2304 .f32 :=
  k0_pay3 i (View.ld x0 r0_0) (View.ld x1 r0_0) (View.ld x2 r0_1) (View.ld x3 r0_2) (View.ld x4 r0_2) (View.ld x5 r0_3) -- `v30`
def k0_pay26 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : FVec F S512x256 .f32 :=
  k0_pay6 (k0_pay25 i x0 x1 x2 x3 x4 x5 x6 x7 x8 x9 x10 x11 x12 x13 x14 x15 x16 x17 x18 x19 x20 x21 x22) -- `v63`
def k0_pay27 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : FVec F S1x256 .f32 :=
  k0_pay7 (View.ld x8 r0_7) -- `v65`
def k0_pay28 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : FVec F S512x256 .f32 :=
  k0_pay8 (k0_pay25 i x0 x1 x2 x3 x4 x5 x6 x7 x8 x9 x10 x11 x12 x13 x14 x15 x16 x17 x18 x19 x20 x21 x22) -- `v74`
def k0_pay29 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : FVec F S512x128 .f32 :=
  k0_pay10 (k0_pay25 i x0 x1 x2 x3 x4 x5 x6 x7 x8 x9 x10 x11 x12 x13 x14 x15 x16 x17 x18 x19 x20 x21 x22) -- `v79`
def k0_pay30 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : FVec F S512x256 .f32 :=
  k0_pay20 (k0_pay29 i x0 x1 x2 x3 x4 x5 x6 x7 x8 x9 x10 x11 x12 x13 x14 x15 x16 x17 x18 x19 x20 x21 x22) (View.ld x13 r0_13) (View.ld x14 r0_7) -- `v138`
def k0_pay31 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : FVec F S512x256 .f32 :=
  k0_pay21 (k0_pay29 i x0 x1 x2 x3 x4 x5 x6 x7 x8 x9 x10 x11 x12 x13 x14 x15 x16 x17 x18 x19 x20 x21 x22) (View.ld x15 r0_13) -- `v141`

/-- Window 23's staging buffer after the body, from the input windows' blocks: its 1 store as pieces, LAST
    FIRST (Lib/Pipeline/FrameBody.lean `View.canon`; the payloads are the skeleton's and the values stated above). -/
def out0_23 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x1024 .bf16 :=
  View.canon [⟨r0_0, k0_pay5 (k0_pay4 i (View.ld x0 r0_0) (View.ld x1 r0_0) (View.ld x2 r0_1) (View.ld x3 r0_2) (View.ld x4 r0_2) (View.ld x5 r0_3)) (View.ld x6 r0_4) (View.ld x7 r0_5) (View.ld x19 r0_6) (View.ld x20 r0_6)⟩]

/-- Its stores tile the buffer (checked by evaluation), so they cover it. -/
theorem cover0_23 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x1024 .bf16 :=
  View.canon [⟨r0_0, k0_pay13 (k0_pay25 i x0 x1 x2 x3 x4 x5 x6 x7 x8 x9 x10 x11 x12 x13 x14 x15 x16 x17 x18 x19 x20 x21 x22) (k0_pay26 i x0 x1 x2 x3 x4 x5 x6 x7 x8 x9 x10 x11 x12 x13 x14 x15 x16 x17 x18 x19 x20 x21 x22) (k0_pay27 i x0 x1 x2 x3 x4 x5 x6 x7 x8 x9 x10 x11 x12 x13 x14 x15 x16 x17 x18 x19 x20 x21 x22) (k0_pay28 i x0 x1 x2 x3 x4 x5 x6 x7 x8 x9 x10 x11 x12 x13 x14 x15 x16 x17 x18 x19 x20 x21 x22) (View.ld x21 r0_9) (View.ld x22 r0_9) (View.ld x9 r0_10) (View.ld x12 r0_11)⟩]

/-- Its stores tile the buffer (checked by evaluation), so they cover it. -/
theorem cover0_24 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 25's staging buffer after the body, from the input windows' blocks: its 1 store as pieces, LAST
    FIRST (Lib/Pipeline/FrameBody.lean `View.canon`; the payloads are the skeleton's and the values stated above). -/
def out0_25 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x1024 .bf16 :=
  View.canon [⟨r0_0, k0_pay14 (k0_pay26 i x0 x1 x2 x3 x4 x5 x6 x7 x8 x9 x10 x11 x12 x13 x14 x15 x16 x17 x18 x19 x20 x21 x22) (k0_pay27 i x0 x1 x2 x3 x4 x5 x6 x7 x8 x9 x10 x11 x12 x13 x14 x15 x16 x17 x18 x19 x20 x21 x22) (k0_pay28 i x0 x1 x2 x3 x4 x5 x6 x7 x8 x9 x10 x11 x12 x13 x14 x15 x16 x17 x18 x19 x20 x21 x22) (View.ld x10 r0_10) (View.ld x11 r0_1)⟩]

/-- Its stores tile the buffer (checked by evaluation), so they cover it. -/
theorem cover0_25 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 26's staging buffer after the body, from the input windows' blocks: its 1 store as pieces, LAST
    FIRST (Lib/Pipeline/FrameBody.lean `View.canon`; the payloads are the skeleton's and the values stated above). -/
def out0_26 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x256 .f32 :=
  View.canon [⟨r0_8, k0_pay9 (k0_pay26 i x0 x1 x2 x3 x4 x5 x6 x7 x8 x9 x10 x11 x12 x13 x14 x15 x16 x17 x18 x19 x20 x21 x22) (k0_pay27 i x0 x1 x2 x3 x4 x5 x6 x7 x8 x9 x10 x11 x12 x13 x14 x15 x16 x17 x18 x19 x20 x21 x22) (k0_pay28 i x0 x1 x2 x3 x4 x5 x6 x7 x8 x9 x10 x11 x12 x13 x14 x15 x16 x17 x18 x19 x20 x21 x22)⟩]

/-- Its stores tile the buffer (checked by evaluation), so they cover it. -/
theorem cover0_26 (p0 : Vec F S512x256 .f32) (y : S512x256.Idx) :
    ∃ pc ∈ ([⟨r0_8, p0⟩] : List (View.Piece (Elt F) S512x256 .f32)), y ∈ pc.1.set :=
  View.cover_of_tiled [⟨r0_8, p0⟩] S512x256.size (by rfl) y

/-- Window 27's staging buffer after the body, from the input windows' blocks: its 1 store as pieces, LAST
    FIRST (Lib/Pipeline/FrameBody.lean `View.canon`; the payloads are the skeleton's and the values stated above). -/
def out0_27 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x32 .f32 :=
  View.canon [⟨r0_9, k0_pay11 (k0_pay25 i x0 x1 x2 x3 x4 x5 x6 x7 x8 x9 x10 x11 x12 x13 x14 x15 x16 x17 x18 x19 x20 x21 x22) (View.ld x21 r0_9) (View.ld x22 r0_9)⟩]

/-- Its stores tile the buffer (checked by evaluation), so they cover it. -/
theorem cover0_27 (p0 : Vec F S512x32 .f32) (y : S512x32.Idx) :
    ∃ pc ∈ ([⟨r0_9, p0⟩] : List (View.Piece (Elt F) S512x32 .f32)), y ∈ pc.1.set :=
  View.cover_of_tiled [⟨r0_9, p0⟩] S512x32.size (by rfl) y

/-- Window 28's staging buffer after the body, from the input windows' blocks: its 1 store as pieces, LAST
    FIRST (Lib/Pipeline/FrameBody.lean `View.canon`; the payloads are the skeleton's and the values stated above). -/
def out0_28 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x256 .f32 :=
  View.canon [⟨r0_8, k0_pay15 (k0_pay25 i x0 x1 x2 x3 x4 x5 x6 x7 x8 x9 x10 x11 x12 x13 x14 x15 x16 x17 x18 x19 x20 x21 x22)⟩]

/-- Its stores tile the buffer (checked by evaluation), so they cover it. -/
theorem cover0_28 (p0 : Vec F S512x256 .f32) (y : S512x256.Idx) :
    ∃ pc ∈ ([⟨r0_8, p0⟩] : List (View.Piece (Elt F) S512x256 .f32)), y ∈ pc.1.set :=
  View.cover_of_tiled [⟨r0_8, p0⟩] S512x256.size (by rfl) y

/-- Window 29's staging buffer after the body, from the input windows' blocks: its 1 store as pieces, LAST
    FIRST (Lib/Pipeline/FrameBody.lean `View.canon`; the payloads are the skeleton's and the values stated above). -/
def out0_29 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x256 .f32 :=
  View.canon [⟨r0_8, k0_pay16 (k0_pay25 i x0 x1 x2 x3 x4 x5 x6 x7 x8 x9 x10 x11 x12 x13 x14 x15 x16 x17 x18 x19 x20 x21 x22)⟩]

/-- Its stores tile the buffer (checked by evaluation), so they cover it. -/
theorem cover0_29 (p0 : Vec F S512x256 .f32) (y : S512x256.Idx) :
    ∃ pc ∈ ([⟨r0_8, p0⟩] : List (View.Piece (Elt F) S512x256 .f32)), y ∈ pc.1.set :=
  View.cover_of_tiled [⟨r0_8, p0⟩] S512x256.size (by rfl) y

/-- Window 30's staging buffer after the body, from the input windows' blocks: its 1 store as pieces, LAST
    FIRST (Lib/Pipeline/FrameBody.lean `View.canon`; the payloads are the skeleton's and the values stated above). -/
def out0_30 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x512 .bf16 :=
  View.canon [⟨r0_12, k0_pay17 (k0_pay25 i x0 x1 x2 x3 x4 x5 x6 x7 x8 x9 x10 x11 x12 x13 x14 x15 x16 x17 x18 x19 x20 x21 x22)⟩]

/-- Its stores tile the buffer (checked by evaluation), so they cover it. -/
theorem cover0_30 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-- Window 31's staging buffer after the body, from the input windows' blocks: its 1 store as pieces, LAST
    FIRST (Lib/Pipeline/FrameBody.lean `View.canon`; the payloads are the skeleton's and the values stated above). -/
def out0_31 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x512 .f32 :=
  View.canon [⟨r0_12, k0_pay18 (k0_pay25 i x0 x1 x2 x3 x4 x5 x6 x7 x8 x9 x10 x11 x12 x13 x14 x15 x16 x17 x18 x19 x20 x21 x22)⟩]

/-- Its stores tile the buffer (checked by evaluation), so they cover it. -/
theorem cover0_31 (p0 : Vec F S512x512 .f32) (y : S512x512.Idx) :
    ∃ pc ∈ ([⟨r0_12, p0⟩] : List (View.Piece (Elt F) S512x512 .f32)), y ∈ pc.1.set :=
  View.cover_of_tiled [⟨r0_12, p0⟩] S512x512.size (by rfl) y

/-- Window 32's staging buffer after the body, from the input windows' blocks: its 2 stores as pieces, LAST
    FIRST (Lib/Pipeline/FrameBody.lean `View.canon`; the payloads are the skeleton's and the values stated above). -/
def out0_32 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x256 .f32 :=
  View.canon [⟨r0_16, k0_pay1 (k0_pay30 i x0 x1 x2 x3 x4 x5 x6 x7 x8 x9 x10 x11 x12 x13 x14 x15 x16 x17 x18 x19 x20 x21 x22) (View.ld x17 r0_14)⟩,
    ⟨r0_15, k0_pay23 (k0_pay30 i x0 x1 x2 x3 x4 x5 x6 x7 x8 x9 x10 x11 x12 x13 x14 x15 x16 x17 x18 x19 x20 x21 x22) (View.ld x17 r0_14)⟩]

/-- Its stores tile the buffer (checked by evaluation), so they cover it. -/
theorem cover0_32 (p0 : Vec F S256x256 .f32) (p1 : Vec F S256x256 .f32) (y : S512x256.Idx) :
    ∃ pc ∈ ([⟨r0_16, p0⟩, ⟨r0_15, p1⟩] : List (View.Piece (Elt F) S512x256 .f32)), y ∈ pc.1.set :=
  View.cover_of_tiled [⟨r0_16, p0⟩, ⟨r0_15, p1⟩] S256x256.size (by rfl) y

/-- Window 33's staging buffer after the body, from the input windows' blocks: its 2 stores as pieces, LAST
    FIRST (Lib/Pipeline/FrameBody.lean `View.canon`; the payloads are the skeleton's and the values stated above). -/
def out0_33 (i : grid0.Coords) (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) : Vec F S512x256 .f32 :=
  View.canon [⟨r0_16, k0_pay2 (k0_pay22 (k0_pay31 i x0 x1 x2 x3 x4 x5 x6 x7 x8 x9 x10 x11 x12 x13 x14 x15 x16 x17 x18 x19 x20 x21 x22) (View.ld x16 r0_7)) (View.ld x18 r0_14)⟩,
    ⟨r0_15, k0_pay24 (k0_pay31 i x0 x1 x2 x3 x4 x5 x6 x7 x8 x9 x10 x11 x12 x13 x14 x15 x16 x17 x18 x19 x20 x21 x22) (View.ld x16 r0_7) (View.ld x18 r0_14)⟩]

/-- Its stores tile the buffer (checked by evaluation), so they cover it. -/
theorem cover0_33 (p0 : Vec F S256x256 .f32) (p1 : Vec F S256x256 .f32) (y : S512x256.Idx) :
    ∃ pc ∈ ([⟨r0_16, p0⟩, ⟨r0_15, p1⟩] : List (View.Piece (Elt F) S512x256 .f32)), y ∈ pc.1.set :=
  View.cover_of_tiled [⟨r0_16, p0⟩, ⟨r0_15, p1⟩] S256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1024x2304 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S1x256 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S32x1024 .bf16) (harg13 : arg13.IsWhole) (arg14 : Memref sig .tc .vmem S128x256 .bf16) (harg14 : arg14.IsWhole) (arg15 : Memref sig .tc .vmem S1x256 .f32) (harg15 : arg15.IsWhole) (arg16 : Memref sig .tc .vmem S128x256 .bf16) (harg16 : arg16.IsWhole) (arg17 : Memref sig .tc .vmem S1x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S512x128 .f32) (harg20 : arg20.IsWhole) (arg21 : Memref sig .tc .vmem S512x128 .f32) (harg21 : arg21.IsWhole) (arg22 : Memref sig .tc .vmem S512x32 .f32) (harg22 : arg22.IsWhole) (arg23 : Memref sig .tc .vmem S512x32 .f32) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .bf16) (harg26 : arg26.IsWhole) (arg27 : Memref sig .tc .vmem S512x256 .f32) (harg27 : arg27.IsWhole) (arg28 : Memref sig .tc .vmem S512x32 .f32) (harg28 : arg28.IsWhole) (arg29 : Memref sig .tc .vmem S512x256 .f32) (harg29 : arg29.IsWhole) (arg30 : Memref sig .tc .vmem S512x256 .f32) (harg30 : arg30.IsWhole) (arg31 : Memref sig .tc .vmem S512x512 .bf16) (harg31 : arg31.IsWhole) (arg32 : Memref sig .tc .vmem S512x512 .f32) (harg32 : arg32.IsWhole) (arg33 : Memref sig .tc .vmem S512x256 .f32) (harg33 : arg33.IsWhole) (arg34 : Memref sig .tc .vmem S512x256 .f32) (harg34 : arg34.IsWhole)
    (x0 : Vec F S512x1024 .f32) (x1 : Vec F S512x1024 .f32) (x2 : Vec F S1x1024 .f32) (x3 : Vec F S1x1x1x1x1024 .f32) (x4 : Vec F S1x1x1x1x1024 .f32) (x5 : Vec F S1024x2304 .bf16) (x6 : Vec F S1x384 .f32) (x7 : Vec F S384x2048 .bf16) (x8 : Vec F S1x256 .f32) (x9 : Vec F S256x1024 .bf16) (x10 : Vec F S256x1024 .bf16) (x11 : Vec F S1x1024 .f32) (x12 : Vec F S32x1024 .bf16) (x13 : Vec F S128x256 .bf16) (x14 : Vec F S1x256 .f32) (x15 : Vec F S128x256 .bf16) (x16 : Vec F S1x256 .f32) (x17 : Vec F S256x256 .bf16) (x18 : Vec F S256x256 .bf16) (x19 : Vec F S512x128 .f32) (x20 : Vec F S512x128 .f32) (x21 : Vec F S512x32 .f32) (x22 : Vec F S512x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out0_23 i x0 x1 x2 x3 x4 x5 x6 x7 x8 x9 x10 x11 x12 x13 x14 x15 x16 x17 x18 x19 x20 x21 x22) ∗ owns (c : Thread nD τ) arg25 fullShare (out0_24 i x0 x1 x2 x3 x4 x5 x6 x7 x8 x9 x10 x11 x12 x13 x14 x15 x16 x17 x18 x19 x20 x21 x22) ∗ owns (c : Thread nD τ) arg26 fullShare (out0_25 i x0 x1 x2 x3 x4 x5 x6 x7 x8 x9 x10 x11 x12 x13 x14 x15 x16 x17 x18 x19 x20 x21 x22) ∗ owns (c : Thread nD τ) arg27 fullShare (out0_26 i x0 x1 x2 x3 x4 x5 x6 x7 x8 x9 x10 x11 x12 x13 x14 x15 x16 x17 x18 x19 x20 x21 x22) ∗ owns (c : Thread nD τ) arg28 fullShare (out0_27 i x0 x1 x2 x3 x4 x5 x6 x7 x8 x9 x10 x11 x12 x13 x14 x15 x16 x17 x18 x19 x20 x21 x22) ∗ owns (c : Thread nD τ) arg29 fullShare (out0_28 i x0 x1 x2 x3 x4 x5 x6 x7 x8 x9 x10 x11 x12 x13 x14 x15 x16 x17 x18 x19 x20 x21 x22) ∗ owns (c : Thread nD τ) arg30 fullShare (out0_29 i x0 x1 x2 x3 x4 x5 x6 x7 x8 x9 x10 x11 x12 x13 x14 x15 x16 x17 x18 x19 x20 x21 x22) ∗ owns (c : Thread nD τ) arg31 fullShare (out0_30 i x0 x1 x2 x3 x4 x5 x6 x7 x8 x9 x10 x11 x12 x13 x14 x15 x16 x17 x18 x19 x20 x21 x22) ∗ owns (c : Thread nD τ) arg32 fullShare (out0_31 i x0 x1 x2 x3 x4 x5 x6 x7 x8 x9 x10 x11 x12 x13 x14 x15 x16 x17 x18 x19 x20 x21 x22) ∗ owns (c : Thread nD τ) arg33 fullShare (out0_32 i x0 x1 x2 x3 x4 x5 x6 x7 x8 x9 x10 x11 x12 x13 x14 x15 x16 x17 x18 x19 x20 x21 x22) ∗ owns (c : Thread nD τ) arg34 fullShare (out0_33 i x0 x1 x2 x3 x4 x5 x6 x7 x8 x9 x10 x11 x12 x13 x14 x15 x16 x17 x18 x19 x20 x21 x22)) -∗ K ⟨⟩))
      ⊢ wp frame (wpE (defs₀ (F := F)) Variants.none c none) E (cc0_even_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_even_in_proj_eq_skeleton]; unfold cc0_even_in_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _ _)).trans ?_
    rfl
  iexists _; isplitr
  swap; · iexact H33
  ipureintro
  refine (View.read_writes_eq_canon _ _ _ (cover0_33 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨28, _⟩ => out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨29, _⟩ => out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨30, _⟩ => out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨31, _⟩ => out0_31 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨32, _⟩ => out0_32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨33, _⟩ => out0_33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 34, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_28 (c : Dev nD) (t : Fin cfg0.N) : (dats m 0 c).after 28 t = out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_29 (c : Dev nD) (t : Fin cfg0.N) : (dats m 0 c).after 29 t = out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_30 (c : Dev nD) (t : Fin cfg0.N) : (dats m 0 c).after 30 t = out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_31 (c : Dev nD) (t : Fin cfg0.N) : (dats m 0 c).after 31 t = out0_31 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_32 (c : Dev nD) (t : Fin cfg0.N) : (dats m 0 c).after 32 t = out0_32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_33 (c : Dev nD) (t : Fin cfg0.N) : (dats m 0 c).after 33 t = out0_33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t))

set_option maxHeartbeats 6400000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iintro ⟨H0, H1, H2, H3, H4, H5, H6, H7, H8, H9, H10, H11, H12, H13, H14, H15, H16, H17, H18, H19, H20, H21, H22, H23, H24, H25, H26, H27, H28, H29, H30, H31, H32, H33⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 6400000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_Kernel7Ideal`'s statement (Defs.lean) at any `F` — Proof.lean cites it at `Bits`:
    `theorem Cert.Proof.claim : Cert.Claim := ⟨Cert.Kernel7Ideal.Gen.facts, fun m ρ _ => Cert.Kernel7Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel7Ideal.Gen

end
-- ==== Proof.EvenIn.Ref.lean ====
module

public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Reference7Ideal.Value

open Cert.Reference7Ideal Cert.Reference7Ideal.Gen Idealize.ShloMosaic Idealize.ShloMosaic.TcCoe Idealize.SL.Sem

/-! # The reference of the input projection, stage by stage and at an index -/

/-- The layer's input of every token. -/
def refI (a : FVec Ideal S4096x1024 .f32) (b : FVec Ideal S16384x1024 .f32) : FVec Ideal S20480x1024 .f32 :=
  concatenate S20480x1024 0 [⟨S4096x1024, a⟩, ⟨S16384x1024, b⟩] concatenates_S4096x1024_S16384x1024_S20480x1024_d0

/-- The same, group by group. -/
def refG (x : FVec Ideal S20480x1024 .f32) : FVec Ideal S5x4096x1024 .f32 := shapeCast _ x shapeCasts_S20480x1024_S5x4096x1024

/-- Each group's modulation of layer 0. -/
def refM (md : FVec Ideal S2x8x6x1x1024 .f32) : FVec Ideal S5x6x1x1024 .f32 :=
  shapeCast _ (extractStridedSlice S1x5x6x1x1024 ![0, 0, 0, 0, 0] md slices_S2x8x6x1x1024_S1x5x6x1x1024_0_0_0_0_0) shapeCasts_S1x5x6x1x1024_S5x6x1x1024

/-- The root mean square normalisation, scaled and shifted. -/
def refH (X : FVec Ideal S5x4096x1024 .f32) (md : FVec Ideal S5x6x1x1024 .f32) (g : FVec Ideal S1x1024 .f32) : FVec Ideal S5x4096x1024 .f32 :=
  addf (mulf (mulf (mulf X (broadcastInDim S5x4096x1024 ![0, 1, 2] bcast_S5x4096x1_S5x4096x1024_0_1_2 (Host.rsqrt (addf (Host.divf
      (broadcastInDim S5x4096x1 ![0, 1] bcast_S5x4096_S5x4096x1_0_1 (Host.reduceAdd (mulf X X) (constant S_ .f32 0x00000000#32) reducesTo_S5x4096x1024_S5x4096_d2 h_S_))
      (broadcastInDim S5x4096x1 ![] bcast_S_S5x4096x1 (constant S_ .f32 0x44800000#32)))
      (broadcastInDim S5x4096x1 ![] bcast_S_S5x4096x1 (constant S_ .f32 0x358637BD#32))))))
      (broadcastInDim S5x4096x1024 ![0, 1, 2] bcast_S1x1x1024_S5x4096x1024_0_1_2 (broadcastInDim S1x1x1024 ![1, 2] bcast_S1x1024_S1x1x1024_1_2 g)))
    (broadcastInDim S5x4096x1024 ![0, 1, 2] bcast_S5x1x1024_S5x4096x1024_0_1_2 (addf (broadcastInDim S5x1x1024 ![] bcast_S_S5x1x1024 (constant S_ .f32 0x3F800000#32))
      (shapeCast _ (extractStridedSlice S5x1x1x1024 ![0, 1, 0, 0] md slices_S5x6x1x1024_S5x1x1x1024_0_1_0_0) shapeCasts_S5x1x1x1024_S5x1x1024))))
    (broadcastInDim S5x4096x1024 ![0, 1, 2] bcast_S5x1x1024_S5x4096x1024_0_1_2
      (shapeCast _ (extractStridedSlice S5x1x1x1024 ![0, 0, 0, 0] md slices_S5x6x1x1024_S5x1x1x1024_0_0_0_0) shapeCasts_S5x1x1x1024_S5x1x1024))

/-- The projection of every token. -/
def refZ (h : FVec Ideal S5x4096x1024 .f32) (w : FVec Ideal S1024x2240 .f32) : FVec Ideal S20480x2240 .f32 :=
  Host.dotGeneral dot_S20480x1024_S1024x2240_S20480x2240_1_0_0_1_n_n none (shapeCast _ h shapeCasts_S5x4096x1024_S20480x1024) w

/-- The latents of the keys and values, before their norm. -/
def refL (z : FVec Ideal S20480x2240 .f32) : FVec Ideal S20480x256 .f32 := extractStridedSlice S20480x256 ![0, 384] z slices_S20480x2240_S20480x256_0_384

/-- The latents' normalisation. -/
def refN (l : FVec Ideal S20480x256 .f32) (kn : FVec Ideal S256 .f32) : FVec Ideal S20480x256 .f32 :=
  mulf (mulf l (broadcastInDim S20480x256 ![0, 1] bcast_S20480x1_S20480x256_0_1 (Host.rsqrt (addf (Host.divf
    (broadcastInDim S20480x1 ![0] bcast_S20480_S20480x1_0 (Host.reduceAdd (mulf l l) (constant S_ .f32 0x00000000#32) reducesTo_S20480x256_S20480_d1 h_S_))
    (broadcastInDim S20480x1 ![] bcast_S_S20480x1 (constant S_ .f32 0x43800000#32)))
    (broadcastInDim S20480x1 ![] bcast_S_S20480x1 (constant S_ .f32 0x358637BD#32))))))
    (broadcastInDim S20480x256 ![0, 1] bcast_S1x256_S20480x256_0_1 (broadcastInDim S1x256 ![1] bcast_S256_S1x256_1 kn))

/-- The context tokens' rotary keys. -/
def refP (z : FVec Ideal S20480x2240 .f32) : FVec Ideal S4096x32 .f32 :=
  extractStridedSlice S4096x32 ![0, 0] (extractStridedSlice S20480x32 ![0, 640] z slices_S20480x2240_S20480x32_0_640) slices_S20480x32_S4096x32_0_0

/-- The scaled queries, the keys, the values and the output gate's input of the GLA. -/
def refQ (z : FVec Ideal S20480x2240 .f32) : FVec Ideal S20480x256 .f32 :=
  mulf (extractStridedSlice S20480x256 ![0, 672] z slices_S20480x2240_S20480x256_0_672) (broadcastInDim S20480x256 ![] bcast_S_S20480x256 (constant S_ .f32 0x3E000000#32))
def refK (z : FVec Ideal S20480x2240 .f32) : FVec Ideal S20480x256 .f32 := extractStridedSlice S20480x256 ![0, 928] z slices_S20480x2240_S20480x256_0_928
def refV (z : FVec Ideal S20480x2240 .f32) : FVec Ideal S20480x512 .bf16 :=
  truncf .bf16 (extractStridedSlice S20480x512 ![0, 1184] z slices_S20480x2240_S20480x512_0_1184) bitsLt_bf16_f32
def refR (z : FVec Ideal S20480x2240 .f32) : FVec Ideal S20480x512 .f32 := extractStridedSlice S20480x512 ![0, 1696] z slices_S20480x2240_S20480x512_0_1696

/-- The projection, from the arguments. -/
def REFZ (xp : FVec Ideal S4096x1024 .f32) (xs : FVec Ideal S16384x1024 .f32) (md : FVec Ideal S2x8x6x1x1024 .f32) (g : FVec Ideal S1x1024 .f32)
    (w : FVec Ideal S1024x2240 .f32) : FVec Ideal S20480x2240 .f32 :=
  refZ (refH (refG (refI xp xs)) (refM md) g) w

theorem refI_lo (a : FVec Ideal S4096x1024 .f32) (b : FVec Ideal S16384x1024 .f32) (r : Fin 20480) (j : Fin 1024) (h : (r : ℕ) < 4096) :
    refI a b (ix2 r j) = a (ix2 ⟨r, h⟩ j) := by
  pointwise [refI, h]

theorem refI_hi (a : FVec Ideal S4096x1024 .f32) (b : FVec Ideal S16384x1024 .f32) (r : Fin 20480) (j : Fin 1024) (h : ¬ (r : ℕ) < 4096) :
    refI a b (ix2 r j) = b (ix2 ⟨r - 4096, by omega⟩ j) := by
  pointwise [refI, h]

theorem refG_at (x : FVec Ideal S20480x1024 .f32) (a : Fin 5) (b : Fin 4096) (y : Fin 1024) (r : Fin 20480) (hr : (r : ℕ) = a * 4096 + b) :
    refG x (ix3 a b y) = x (ix2 r y) := by
  obtain ⟨r, hlt⟩ := r
  replace hr : r = a * 4096 + b := hr
  subst hr
  pointwise [refG]

/-- A row divided by its root mean square. -/
def nrm (f : Fin 1024 → EReal) (y : Fin 1024) : EReal :=
  f y * Ideal.rsqrt (Ideal.div (∑ z : Fin 1024, f z * f z) (Ideal.ofBits .f32 0x44800000#32) + Ideal.ofBits .f32 0x358637BD#32)

/-- The same for a row of latents. -/
def nrmL (f : Fin 256 → EReal) (y : Fin 256) : EReal :=
  f y * Ideal.rsqrt (Ideal.div (∑ z : Fin 256, f z * f z) (Ideal.ofBits .f32 0x43800000#32) + Ideal.ofBits .f32 0x358637BD#32)

theorem refM_at (md : FVec Ideal S2x8x6x1x1024 .f32) (a : Fin 5) (k : Fin 6) (y : Fin 1024) :
    refM md (ix4 a k 0 y) = md (ix5 0 ⟨a, by omega⟩ k 0 y) := by
  pointwise [refM]

theorem refH_at (X : FVec Ideal S5x4096x1024 .f32) (md : FVec Ideal S5x6x1x1024 .f32) (g : FVec Ideal S1x1024 .f32)
    (a : Fin 5) (b : Fin 4096) (y : Fin 1024) :
    refH X md g (ix3 a b y) = nrm (fun z => X (ix3 a b z)) y * g (ix2 0 y) * (Ideal.ofBits .f32 0x3F800000#32 + md (ix4 a 1 0 y)) + md (ix4 a 0 0 y) := by
  unfold nrm
  pointwise [refH]

theorem refZ_at (h : FVec Ideal S5x4096x1024 .f32) (w : FVec Ideal S1024x2240 .f32) (r : Fin 20480) (y : Fin 2240) :
    refZ h w (ix2 r y) = ∑ j : Fin 1024, h (ix3 ⟨r / 4096, by omega⟩ ⟨r % 4096, by omega⟩ j) * w (ix2 j y) := by
  pointwise [refZ]

theorem refL_at (z : FVec Ideal S20480x2240 .f32) (r : Fin 20480) (y : Fin 256) : refL z (ix2 r y) = z (ix2 r ⟨384 + y, by omega⟩) := by
  pointwise [refL]

theorem refN_at (l : FVec Ideal S20480x256 .f32) (kn : FVec Ideal S256 .f32) (r : Fin 20480) (y : Fin 256) :
    refN l kn (ix2 r y) = nrmL (fun z => l (ix2 r z)) y * kn (ix1 y) := by
  unfold nrmL
  pointwise [refN]

theorem refP_at (z : FVec Ideal S20480x2240 .f32) (r : Fin 4096) (y : Fin 32) :
    refP z (ix2 r y) = z (ix2 ⟨r, by omega⟩ ⟨640 + y, by omega⟩) := by
  pointwise [refP]

theorem refQ_at (z : FVec Ideal S20480x2240 .f32) (r : Fin 20480) (y : Fin 256) :
    refQ z (ix2 r y) = z (ix2 r ⟨672 + y, by omega⟩) * Ideal.ofBits .f32 0x3E000000#32 := by
  pointwise [refQ]

theorem refK_at (z : FVec Ideal S20480x2240 .f32) (r : Fin 20480) (y : Fin 256) : refK z (ix2 r y) = z (ix2 r ⟨928 + y, by omega⟩) := by
  pointwise [refK]

theorem refV_at (z : FVec Ideal S20480x2240 .f32) (r : Fin 20480) (y : Fin 512) : (refV z (ix2 r y) : EReal) = z (ix2 r ⟨1184 + y, by omega⟩) := by
  pointwise [refV]

theorem refR_at (z : FVec Ideal S20480x2240 .f32) (r : Fin 20480) (y : Fin 512) : refR z (ix2 r y) = z (ix2 r ⟨1696 + y, by omega⟩) := by
  pointwise [refR]

variable (m : (ℓ : Loc nD τ sig) → Buf (Elt Ideal) ℓ)

/-- The projection, from the memory. -/
def memZ (c : Dev nD) : FVec Ideal S20480x2240 .f32 :=
  REFZ (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The first result's term is the stages composed. -/
theorem res_eq (c : Dev nD) : res_main_v50 m c = refN (refL (memZ m c)) (m ((c.tc : Thread nD τ).loc main_arg7)) := by
  unfold res_main_v50 refN refL memZ REFZ refZ refH refM refG refI
  rfl

/-- The reference's run, with its results as the stages composed. -/
theorem run_stages (ρ : Dev nD → PrngReg) : θ_run defs (onTc (τ := τ) (main (F := Ideal))) ⟨m, fun _ => 0, ρ⟩ fun r => ∀ c : Dev nD,
      r.2.mem ((c.tc : Thread nD τ).loc main_v50) = refN (refL (REFZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg7))
      ∧ r.2.mem ((c.tc : Thread nD τ).loc main_v51) = refP (REFZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v53) = refQ (REFZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v33) = refK (REFZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v54) = refV (REFZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v35) = refR (REFZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans (res_eq m c),
    (h c).2.1.trans (by unfold refP REFZ refZ refH refM refG refI; rfl),
    (h c).2.2.1.trans (by unfold refQ REFZ refZ refH refM refG refI; rfl),
    (h c).2.2.2.1.trans (by unfold refK REFZ refZ refH refM refG refI; rfl),
    (h c).2.2.2.2.1.trans (by unfold refV REFZ refZ refH refM refG refI; rfl),
    (h c).2.2.2.2.2.1.trans (by unfold refR REFZ refZ refH refM refG refI; rfl), (h c).2.2.2.2.2.2⟩) (run m ρ)

end Cert.Reference7Ideal.Value
-- ==== Proof.EvenIn.Run.lean ====
module

public import proofs.«01_k».proof.Proof.EvenIn.IdealFrame
public import Idealize.ShloMosaic.Lib.Pipeline.Value

@[expose] public section

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! # The run of the input projection: its six claimed results named, its arguments unchanged -/

/-- After the frame run, argument `main_arg0` is as launched: input window 0 stages it and never writes it back. -/
theorem kept_main_arg0 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 4 stages it and never writes it back. -/
theorem kept_main_arg2 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 2 stages it and never writes it back. -/
theorem kept_main_arg3 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- After the frame run, argument `main_arg4` is as launched: no window stages it, and no host operation after the call writes it. -/
theorem kept_main_arg4 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg4) = m ((c : Thread nD τ).loc main_arg4) :=
  ((h c).2 main_arg4 (Pipeline.mem_restRefs_of main_arg4 (by decide) (by decide))).trans (W_main_arg4 m (dats m) c)

/-- After the frame run, argument `main_arg5` is as launched: no window stages it, and no host operation after the call writes it. -/
theorem kept_main_arg5 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg5) = m ((c : Thread nD τ).loc main_arg5) :=
  ((h c).2 main_arg5 (Pipeline.mem_restRefs_of main_arg5 (by decide) (by decide))).trans (W_main_arg5 m (dats m) c)

/-- After the frame run, argument `main_arg6` is as launched: no window stages it, and no host operation after the call writes it. -/
theorem kept_main_arg6 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg6) = m ((c : Thread nD τ).loc main_arg6) :=
  ((h c).2 main_arg6 (Pipeline.mem_restRefs_of main_arg6 (by decide) (by decide))).trans (W_main_arg6 m (dats m) c)

/-- After the frame run, argument `main_arg7` is as launched: no window stages it, and no host operation after the call writes it. -/
theorem kept_main_arg7 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg7) = m ((c : Thread nD τ).loc main_arg7) :=
  ((h c).2 main_arg7 (Pipeline.mem_restRefs_of main_arg7 (by decide) (by decide))).trans (W_main_arg7 m (dats m) c)

/-- After the frame run, argument `main_arg8` is as launched: no window stages it, and no host operation after the call writes it. -/
theorem kept_main_arg8 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg8) = m ((c : Thread nD τ).loc main_arg8) :=
  ((h c).2 main_arg8 (Pipeline.mem_restRefs_of main_arg8 (by decide) (by decide))).trans (W_main_arg8 m (dats m) c)

/-- After the frame run, argument `main_arg9` is as launched: no window stages it, and no host operation after the call writes it. -/
theorem kept_main_arg9 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg9) = m ((c : Thread nD τ).loc main_arg9) :=
  ((h c).2 main_arg9 (Pipeline.mem_restRefs_of main_arg9 (by decide) (by decide))).trans (W_main_arg9 m (dats m) c)

/-- After the frame run, argument `main_arg10` is as launched: no window stages it, and no host operation after the call writes it. -/
theorem kept_main_arg10 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg10) = m ((c : Thread nD τ).loc main_arg10) :=
  ((h c).2 main_arg10 (Pipeline.mem_restRefs_of main_arg10 (by decide) (by decide))).trans (W_main_arg10 m (dats m) c)

/-- After the frame run, argument `main_arg11` is as launched: no window stages it, and no host operation after the call writes it. -/
theorem kept_main_arg11 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg11) = m ((c : Thread nD τ).loc main_arg11) :=
  ((h c).2 main_arg11 (Pipeline.mem_restRefs_of main_arg11 (by decide) (by decide))).trans (W_main_arg11 m (dats m) c)

/-- After the frame run, argument `main_arg12` is as launched: no window stages it, and no host operation after the call writes it. -/
theorem kept_main_arg12 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg12) = m ((c : Thread nD τ).loc main_arg12) :=
  ((h c).2 main_arg12 (Pipeline.mem_restRefs_of main_arg12 (by decide) (by decide))).trans (W_main_arg12 m (dats m) c)

/-- After the frame run, argument `main_arg13` is as launched: no window stages it, and no host operation after the call writes it. -/
theorem kept_main_arg13 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg13) = m ((c : Thread nD τ).loc main_arg13) :=
  ((h c).2 main_arg13 (Pipeline.mem_restRefs_of main_arg13 (by decide) (by decide))).trans (W_main_arg13 m (dats m) c)

/-- After the frame run, argument `main_arg14` is as launched: no window stages it, and no host operation after the call writes it. -/
theorem kept_main_arg14 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg14) = m ((c : Thread nD τ).loc main_arg14) :=
  ((h c).2 main_arg14 (Pipeline.mem_restRefs_of main_arg14 (by decide) (by decide))).trans (W_main_arg14 m (dats m) c)

/-- After the slice that follows the call, its buffer has the context rows of the array of window 27. -/
theorem tail_main_v105 (c : Dev nD) : Pipeline.afterTail₀ cfgs (dats m) 0 (V0 m) [hostOps1] c main_v105
    = extractStridedSlice S4096x32 ![0, 0] ((dats m 0 c).arrAt 27 cfg0.N) slices_S20480x32_S4096x32_0_0 := by
  unfold Pipeline.afterTail₀
  simp only [List.flatten_cons, List.flatten_nil, List.append_nil]
  after_results
  exact congrArg (fun x : FVec F S20480x32 .f32 => extractStridedSlice S4096x32 ![0, 0] x slices_S20480x32_S4096x32_0_0)
    ((dats m 0 c).withArrays_arrAt launch₀0.sharedIn (V0 m c) (A_eq m c) 27)

set_option maxHeartbeats 1600000 in
/-- The run: each claimed result is what its window has written by the last point, or the context rows of it, and no argument has changed. -/
theorem run_blocks : θ_run defs (onTc (τ := τ) (main (F := F))) ⟨m, fun _ => 0, ρ⟩ fun r => ∀ c : Dev nD,
      r.2.mem ((c : Thread nD τ).loc main_v104_3) = (dats m 0 c).arrAt 26 cfg0.N
      ∧ r.2.mem ((c : Thread nD τ).loc main_v105) = extractStridedSlice S4096x32 ![0, 0] ((dats m 0 c).arrAt 27 cfg0.N) slices_S20480x32_S4096x32_0_0
      ∧ r.2.mem ((c : Thread nD τ).loc main_v104_5) = (dats m 0 c).arrAt 28 cfg0.N
      ∧ r.2.mem ((c : Thread nD τ).loc main_v104_6) = (dats m 0 c).arrAt 29 cfg0.N
      ∧ r.2.mem ((c : Thread nD τ).loc main_v104_7) = (dats m 0 c).arrAt 30 cfg0.N
      ∧ r.2.mem ((c : Thread nD τ).loc main_v104_8) = (dats m 0 c).arrAt 31 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1 26,
      ((h c).2 main_v105 (Pipeline.mem_restRefs_of main_v105 (by decide) (by decide))).trans (tail_main_v105 m c),
      (h c).1 28,
      (h c).1 29,
      (h c).1 30,
      (h c).1 31,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.Kernel7Ideal.Value
-- ==== Proof.EvenIn.Value.lean ====
module

public import proofs.«01_k».proof.Proof.EvenIn.Ref
public import proofs.«01_k».proof.Proof.EvenIn.Run

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)
open Cert.Reference7Ideal.Value (nrm nrmL refI refG refM refH refZ refL refN refQ refK refV refR REFZ)

/-! # The input projection's result arrays

Point `t` handles the rows `512 t … 512 t + 511`: a context block for the first eight points, a latent block after them. -/

/-- A block's normalisation, scaled and shifted. -/
def modul (X : FVec Ideal S512x1024 .f32) (g : FVec Ideal S1x1024 .f32) (sh sc : FVec Ideal S1x1x1x1x1024 .f32) : FVec Ideal S512x1024 .f32 :=
  addf (mulf (mulf (mulf X (broadcastTo S512x1024 (rsqrt (addf (divf (shapeCast S512x1
        (multiReduction .add [1] S512 (mulf X X) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
      (broadcastTo S512x1024 g broadcasts_S1x1024_S512x1024))
    (broadcastTo S512x1024 (addf (broadcast S1x1024 (Scalar.ofBits .f32 0x3F800000#32)) (shapeCast S1x1024 sc shapeCasts_S1x1x1x1x1024_S1x1024)) broadcasts_S1x1024_S512x1024))
    (broadcastTo S512x1024 (shapeCast S1x1024 sh shapeCasts_S1x1x1x1x1024_S1x1024) broadcasts_S1x1024_S512x1024)

theorem modul_at (X : FVec Ideal S512x1024 .f32) (g : FVec Ideal S1x1024 .f32) (sh sc : FVec Ideal S1x1x1x1x1024 .f32) (ρ : Fin 512) (y : Fin 1024) :
    modul X g sh sc (ix2 ρ y) = nrm (fun z => X (ix2 ρ z)) y * g (ix2 0 y) * (Ideal.ofBits .f32 0x3F800000#32 + sc (ix5 0 0 0 0 y)) + sh (ix5 0 0 0 0 y) := by
  unfold nrm
  pointwise [modul]

/-- A block's products with the weight. -/
def proj (h : FVec Ideal S512x1024 .f32) (w : FVec Ideal S1024x2304 .bf16) : FVec Ideal S512x2304 .f32 :=
  matmul dot_S512x1024_S1024x2304_S512x2304_1_0_0_1_n_n none (truncf .bf16 h bitsLt_bf16_f32)
    (shapeCast S1024x2304 w shapeCasts_S1024x2304_S1024x2304) (constant S512x2304 .f32 0x00000000#32)

theorem proj_at (h : FVec Ideal S512x1024 .f32) (w : FVec Ideal S1024x2304 .bf16) (ρ : Fin 512) (y : Fin 2304) :
    proj h w (ix2 ρ y) = ∑ j : Fin 1024, (h (ix2 ρ j) : EReal) * w (ix2 j y) := by
  pointwise [proj]

/-- A block's normalised latents. -/
def lat (z : FVec Ideal S512x2304 .f32) (kn : FVec Ideal S1x256 .f32) : FVec Ideal S512x256 .f32 := k0_pay9 (k0_pay6 z) (k0_pay7 kn) (k0_pay8 z)

theorem lat_at (z : FVec Ideal S512x2304 .f32) (kn : FVec Ideal S1x256 .f32) (ρ : Fin 512) (y : Fin 256) :
    lat z kn (ix2 ρ y) = nrmL (fun x => z (ix2 ρ ⟨384 + x, by omega⟩)) y * kn (ix2 0 y) := by
  unfold nrmL
  pointwise [lat, k0_pay9, k0_pay6, k0_pay7, k0_pay8]

theorem pay15_at (z : FVec Ideal S512x2304 .f32) (ρ : Fin 512) (y : Fin 256) :
    k0_pay15 z (ix2 ρ y) = z (ix2 ρ ⟨640 + y, by omega⟩) * Ideal.ofBits .f32 0x3E000000#32 := by
  pointwise [k0_pay15]

theorem pay16_at (z : FVec Ideal S512x2304 .f32) (ρ : Fin 512) (y : Fin 256) : k0_pay16 z (ix2 ρ y) = z (ix2 ρ ⟨896 + y, by omega⟩) := by
  pointwise [k0_pay16]

theorem pay17_at (z : FVec Ideal S512x2304 .f32) (ρ : Fin 512) (y : Fin 512) : (k0_pay17 z (ix2 ρ y) : EReal) = z (ix2 ρ ⟨1152 + y, by omega⟩) := by
  pointwise [k0_pay17]

theorem pay18_at (z : FVec Ideal S512x2304 .f32) (ρ : Fin 512) (y : Fin 512) : k0_pay18 z (ix2 ρ y) = z (ix2 ρ ⟨1664 + y, by omega⟩) := by
  pointwise [k0_pay18]

/-- The rotary columns with the halves of each axis exchanged, the first one negated. -/
def rotW (w : FVec Ideal S1024x2240 .f32) : FVec Ideal S1024x32 .f32 :=
  shapeCast S1024x32 (concatenate S1024x2x2x8 2 [
    ⟨S1024x2x1x8, broadcastInDim S1024x2x1x8 ![0, 1, 3] bcast_S1024x2x8_S1024x2x1x8_0_1_3 (Host.negf (shapeCast S1024x2x8 (extractStridedSlice S1024x2x1x8 ![0, 0, 1, 0]
      (shapeCast S1024x2x2x8 (extractStridedSlice S1024x32 ![0, 640] w slices_S1024x2240_S1024x32_0_640) shapeCasts_S1024x32_S1024x2x2x8)
      slices_S1024x2x2x8_S1024x2x1x8_0_0_1_0) shapeCasts_S1024x2x1x8_S1024x2x8))⟩,
    ⟨S1024x2x1x8, broadcastInDim S1024x2x1x8 ![0, 1, 3] bcast_S1024x2x8_S1024x2x1x8_0_1_3 (shapeCast S1024x2x8 (extractStridedSlice S1024x2x1x8 ![0, 0, 0, 0]
      (shapeCast S1024x2x2x8 (extractStridedSlice S1024x32 ![0, 640] w slices_S1024x2240_S1024x32_0_640) shapeCasts_S1024x32_S1024x2x2x8)
      slices_S1024x2x2x8_S1024x2x1x8_0_0_0_0) shapeCasts_S1024x2x1x8_S1024x2x8)⟩]
    concatenates_S1024x2x1x8_S1024x2x1x8_S1024x2x2x8_d2) shapeCasts_S1024x2x2x8_S1024x32

/-- The weight's columns in the order in which the call reads them. -/
def win (w : FVec Ideal S1024x2240 .f32) (ro pa : FVec Ideal S1024x32 .f32) : FVec Ideal S1024x2304 .f32 :=
  concatenate S1024x2304 1 [⟨S1024x384, extractStridedSlice S1024x384 ![0, 0] w slices_S1024x2240_S1024x384_0_0⟩,
    ⟨S1024x256, extractStridedSlice S1024x256 ![0, 384] w slices_S1024x2240_S1024x256_0_384⟩,
    ⟨S1024x256, extractStridedSlice S1024x256 ![0, 672] w slices_S1024x2240_S1024x256_0_672⟩,
    ⟨S1024x256, extractStridedSlice S1024x256 ![0, 928] w slices_S1024x2240_S1024x256_0_928⟩,
    ⟨S1024x512, extractStridedSlice S1024x512 ![0, 1184] w slices_S1024x2240_S1024x512_0_1184⟩,
    ⟨S1024x512, extractStridedSlice S1024x512 ![0, 1696] w slices_S1024x2240_S1024x512_0_1696⟩,
    ⟨S1024x32, extractStridedSlice S1024x32 ![0, 640] w slices_S1024x2240_S1024x32_0_640⟩,
    ⟨S1024x32, ro⟩,
    ⟨S1024x16, extractStridedSlice S1024x16 ![0, 2208] w slices_S1024x2240_S1024x16_0_2208⟩,
    ⟨S1024x16, extractStridedSlice S1024x16 ![0, 2224] w slices_S1024x2240_S1024x16_0_2224⟩,
    ⟨S1024x32, pa⟩]
    concatenates_S1024x384_S1024x256_S1024x256_S1024x256_S1024x512_S1024x512_S1024x32_S1024x32_S1024x16_S1024x16_S1024x32_S1024x2304_d1

theorem win_l (w : FVec Ideal S1024x2240 .f32) (ro pa : FVec Ideal S1024x32 .f32) (j : Fin 1024) (y : Fin 256) :
    win w ro pa (ix2 j ⟨384 + y, by omega⟩) = w (ix2 j ⟨384 + y, by omega⟩) := by
  pointwise [win]
  repeat (first | rw [dif_pos (by omega)] | rw [dif_neg (by omega)])

theorem win_q (w : FVec Ideal S1024x2240 .f32) (ro pa : FVec Ideal S1024x32 .f32) (j : Fin 1024) (y : Fin 256) :
    win w ro pa (ix2 j ⟨640 + y, by omega⟩) = w (ix2 j ⟨672 + y, by omega⟩) := by
  pointwise [win]
  repeat (first | rw [dif_pos (by omega)] | rw [dif_neg (by omega)])
  exact congrArg w (congrArg (ix2 j) (Fin.ext (by dsimp only; omega)))

theorem win_k (w : FVec Ideal S1024x2240 .f32) (ro pa : FVec Ideal S1024x32 .f32) (j : Fin 1024) (y : Fin 256) :
    win w ro pa (ix2 j ⟨896 + y, by omega⟩) = w (ix2 j ⟨928 + y, by omega⟩) := by
  pointwise [win]
  repeat (first | rw [dif_pos (by omega)] | rw [dif_neg (by omega)])
  exact congrArg w (congrArg (ix2 j) (Fin.ext (by dsimp only; omega)))

theorem win_v (w : FVec Ideal S1024x2240 .f32) (ro pa : FVec Ideal S1024x32 .f32) (j : Fin 1024) (y : Fin 512) :
    win w ro pa (ix2 j ⟨1152 + y, by omega⟩) = w (ix2 j ⟨1184 + y, by omega⟩) := by
  pointwise [win]
  repeat (first | rw [dif_pos (by omega)] | rw [dif_neg (by omega)])
  exact congrArg w (congrArg (ix2 j) (Fin.ext (by dsimp only; omega)))

theorem win_r (w : FVec Ideal S1024x2240 .f32) (ro pa : FVec Ideal S1024x32 .f32) (j : Fin 1024) (y : Fin 512) :
    win w ro pa (ix2 j ⟨1664 + y, by omega⟩) = w (ix2 j ⟨1696 + y, by omega⟩) := by
  pointwise [win]
  repeat (first | rw [dif_pos (by omega)] | rw [dif_neg (by omega)])
  exact congrArg w (congrArg (ix2 j) (Fin.ext (by dsimp only; omega)))

/-- Which of the two token kinds a point's block is. -/
theorem sel : ∀ t : Fin cfg0.N, Scalar.cmpi .slt (BitVec.ofNat 32 (grid0.coords t 0).val) 8#32 = if t.val < 8 then 1#1 else 0#1 :=
  (by decide +kernel : ∀ t : Fin grid0.N, _)

/-- The blocks each point stages. -/
theorem idx : ∀ t : Fin cfg0.N, win0_0.index t = ![min t.val 7, 0] ∧ win0_1.index t = ![t.val - 8, 0] ∧ win0_2.index t = ![0, 0]
    ∧ win0_3.index t = ![0, t.val / 8, 0, 0, 0] ∧ win0_4.index t = ![0, t.val / 8, 1, 0, 0] ∧ win0_5.index t = ![0, 0] ∧ win0_8.index t = ![0, 0]
    ∧ win0_26.index t = ![t.val, 0] ∧ win0_28.index t = ![t.val, 0] ∧ win0_29.index t = ![t.val, 0] ∧ win0_30.index t = ![t.val, 0]
    ∧ win0_31.index t = ![t.val, 0] :=
  (by decide +kernel : ∀ t : Fin grid0.N, _)

theorem ltN (t : Fin cfg0.N) : t.val < 40 := t.isLt

variable (m : (ℓ : Loc nD τ sig) → Buf (Elt Ideal) ℓ)

/-- The argument arrays. -/
abbrev aXp (c : Dev nD) : FVec Ideal S4096x1024 .f32 := m ((c : Thread nD τ).loc main_arg0)
abbrev aXs (c : Dev nD) : FVec Ideal S16384x1024 .f32 := m ((c : Thread nD τ).loc main_arg1)
abbrev aMod (c : Dev nD) : FVec Ideal S2x8x6x1x1024 .f32 := m ((c : Thread nD τ).loc main_arg2)
abbrev aG (c : Dev nD) : FVec Ideal S1x1024 .f32 := m ((c : Thread nD τ).loc main_arg3)
abbrev aW (c : Dev nD) : FVec Ideal S1024x2240 .f32 := m ((c : Thread nD τ).loc main_arg4)
abbrev aKn (c : Dev nD) : FVec Ideal S256 .f32 := m ((c : Thread nD τ).loc main_arg7)

set_option maxHeartbeats 1600000 in
/-- The input's rows of a block, whichever kind they are. -/
theorem rowX (c : Dev nD) (t : Fin cfg0.N) (ρ : Fin 512) (j : Fin 1024) (r : Fin 20480) (hr : (r : ℕ) = t.val * 512 + ρ) :
    (Scalar.select (Scalar.cmpi .slt (BitVec.ofNat 32 (grid0.coords t 0).val) 8#32) (iblk m c 0 t) (iblk m c 1 t) : FVec Ideal S512x1024 .f32) (ix2 ρ j)
      = refI (aXp m c) (aXs m c) (ix2 r j) := by
  have ht := ltN t
  rw [sel t]
  by_cases h : t.val < 8
  · rw [if_pos h, Cert.Reference7Ideal.Value.refI_lo _ _ _ _ (by omega)]
    show iblk m c 0 t (ix2 ρ j) = _
    blk_ext [iblk, V, idx t]
  · rw [if_neg h, Cert.Reference7Ideal.Value.refI_hi _ _ _ _ (by omega)]
    show iblk m c 1 t (ix2 ρ j) = _
    blk_ext [iblk, V, idx t]

/-- The weight as the call reads it. -/
theorem V_w (c : Dev nD) : V m c main_v72 = (truncf .bf16 (win (aW m c) (rotW (aW m c))
    (broadcastInDim S1024x32 ![] bcast_S_S1024x32 (constant S_ .f32 0x00000000#32))) bitsLt_bf16_f32 : FVec Ideal S1024x2304 .bf16) := by
  show StableHlo.after hostOps0 _ _ = _
  after_results <;> rfl

/-- The latents' norm weight as the call reads it. -/
theorem V_kn (c : Dev nD) : V m c main_v76 = (shapeCast S1x256 (aKn m c) shapeCasts_S256_S1x256 : FVec Ideal S1x256 .f32) := by
  show StableHlo.after hostOps0 _ _ = _
  after_results <;> rfl

theorem iblk2 (c : Dev nD) (t : Fin cfg0.N) (y : Fin 1024) : iblk m c 2 t (ix2 0 y) = aG m c (ix2 0 y) := by
  blk_ext [iblk, V, idx t]

theorem iblk3 (c : Dev nD) (t : Fin cfg0.N) (y : Fin 1024) (a : Fin 5) (h : (a : ℕ) = t.val / 8) :
    iblk m c 3 t (ix5 0 0 0 0 y) = refM (aMod m c) (ix4 a 0 0 y) := by
  rw [Cert.Reference7Ideal.Value.refM_at]
  blk_ext [iblk, V, idx t]

theorem iblk4 (c : Dev nD) (t : Fin cfg0.N) (y : Fin 1024) (a : Fin 5) (h : (a : ℕ) = t.val / 8) :
    iblk m c 4 t (ix5 0 0 0 0 y) = refM (aMod m c) (ix4 a 1 0 y) := by
  rw [Cert.Reference7Ideal.Value.refM_at]
  blk_ext [iblk, V, idx t]

theorem iblk5 (c : Dev nD) (t : Fin cfg0.N) (j : Fin 1024) (y : Fin 2304) : (iblk m c 5 t (ix2 j y) : EReal) = win (aW m c) (rotW (aW m c))
    (broadcastInDim S1024x32 ![] bcast_S_S1024x32 (constant S_ .f32 0x00000000#32)) (ix2 j y) := by
  have e : iblk m c 5 t (ix2 j y) = V m c main_v72 (ix2 j y) := by blk_ext [iblk, idx t]
  rw [e, V_w]
  rfl

theorem iblk8 (c : Dev nD) (t : Fin cfg0.N) (y : Fin 256) : iblk m c 8 t (ix2 0 y) = aKn m c (ix1 y) := by
  have e : iblk m c 8 t (ix2 0 y) = V m c main_v76 (ix2 0 y) := by blk_ext [iblk, idx t]
  rw [e, V_kn]
  pointwise []

/-- A point's products. -/
def blkZ (c : Dev nD) (t : Fin cfg0.N) : FVec Ideal S512x2304 .f32 :=
  k0_pay3 (grid0.coords t) (iblk m c 0 t) (iblk m c 1 t) (iblk m c 2 t) (iblk m c 3 t) (iblk m c 4 t) (iblk m c 5 t)

/-- The reference's. -/
abbrev RZ (c : Dev nD) : FVec Ideal Cert.Reference7Ideal.S20480x2240 .f32 := REFZ (aXp m c) (aXs m c) (aMod m c) (aG m c) (aW m c)

/-- A column of a point's products is the column of the reference's whose weights it has. -/
theorem blkZ_at (c : Dev nD) (t : Fin cfg0.N) (ρ : Fin 512) (y : Fin 2304) (y' : Fin 2240) (r : Fin 20480) (hr : (r : ℕ) = t.val * 512 + ρ)
    (hw : ∀ (ro pa : FVec Ideal S1024x32 .f32) (j : Fin 1024), win (aW m c) ro pa (ix2 j y) = aW m c (ix2 j y')) :
    blkZ m c t (ix2 ρ y) = RZ m c (ix2 r y') := by
  have ht := ltN t
  unfold RZ REFZ
  rw [Cert.Reference7Ideal.Value.refZ_at]
  refine (proj_at (modul (Scalar.select (Scalar.cmpi .slt (BitVec.ofNat 32 (grid0.coords t 0).val) 8#32) (iblk m c 0 t) (iblk m c 1 t))
    (iblk m c 2 t) (iblk m c 3 t) (iblk m c 4 t)) (iblk m c 5 t) ρ y).trans ?_
  have ha : ((⟨(r : ℕ) / 4096, by omega⟩ : Fin 5) : ℕ) = t.val / 8 := by show (r : ℕ) / 4096 = _; omega
  have hb : (r : ℕ) = ((⟨(r : ℕ) / 4096, by omega⟩ : Fin 5) : ℕ) * 4096 + ((⟨(r : ℕ) % 4096, by omega⟩ : Fin 4096) : ℕ) := by
    show (r : ℕ) = (r : ℕ) / 4096 * 4096 + (r : ℕ) % 4096; omega
  refine Finset.sum_congr rfl fun j _ => ?_
  rw [iblk5, hw, modul_at, Cert.Reference7Ideal.Value.refH_at, iblk2, iblk3 m c t j _ ha, iblk4 m c t j _ ha]
  simp only [fun z : Fin 1024 => rowX m c t ρ z r hr, fun z : Fin 1024 => Cert.Reference7Ideal.Value.refG_at (refI (aXp m c) (aXs m c)) _ _ z r hb]

set_option maxHeartbeats 1600000 in
/-- The normalised latents are the reference's. -/
theorem final26 (c : Dev nD) : (dats m 0 c).arrAt 26 (cfgs 0).N = refN (refL (RZ m c)) (aKn m c) := by
  refine (dats m 0 c).arrAt_eq_of_covers 26 _ (by decide +kernel) fun t hfl y => ?_
  have ht := ltN t
  idx_vars y
  have hy : ((View.whole main_v104_3).slice (win0_26.rect t)).emb (ix2 y0 y1 : S512x256.Idx) = ix2 ⟨t.val * 512 + (y0 : ℕ), by omega⟩ y1 := by
    blk_ext [idx t]
  blk_simp
  rw [after0_26]; unfold out0_26 k0_pay28 k0_pay27 k0_pay26 k0_pay25; frame_out
  rw [hy, Cert.Reference7Ideal.Value.refN_at]
  refine (lat_at (blkZ m c t) (iblk m c 8 t) y0 y1).trans ?_
  rw [iblk8]
  refine congrArg (fun f : Fin 256 → EReal => nrmL f y1 * _) (funext fun z => ?_)
  rw [Cert.Reference7Ideal.Value.refL_at]
  exact blkZ_at m c t y0 _ _ _ rfl fun ro pa j => win_l _ ro pa j z

set_option maxHeartbeats 1600000 in
/-- The scaled queries are the reference's. -/
theorem final28 (c : Dev nD) : (dats m 0 c).arrAt 28 (cfgs 0).N = refQ (RZ m c) := by
  refine (dats m 0 c).arrAt_eq_of_covers 28 _ (by decide +kernel) fun t hfl y => ?_
  have ht := ltN t
  idx_vars y
  have hy : ((View.whole main_v104_5).slice (win0_28.rect t)).emb (ix2 y0 y1 : S512x256.Idx) = ix2 ⟨t.val * 512 + (y0 : ℕ), by omega⟩ y1 := by
    blk_ext [idx t]
  blk_simp
  rw [after0_28]; unfold out0_28 k0_pay25; frame_out
  rw [hy, Cert.Reference7Ideal.Value.refQ_at]
  refine (pay15_at (blkZ m c t) y0 y1).trans ?_
  exact congrArg (fun z : EReal => z * _) (blkZ_at m c t y0 _ _ _ rfl fun ro pa j => win_q _ ro pa j y1)

set_option maxHeartbeats 1600000 in
/-- The keys are the reference's. -/
theorem final29 (c : Dev nD) : (dats m 0 c).arrAt 29 (cfgs 0).N = refK (RZ m c) := by
  refine (dats m 0 c).arrAt_eq_of_covers 29 _ (by decide +kernel) fun t hfl y => ?_
  have ht := ltN t
  idx_vars y
  have hy : ((View.whole main_v104_6).slice (win0_29.rect t)).emb (ix2 y0 y1 : S512x256.Idx) = ix2 ⟨t.val * 512 + (y0 : ℕ), by omega⟩ y1 := by
    blk_ext [idx t]
  blk_simp
  rw [after0_29]; unfold out0_29 k0_pay25; frame_out
  rw [hy, Cert.Reference7Ideal.Value.refK_at]
  refine (pay16_at (blkZ m c t) y0 y1).trans ?_
  exact blkZ_at m c t y0 _ _ _ rfl fun ro pa j => win_k _ ro pa j y1

set_option maxHeartbeats 1600000 in
/-- The values are the reference's. -/
theorem final30 (c : Dev nD) : (dats m 0 c).arrAt 30 (cfgs 0).N = refV (RZ m c) := by
  refine (dats m 0 c).arrAt_eq_of_covers 30 _ (by decide +kernel) fun t hfl y => ?_
  have ht := ltN t
  idx_vars y
  have hy : ((View.whole main_v104_7).slice (win0_30.rect t)).emb (ix2 y0 y1 : S512x512.Idx) = ix2 ⟨t.val * 512 + (y0 : ℕ), by omega⟩ y1 := by
    blk_ext [idx t]
  blk_simp
  rw [after0_30]; unfold out0_30 k0_pay25; frame_out
  rw [hy]
  refine (pay17_at (blkZ m c t) y0 y1).trans (Eq.trans ?_ (Cert.Reference7Ideal.Value.refV_at (RZ m c) _ y1).symm)
  exact blkZ_at m c t y0 _ _ _ rfl fun ro pa j => win_v _ ro pa j y1

set_option maxHeartbeats 1600000 in
/-- The output gate's input is the reference's. -/
theorem final31 (c : Dev nD) : (dats m 0 c).arrAt 31 (cfgs 0).N = refR (RZ m c) := by
  refine (dats m 0 c).arrAt_eq_of_covers 31 _ (by decide +kernel) fun t hfl y => ?_
  have ht := ltN t
  idx_vars y
  have hy : ((View.whole main_v104_8).slice (win0_31.rect t)).emb (ix2 y0 y1 : S512x512.Idx) = ix2 ⟨t.val * 512 + (y0 : ℕ), by omega⟩ y1 := by
    blk_ext [idx t]
  blk_simp
  rw [after0_31]; unfold out0_31 k0_pay25; frame_out
  rw [hy, Cert.Reference7Ideal.Value.refR_at]
  refine (pay18_at (blkZ m c t) y0 y1).trans ?_
  exact blkZ_at m c t y0 _ _ _ rfl fun ro pa j => win_r _ ro pa j y1

end Cert.Kernel7Ideal.Value
-- ==== Proof.EvenIn.Rope.lean ====
module

public import proofs.«01_k».proof.Proof.EvenIn.Value

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)
open Cert.Reference7Ideal.Value (refP REFZ)

/-! # The input projection's rotary keys

The tables start with 512 rows of ones and of zeros, which every context block reads: there the rotation is the identity. -/

theorem win_p (w : FVec Ideal S1024x2240 .f32) (ro pa : FVec Ideal S1024x32 .f32) (j : Fin 1024) (y : Fin 32) :
    win w ro pa (ix2 j ⟨2176 + y, by omega⟩) = w (ix2 j ⟨640 + y, by omega⟩) := by
  pointwise [win]
  repeat (first | rw [dif_pos (by omega)] | rw [dif_neg (by omega)])
  exact congrArg w (congrArg (ix2 j) (Fin.ext (by dsimp only; omega)))

theorem pay11_at (z : FVec Ideal S512x2304 .f32) (a b : FVec Ideal S512x32 .f32) (ρ : Fin 512) (y : Fin 32)
    (ha : a (ix2 ρ y) = (1 : EReal)) (hb : b (ix2 ρ y) = (0 : EReal)) : k0_pay11 z a b (ix2 ρ y) = z (ix2 ρ ⟨2176 + y, by omega⟩) := by
  have e : k0_pay11 z a b (ix2 ρ y) = (z (ix2 ρ ⟨2176 + y, by omega⟩) : EReal) * a (ix2 ρ y) + z (ix2 ρ ⟨2208 + y, by omega⟩) * b (ix2 ρ y) := by
    pointwise [k0_pay11, k0_pay10]
    exact congrArg (fun k : Fin 2304 => (z (ix2 ρ ⟨2176 + y, by omega⟩) : EReal) * a (ix2 ρ y) + z (ix2 ρ k) * b (ix2 ρ y)) (Fin.ext (by dsimp only; omega))
  rw [e, ha, hb, mul_one, mul_zero, add_zero]

/-- A table of `v` over the context's rows and of `tb` over the latents'. -/
def tab (v : BitVec 32) (tb : FVec Ideal S4096x32 .f32) : FVec Ideal S4608x32 .f32 :=
  concatenate S4608x32 0 [⟨S512x32, broadcastInDim S512x32 ![] bcast_S_S512x32 (constant S_ .f32 v)⟩, ⟨S4096x32, tb⟩]
    concatenates_S512x32_S4096x32_S4608x32_d0

theorem tab_at (v : BitVec 32) (tb : FVec Ideal S4096x32 .f32) (r : Fin 4608) (y : Fin 32) (h : (r : ℕ) < 512) :
    tab v tb (ix2 r y) = Ideal.ofBits .f32 v := by
  pointwise [tab, h]

/-- The blocks each point stages. -/
theorem idxP : ∀ t : Fin cfg0.N, win0_27.index t = ![t.val, 0] :=
  (by decide +kernel : ∀ t : Fin grid0.N, _)

theorem idxT : ∀ t : Fin cfg0.N, t.val < 8 → win0_21.index t = ![0, 0] ∧ win0_22.index t = ![0, 0] :=
  (by decide +kernel : ∀ t : Fin grid0.N, _)

variable (m : (ℓ : Loc nD τ sig) → Buf (Elt Ideal) ℓ)

/-- The two tables as the call reads them. -/
theorem V_ck (c : Dev nD) : V m c main_v101 = tab 0x3F800000#32 (m ((c : Thread nD τ).loc main_arg13)) := by
  show StableHlo.after hostOps0 _ _ = _
  after_results <;> rfl

theorem V_sk (c : Dev nD) : V m c main_v103 = tab 0x00000000#32 (m ((c : Thread nD τ).loc main_arg14)) := by
  show StableHlo.after hostOps0 _ _ = _
  after_results <;> rfl

theorem iblk21 (c : Dev nD) (t : Fin cfg0.N) (h : t.val < 8) (ρ : Fin 512) (y : Fin 32) : iblk m c 21 t (ix2 ρ y) = (1 : EReal) := by
  have e : iblk m c 21 t (ix2 ρ y) = V m c main_v101 (ix2 ⟨ρ, by omega⟩ y) := by blk_ext [iblk, idxT t h]
  rw [e, V_ck, tab_at _ _ _ _ ρ.isLt]
  exact Ideal.ofBits_one_f32

theorem iblk22 (c : Dev nD) (t : Fin cfg0.N) (h : t.val < 8) (ρ : Fin 512) (y : Fin 32) : iblk m c 22 t (ix2 ρ y) = (0 : EReal) := by
  have e : iblk m c 22 t (ix2 ρ y) = V m c main_v103 (ix2 ⟨ρ, by omega⟩ y) := by blk_ext [iblk, idxT t h]
  rw [e, V_sk, tab_at _ _ _ _ ρ.isLt]
  exact Ideal.ofBits_zero_f32

/-- What a point leaves of its rows' rotary keys, and all points. -/
def keysB (c : Dev nD) (t : Fin cfg0.N) : FVec Ideal S512x32 .f32 := k0_pay11 (blkZ m c t) (iblk m c 21 t) (iblk m c 22 t)

theorem divN (r : Fin 20480) : (r : ℕ) / 512 < cfg0.N := by show (r : ℕ) / 512 < 40; omega

def keysAll (c : Dev nD) : FVec Ideal S20480x32 .f32 :=
  fun i => keysB m c ⟨(i 0 : Fin 20480).val / 512, divN (i 0)⟩ (ix2 ⟨(i 0 : Fin 20480).val % 512, by omega⟩ (i 1))

theorem keysAll_at (c : Dev nD) (t : Fin cfg0.N) (ρ : Fin 512) (y : Fin 32) (r : Fin 20480) (hr : (r : ℕ) = t.val * 512 + ρ) :
    keysAll m c (ix2 r y) = keysB m c t (ix2 ρ y) := by
  have e1 : (⟨(r : ℕ) / 512, divN r⟩ : Fin cfg0.N) = t := Fin.ext (by show (r : ℕ) / 512 = t.val; omega)
  have e2 : (⟨(r : ℕ) % 512, by omega⟩ : Fin 512) = ρ := Fin.ext (by show (r : ℕ) % 512 = ρ.val; omega)
  show keysB m c ⟨(r : ℕ) / 512, divN r⟩ (ix2 ⟨(r : ℕ) % 512, by omega⟩ y) = _
  rw [e1, e2]

set_option maxHeartbeats 1600000 in
/-- The array of the rotary keys, every token's. -/
theorem arr27 (c : Dev nD) : (dats m 0 c).arrAt 27 (cfgs 0).N = keysAll m c := by
  refine (dats m 0 c).arrAt_eq_of_covers 27 _ (by decide +kernel) fun t hfl y => ?_
  have ht := ltN t
  idx_vars y
  have hy : ((View.whole main_v104_4).slice (win0_27.rect t)).emb (ix2 y0 y1 : S512x32.Idx) = ix2 ⟨t.val * 512 + (y0 : ℕ), by omega⟩ y1 := by
    blk_ext [idxP t]
  blk_simp
  rw [after0_27]; unfold out0_27 k0_pay25; frame_out
  rw [hy]
  exact (keysAll_at m c t y0 y1 _ rfl).symm

/-- The context tokens' rotary keys are the reference's. -/
theorem final27 (c : Dev nD) : extractStridedSlice S4096x32 ![0, 0] ((dats m 0 c).arrAt 27 (cfgs 0).N : FVec Ideal S20480x32 .f32) slices_S20480x32_S4096x32_0_0
    = refP (RZ m c) := by
  rw [arr27]
  funext i
  idx_vars i
  have e : extractStridedSlice S4096x32 ![0, 0] (keysAll m c) slices_S20480x32_S4096x32_0_0 (ix2 i0 i1) = keysAll m c (ix2 ⟨i0, by omega⟩ i1) := by
    pointwise []
  have ht : (i0 : ℕ) / 512 < 8 := by omega
  rw [e, Cert.Reference7Ideal.Value.refP_at,
    keysAll_at m c ⟨(i0 : ℕ) / 512, by show (i0 : ℕ) / 512 < 40; omega⟩ ⟨(i0 : ℕ) % 512, by omega⟩ i1 _
      (by show (i0 : ℕ) = (i0 : ℕ) / 512 * 512 + (i0 : ℕ) % 512; omega)]
  refine (pay11_at _ _ _ _ _ (iblk21 m c _ ht _ _) (iblk22 m c _ ht _ _)).trans ?_
  exact blkZ_at m c _ _ _ _ _ (by show (i0 : ℕ) = (i0 : ℕ) / 512 * 512 + (i0 : ℕ) % 512; omega) fun ro pa j => win_p _ ro pa j i1

end Cert.Kernel7Ideal.Value
-- ==== Proof.EvenIn.Claims.lean ====
module

public import proofs.«01_k».proof.Defs
public import proofs.«01_k».proof.Proof.EvenIn.Rope
public import Idealize.ShloMosaic.Lib.Claim

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

/-! # The input projection's value claim -/

theorem algebraic : Cert.algebraic_Kernel7Ideal_Reference7Ideal := by
  pair_intro
  · run_from Cert.Kernel7Ideal.Value.run_blocks m g
  · run_from Cert.Reference7Ideal.Value.run_stages m' g'
    all_goals
      obtain ⟨h0, h1, h2, h3, h4, h5, h6, h7, h8, h9, h10, h11, h12, h13, h14⟩ := hagree c
      try simp only [h0, h1, h2, h3, h4, h5, h6, h7, h8, h9, h10, h11, h12, h13, h14]
    · exact (final26 m c).symm
    · exact (final27 m c).symm
    · exact (final28 m c).symm
    · exact (final29 m c).symm
    · exact (final30 m c).symm
    · exact (final31 m c).symm

end Cert.Kernel7Ideal.Value
-- ==== Proof.GqaLocal.Stores.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-! # What one point of the windowed attention stores

The body stores eight blocks of 128 columns, one per pair of query heads. Each is one function of the query columns, the
context's keys and values, the window's keys and values, and the two heads' sinks. -/

/-- One head: the scores of the masked query columns against the context and the window, their shared maximum with the
    sink, and the weighted sum of the values divided by the weights' sum, both read off the extended values. -/
def headK (lanes : IVec S256x128 1) (band : IVec S256x512 1) (qb : FVec Ideal S256x128 .bf16) (kc : FVec Ideal S256x128 .bf16)
    (vc : FVec Ideal S256x256 .bf16) (kl : FVec Ideal S512x128 .bf16) (vl : FVec Ideal S512x256 .bf16) (s : Ideal .f32) :
    FVec Ideal S256x128 .f32 :=
  have qh : FVec Ideal S256x128 .bf16 := select lanes qb (broadcast S256x128 (Scalar.ofBits .bf16 0x0000#16))
  have sc : FVec Ideal S256x256 .f32 :=
    matmul dot_S256x128_S256x128_S256x256_1_1_0_0_n_n none qh kc (constant S256x256 .f32 0x00000000#32)
  have sl : FVec Ideal S256x512 .f32 :=
    select band (matmul dot_S256x128_S512x128_S256x512_1_1_0_0_n_n none qh kl (constant S256x512 .f32 0x00000000#32))
      (broadcast S256x512 (Named.named κ "mask" 0xF149F2CA#32))
  have m : FVec Ideal S256x1 .f32 :=
    maximumf
      (maximumf
        (shapeCast S256x1 (multiReduction .maximumf [1] S256 sc 0xFF800000#32 reduces_S256x256_S256 (.inl rfl) rfl) shapeCasts_S256_S256x1)
        (broadcast S256x1 s))
      (shapeCast S256x1 (multiReduction .maximumf [1] S256 sl 0xFF800000#32 reduces_S256x512_S256 (.inl rfl) rfl) shapeCasts_S256_S256x1)
  have pc : FVec Ideal S256x256 .bf16 := truncf .bf16 (exp (subf sc (broadcastTo S256x256 m broadcasts_S256x1_S256x256))) bitsLt_bf16_f32
  have pl : FVec Ideal S256x512 .bf16 := truncf .bf16 (exp (subf sl (broadcastTo S256x512 m broadcasts_S256x1_S256x512))) bitsLt_bf16_f32
  have r : FVec Ideal S256x256 .f32 :=
    addf (matmul dot_S256x256_S256x256_S256x256_1_0_0_1_n_n none pc vc (constant S256x256 .f32 0x00000000#32))
      (matmul dot_S256x512_S512x256_S256x256_1_0_0_1_n_n none pl vl (constant S256x256 .f32 0x00000000#32))
  divf (extractStridedSlice S256x128 ![0, 0] r slices_S256x256_o0_0_S256x128)
    (addf (extractStridedSlice S256x128 ![0, 128] r slices_S256x256_o0_128_S256x128)
      (broadcastTo S256x128 (exp (subf (broadcast S256x1 s) m)) broadcasts_S256x1_S256x128))

/-- The lanes of the second head of a pair. -/
def laneHi : IVec S256x128 1 := xori k0_pay2 (constantI S256x128 1 1#1)

/-- One stored block: the first head of the pair in the first 64 lanes, the second head in the others. -/
def pairK (band : IVec S256x512 1) (qb : FVec Ideal S256x128 .bf16) (kc : FVec Ideal S256x128 .bf16) (vc : FVec Ideal S256x256 .bf16)
    (kl : FVec Ideal S512x128 .bf16) (vl : FVec Ideal S512x256 .bf16) (s s' : Ideal .f32) : FVec Ideal S256x128 .bf16 :=
  truncf .bf16 (select k0_pay2 (headK k0_pay2 band qb kc vc kl vl s) (headK laneHi band qb kc vc kl vl s')) bitsLt_bf16_f32

variable (b : IVec S256x512 1) (qb : FVec Ideal S256x128 .bf16) (kc : FVec Ideal S256x128 .bf16) (vc : FVec Ideal S256x256 .bf16)
  (kl : FVec Ideal S512x128 .bf16) (vl : FVec Ideal S512x256 .bf16) (s s' : Ideal .f32)

/-! The eight stores, last first: each stores `pairK` of what it read. -/

theorem store0 : k0_pay1 k0_pay2 b (k0_pay47 kc) (k0_pay48 vc) (k0_pay49 kl) (k0_pay50 vl) (k0_pay81 qb) (k0_pay82 k0_pay2 b (k0_pay47 kc) (k0_pay48 vc) (k0_pay49 kl) (k0_pay50 vl) qb s) s' (k0_pay83 k0_pay2) = pairK b qb kc vc kl vl s s' := by
  simp only [k0_pay1, k0_pay47, k0_pay48, k0_pay49, k0_pay50, k0_pay81, k0_pay82, k0_pay83, pairK, headK, laneHi, shapeCast_self]

theorem store1 : k0_pay80 k0_pay2 (k0_pay71 (k0_pay48 vc) (k0_pay50 vl) s (k0_pay67 k0_pay2 (k0_pay47 kc) qb) (k0_pay68 k0_pay2 b (k0_pay49 kl) qb) (k0_pay69 k0_pay2 b (k0_pay47 kc) (k0_pay49 kl) qb s) (k0_pay70 k0_pay2 b (k0_pay47 kc) (k0_pay49 kl) qb s)) (k0_pay77 k0_pay2 b (k0_pay47 kc) (k0_pay48 vc) (k0_pay49 kl) (k0_pay50 vl) (k0_pay65 qb) s') (k0_pay78 k0_pay2 b (k0_pay47 kc) (k0_pay48 vc) (k0_pay49 kl) (k0_pay50 vl) (k0_pay65 qb) s') (k0_pay79 k0_pay2 b (k0_pay47 kc) (k0_pay49 kl) (k0_pay65 qb) s') = pairK b qb kc vc kl vl s s' := by
  simp only [k0_pay47, k0_pay48, k0_pay49, k0_pay50, k0_pay65, k0_pay66, k0_pay67, k0_pay68, k0_pay69, k0_pay70, k0_pay71, k0_pay72, k0_pay73, k0_pay74, k0_pay75, k0_pay76, k0_pay77, k0_pay78, k0_pay79, k0_pay80, pairK, headK, laneHi, shapeCast_self]

theorem store2 : k0_pay64 k0_pay2 b (k0_pay48 vc) (k0_pay50 vl) (k0_pay59 k0_pay2 b (k0_pay47 kc) (k0_pay48 vc) (k0_pay49 kl) (k0_pay50 vl) qb s) s' (k0_pay61 k0_pay2 (k0_pay47 kc) qb) (k0_pay62 k0_pay2 (k0_pay47 kc) qb s') (k0_pay63 k0_pay2 (k0_pay49 kl) qb) = pairK b qb kc vc kl vl s s' := by
  simp only [k0_pay47, k0_pay48, k0_pay49, k0_pay50, k0_pay58, k0_pay59, k0_pay60, k0_pay61, k0_pay62, k0_pay63, k0_pay64, pairK, headK, laneHi, shapeCast_self]

theorem store3 : k0_pay57 k0_pay2 b (k0_pay47 kc) (k0_pay48 vc) (k0_pay49 kl) (k0_pay50 vl) (k0_pay51 qb) s (k0_pay55 k0_pay2 b kc kl qb s) (k0_pay56 k0_pay2 b kc vc kl vl qb s) s' = pairK b qb kc vc kl vl s s' := by
  simp only [k0_pay47, k0_pay48, k0_pay49, k0_pay50, k0_pay51, k0_pay52, k0_pay53, k0_pay54, k0_pay55, k0_pay56, k0_pay57, pairK, headK, laneHi, shapeCast_self]

theorem store4 : k0_pay46 k0_pay2 (k0_pay44 (k0_pay5 vc) (k0_pay7 vl) s (k0_pay41 k0_pay2 b (k0_pay6 kl) qb) (k0_pay42 k0_pay2 b (k0_pay4 kc) (k0_pay6 kl) qb s) (k0_pay43 k0_pay2 b (k0_pay4 kc) (k0_pay6 kl) qb s) (constant S256x256 FTy.f32 0#32)) (k0_pay45 k0_pay2 b (k0_pay4 kc) (k0_pay5 vc) (k0_pay6 kl) (k0_pay7 vl) (k0_pay38 qb) s') = pairK b qb kc vc kl vl s s' := by
  simp only [k0_pay4, k0_pay5, k0_pay6, k0_pay7, k0_pay38, k0_pay39, k0_pay40, k0_pay41, k0_pay42, k0_pay43, k0_pay44, k0_pay45, k0_pay46, pairK, headK, laneHi, shapeCast_self]

theorem store5 : k0_pay37 k0_pay2 (k0_pay5 vc) (k0_pay7 vl) (k0_pay32 k0_pay2 b (k0_pay4 kc) (k0_pay5 vc) (k0_pay6 kl) (k0_pay7 vl) (k0_pay31 qb) s) s' (k0_pay34 k0_pay2 (k0_pay4 kc) (k0_pay31 qb)) (k0_pay35 k0_pay2 (k0_pay4 kc) (k0_pay31 qb) s') (k0_pay36 k0_pay2 b (k0_pay6 kl) (k0_pay31 qb)) = pairK b qb kc vc kl vl s s' := by
  simp only [k0_pay4, k0_pay5, k0_pay6, k0_pay7, k0_pay31, k0_pay32, k0_pay33, k0_pay34, k0_pay35, k0_pay36, k0_pay37, pairK, headK, laneHi, shapeCast_self]

theorem store6 : k0_pay30 k0_pay2 b (k0_pay4 kc) (k0_pay5 vc) (k0_pay6 kl) (k0_pay7 vl) (k0_pay21 qb) (k0_pay27 k0_pay2 b (k0_pay4 kc) (k0_pay5 vc) (k0_pay6 kl) (k0_pay7 vl) qb s) (k0_pay28 k0_pay2 b (k0_pay4 kc) (k0_pay5 vc) (k0_pay6 kl) (k0_pay7 vl) qb s) (k0_pay29 k0_pay2 b (k0_pay4 kc) (k0_pay6 kl) qb s) s' = pairK b qb kc vc kl vl s s' := by
  simp only [k0_pay4, k0_pay5, k0_pay6, k0_pay7, k0_pay21, k0_pay22, k0_pay23, k0_pay24, k0_pay25, k0_pay26, k0_pay27, k0_pay28, k0_pay29, k0_pay30, pairK, headK, laneHi, shapeCast_self]

theorem store7 : k0_pay20 k0_pay2 (k0_pay7 vl) (k0_pay13 b (k0_pay5 vc) (k0_pay7 vl) s (k0_pay10 kc qb) (k0_pay11 kc qb s) (k0_pay12 kl qb)) s' (k0_pay17 k0_pay2 b (k0_pay4 kc) (k0_pay6 kl) (k0_pay8 qb) s') (k0_pay18 k0_pay2 b (k0_pay4 kc) (k0_pay5 vc) (k0_pay6 kl) (k0_pay8 qb) s') (k0_pay19 k0_pay2 b (k0_pay4 kc) (k0_pay6 kl) (k0_pay8 qb) s') = pairK b qb kc vc kl vl s s' := by
  simp only [k0_pay4, k0_pay5, k0_pay6, k0_pay7, k0_pay8, k0_pay9, k0_pay10, k0_pay11, k0_pay12, k0_pay13, k0_pay14, k0_pay15, k0_pay16, k0_pay17, k0_pay18, k0_pay19, k0_pay20, pairK, headK, laneHi, shapeCast_self]

end Cert.KernelIdeal.Value
-- ==== Proof.GqaLocal.Core.lean ====
module

public import Idealize.ShloMosaic.PureOps.Ideal
public import Idealize.ShloMosaic.Lib.IdealHost
public import Idealize.ShloMosaic.Lib.Pointwise

@[expose] public section

noncomputable section

namespace Cert.Softmax

open Idealize.ShloMosaic

/-! # A softmax with a sink, over a window

The scores of one query are extended reals, minus infinity outside a window of 512 keys. Summing over the window's keys
and dividing once by the weights' sum is summing over all the keys the values times each weight divided by that sum. -/

/-- A sum times a nonnegative real distributes over the extended reals, whatever the summands. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A finite sum of reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The exponential of a score below plus infinity against a real maximum is a nonnegative real. -/
theorem exp_real (μ : ℝ) (y : EReal) (hy : y ≠ ⊤) : ∃ r : ℝ, 0 ≤ r ∧ Ideal.exp (y - (μ : EReal)) = (r : EReal) := by
  induction y with
  | bot => exact ⟨0, le_rfl, by rw [EReal.bot_sub]; exact Ideal.exp_bot⟩
  | coe y => exact ⟨Real.exp (y - μ), (Real.exp_pos _).le, by rw [← EReal.coe_sub]; exact Ideal.exp_coe _⟩
  | top => exact absurd rfl hy

/-- A sum over 4096 keys of which only the 512 from `w` contribute. -/
theorem sum_window (w : ℕ) (hw : w + 512 ≤ 4096) (f : Fin 4096 → EReal)
    (h0 : ∀ u : Fin 4096, (u : ℕ) < w ∨ w + 512 ≤ (u : ℕ) → f u = 0) :
    ∑ u, f u = ∑ l : Fin 512, f ⟨w + l, by omega⟩ := by
  symm
  refine Finset.sum_of_injOn (fun l : Fin 512 => (⟨w + l, by omega⟩ : Fin 4096)) ?_ ?_ ?_ ?_
  · intro a _ b _ h
    have := congrArg Fin.val h
    simp only at this
    exact Fin.ext (by omega)
  · intro a _; simp
  · intro u _ hu
    refine h0 u ?_
    by_contra hc
    push Not at hc
    refine hu ⟨⟨u - w, by omega⟩, by simp, ?_⟩
    exact Fin.ext (by simp only; omega)
  · intro a _; rfl

/-- The 4353 scores: the latent keys', the context's, and the sink. -/
def scores (A : Fin 4096 → EReal) (C : Fin 256 → EReal) (s : EReal) (j : Fin 4353) : EReal :=
  if h : (j : ℕ) < 4096 then A ⟨j, h⟩ else if h : (j : ℕ) - 4096 < 256 then C ⟨j - 4096, h⟩ else s

theorem sum_scores (A : Fin 4096 → EReal) (C : Fin 256 → EReal) (s : EReal) (f : EReal → EReal) :
    ∑ j, f (scores A C s j) = ∑ u, f (A u) + ∑ c, f (C c) + f s := by
  have h1 : ∑ j : Fin 4353, f (scores A C s j)
      = ∑ i : Fin 4096, f (scores A C s (Fin.castAdd 257 i)) + ∑ i : Fin 257, f (scores A C s (Fin.natAdd 4096 i)) :=
    Fin.sum_univ_add (a := 4096) (b := 257) (fun j => f (scores A C s j))
  have h2 : ∑ i : Fin 257, f (scores A C s (Fin.natAdd 4096 i))
      = ∑ c : Fin 256, f (scores A C s (Fin.natAdd 4096 (Fin.castSucc c))) + f (scores A C s (Fin.natAdd 4096 (Fin.last 256))) :=
    Fin.sum_univ_castSucc (n := 256) (fun i => f (scores A C s (Fin.natAdd 4096 i)))
  rw [h1, h2, ← add_assoc]
  refine congrArg₂ (· + ·) (congrArg₂ (· + ·) ?_ ?_) (congrArg f ?_)
  · exact Finset.sum_congr rfl fun i _ => congrArg f (by simp [scores])
  · exact Finset.sum_congr rfl fun i _ => congrArg f (by simp [scores])
  · simp [scores]

/-- The maximum over all the scores is the maximum over the context, the sink and the window. -/
theorem max_scores (A : Fin 4096 → EReal) (C : Fin 256 → EReal) (s : EReal) (w : ℕ) (hw : w + 512 ≤ 4096)
    (h0 : ∀ u : Fin 4096, (u : ℕ) < w ∨ w + 512 ≤ (u : ℕ) → A u = ⊥) :
    max ⊥ (Finset.univ.fold max ⊥ (scores A C s))
      = max (max (Finset.univ.fold max ⊥ C) s) (Finset.univ.fold max ⊥ (fun l : Fin 512 => A ⟨w + l, by omega⟩)) := by
  have key : ∀ a : EReal, max ⊥ (Finset.univ.sup (scores A C s)) ≤ a
      ↔ max (max (Finset.univ.sup C) s) (Finset.univ.sup (fun l : Fin 512 => A ⟨w + l, by omega⟩)) ≤ a := by
    intro a
    simp only [max_le_iff, bot_le, true_and, Finset.sup_le_iff, Finset.mem_univ, forall_true_left]
    constructor
    · intro h
      refine ⟨⟨fun c => ?_, ?_⟩, fun l => ?_⟩
      · have := h ⟨4096 + c, by omega⟩
        simpa [scores] using this
      · have := h ⟨4352, by omega⟩
        simpa [scores] using this
      · have := h ⟨w + l, by omega⟩
        rw [scores, dif_pos (show ((⟨w + l, by omega⟩ : Fin 4353) : ℕ) < 4096 by simp only; omega)] at this
        exact this
    · rintro ⟨⟨hC, hs⟩, hA⟩ j
      unfold scores
      split
      · rename_i hj
        by_cases hin : (j : ℕ) < w ∨ w + 512 ≤ (j : ℕ)
        · rw [h0 _ hin]; exact bot_le
        · push Not at hin
          have := hA ⟨j - w, by omega⟩
          have e : (⟨w + ((⟨j - w, by omega⟩ : Fin 512) : ℕ), by simp only; omega⟩ : Fin 4096) = ⟨j, hj⟩ :=
            Fin.ext (by simp only; omega)
          rwa [e] at this
      · split
        · exact hC _
        · exact hs
  exact eq_of_forall_ge_iff key

/-- The window's softmax, divided once, is the whole softmax's weighted sum. -/
theorem windowed (A : Fin 4096 → EReal) (C : Fin 256 → EReal) (s : EReal) (V : Fin 4096 → EReal) (W : Fin 256 → EReal)
    (w : ℕ) (hw : w + 512 ≤ 4096) (h0 : ∀ u : Fin 4096, (u : ℕ) < w ∨ w + 512 ≤ (u : ℕ) → A u = ⊥)
    (hA : ∀ u, A u ≠ ⊤) (hC : ∀ c, C c ≠ ⊤) (hC' : C 0 ≠ ⊥) (hs : s ≠ ⊤) (M m : EReal)
    (hM : M = max ⊥ (Finset.univ.fold max ⊥ (scores A C s)))
    (hm : m = max (max (Finset.univ.fold max ⊥ C) s) (Finset.univ.fold max ⊥ (fun l : Fin 512 => A ⟨w + l, by omega⟩))) :
    Ideal.div (∑ c, Ideal.exp (C c - m) * W c + ∑ l : Fin 512, Ideal.exp (A ⟨w + l, by omega⟩ - m) * V ⟨w + l, by omega⟩)
        (∑ c, Ideal.exp (C c - m) + ∑ l : Fin 512, Ideal.exp (A ⟨w + l, by omega⟩ - m) + Ideal.exp (s - m))
      = ∑ u, V u * Ideal.div (Ideal.exp (A u - M)) (∑ j, Ideal.exp (scores A C s j - M))
        + ∑ c, W c * Ideal.div (Ideal.exp (C c - M)) (∑ j, Ideal.exp (scores A C s j - M)) := by
  have hMm : M = m := by rw [hM, hm]; exact max_scores A C s w hw h0
  subst hMm
  have hge : C 0 ≤ M := by
    rw [hm]
    exact le_max_of_le_left (le_max_of_le_left (Finset.le_sup (f := C) (Finset.mem_univ 0)))
  have hbot : M ≠ ⊥ := fun h => hC' (le_bot_iff.mp (h ▸ hge))
  have htop : M ≠ ⊤ := by
    rw [hm]
    refine (max_lt (max_lt ?_ (lt_top_iff_ne_top.mpr hs)) ?_).ne
    · exact (Finset.sup_lt_iff (f := C) bot_lt_top).mpr fun c _ => lt_top_iff_ne_top.mpr (hC c)
    · exact (Finset.sup_lt_iff (f := fun l : Fin 512 => A ⟨w + l, by omega⟩) bot_lt_top).mpr
        fun c _ => lt_top_iff_ne_top.mpr (hA _)
  clear hm hM
  lift M to ℝ using ⟨htop, hbot⟩
  choose eA hA0 hAe using fun u => exp_real M (A u) (hA u)
  choose eC hC0 hCe using fun c => exp_real M (C c) (hC c)
  obtain ⟨es, hs0, hse⟩ := exp_real M s hs
  have hC1 : 0 < eC 0 := by
    have h := hCe 0
    rw [← EReal.coe_toReal (hC 0) hC', ← EReal.coe_sub, Ideal.exp_coe] at h
    rw [← EReal.coe_eq_coe_iff.mp h]
    exact Real.exp_pos _
  have hz : ∀ u : Fin 4096, (u : ℕ) < w ∨ w + 512 ≤ (u : ℕ) → Ideal.exp (A u - (M : EReal)) = 0 := fun u hu => by
    rw [h0 u hu, EReal.bot_sub]; exact Ideal.exp_bot
  have hD : ∑ j, Ideal.exp (scores A C s j - (M : EReal))
      = ∑ c, Ideal.exp (C c - (M : EReal)) + ∑ l : Fin 512, Ideal.exp (A ⟨w + l, by omega⟩ - (M : EReal))
        + Ideal.exp (s - (M : EReal)) := by
    rw [sum_scores A C s (fun y => Ideal.exp (y - (M : EReal))), sum_window w hw (fun u => Ideal.exp (A u - (M : EReal))) hz]
    rw [add_comm (∑ l : Fin 512, _) (∑ c, _)]
  rw [hD]
  have hDr : ∑ c, Ideal.exp (C c - (M : EReal)) + ∑ l : Fin 512, Ideal.exp (A ⟨w + l, by omega⟩ - (M : EReal))
      + Ideal.exp (s - (M : EReal))
      = ((∑ c, eC c + ∑ l : Fin 512, eA ⟨w + l, by omega⟩ + es : ℝ) : EReal) := by
    rw [hse, EReal.coe_add, EReal.coe_add, ← coe_sum, ← coe_sum, Finset.sum_congr rfl fun c _ => hCe c,
      Finset.sum_congr rfl fun (l : Fin 512) _ => hAe ⟨w + l, by omega⟩]
  rw [hDr]
  have hpos : 0 < ∑ c, eC c + ∑ l : Fin 512, eA ⟨w + l, by omega⟩ + es :=
    add_pos_of_pos_of_nonneg (add_pos_of_pos_of_nonneg (Finset.sum_pos' (fun c _ => hC0 c) ⟨0, Finset.mem_univ _, hC1⟩)
      (Finset.sum_nonneg fun l _ => hA0 _)) hs0
  generalize ∑ c, eC c + ∑ l : Fin 512, eA ⟨w + l, by omega⟩ + es = δ at hpos
  simp only [Ideal.div_coe hpos.ne']
  have hι : (0 : ℝ) ≤ 1 / δ := (one_div_pos.mpr hpos).le
  generalize 1 / δ = ι at hι
  rw [EReal.right_distrib_of_nonneg_of_ne_top (by exact_mod_cast hι) (EReal.coe_ne_top ι), sum_mul_coe _ _ _ hι,
    sum_mul_coe _ _ _ hι, add_comm]
  congr 1
  · rw [sum_window w hw (fun u => V u * (Ideal.exp (A u - (M : EReal)) * (ι : EReal)))
      (fun u hu => by rw [hz u hu, zero_mul, mul_zero])]
    refine Finset.sum_congr rfl fun l _ => ?_
    rw [mul_comm (Ideal.exp _) (V _), mul_assoc]
  · refine Finset.sum_congr rfl fun c _ => ?_
    rw [mul_comm (Ideal.exp _) (W _), mul_assoc]

end Cert.Softmax
-- ==== Proof.GqaLocal.Band.lean ====
module

public import Idealize.ShloMosaic.PureOps.Ideal
public import Idealize.ShloMosaic.Lib.IdealHost
public import Idealize.ShloMosaic.Lib.Pointwise

@[expose] public section

noncomputable section

namespace Cert.Softmax

open Idealize.ShloMosaic

/-! # The window's test and the constants, as numbers -/

theorem ofBits_eighth : Ideal.ofBits .f32 0x3E000000#32 = (((1 : ℝ) / 8 : ℝ) : EReal) := by
  simp [Ideal.ofBits, Ideal.ieee, -EReal.coe_mul]
  norm_num

theorem ofBits_neg_inf : Ideal.ofBits .f32 0xFF800000#32 = ⊥ := by
  simp [Ideal.ofBits, Ideal.ieee]

/-- Whether two positions are at most 128 apart, as the program tests it. -/
theorem band_eq (t u : ℕ) (ht : t < 2 ^ 30) (hu : u < 2 ^ 30) :
    IntOp.cmpi .sle (IntOp.absi (IntOp.subi (BitVec.ofNat 32 t) (BitVec.ofNat 32 u))) 128#32
      = if t ≤ u + 128 ∧ u ≤ t + 128 then 1#1 else 0#1 := by
  have hd : ∀ d : ℕ, d < 2 ^ 30 → (BitVec.ofNat 32 d).msb = false ∧ (BitVec.ofNat 32 d).toInt = d := fun d hd => by
    have h1 : (BitVec.ofNat 32 d).toNat = d := by rw [BitVec.toNat_ofNat]; omega
    refine ⟨?_, ?_⟩
    · rw [BitVec.msb_eq_decide, h1]; simp; omega
    · rw [BitVec.toInt_eq_toNat_cond, h1, if_pos (by omega)]
  have habs : IntOp.absi (IntOp.subi (BitVec.ofNat 32 t) (BitVec.ofNat 32 u)) = BitVec.ofNat 32 (t - u + (u - t)) := by
    unfold IntOp.absi IntOp.subi
    by_cases h : u ≤ t
    · have e : BitVec.ofNat 32 t - BitVec.ofNat 32 u = BitVec.ofNat 32 (t - u + (u - t)) := by
        apply BitVec.eq_of_toNat_eq
        simp only [BitVec.toNat_sub, BitVec.toNat_ofNat]
        omega
      rw [e, (hd _ (by omega)).1]; rfl
    · by_cases h' : t = u
      · omega
      · have e : BitVec.ofNat 32 t - BitVec.ofNat 32 u = -BitVec.ofNat 32 (t - u + (u - t)) := by
          apply BitVec.eq_of_toNat_eq
          simp only [BitVec.toNat_sub, BitVec.toNat_neg, BitVec.toNat_ofNat]
          omega
        rw [e, if_pos, BitVec.neg_neg]
        rw [BitVec.msb_eq_decide, BitVec.toNat_neg, BitVec.toNat_ofNat]
        simp
        omega
  rw [habs]
  unfold IntOp.cmpi
  have h1 := (hd (t - u + (u - t)) (by omega)).2
  have h2 : (128#32).toInt = 128 := by decide
  simp only [BitVec.sle_eq_decide, h1, h2]
  by_cases h : t ≤ u + 128 ∧ u ≤ t + 128
  · rw [if_pos h, decide_eq_true (by omega)]; rfl
  · rw [if_neg h, decide_eq_false (by omega)]; rfl

end Cert.Softmax
-- ==== Proof.GqaLocal.Ref.lean ====
module

public import proofs.«01_k».proof.Proof.Gen.ReferenceIdeal.Run
public import proofs.«01_k».proof.Proof.GqaLocal.Core
public import proofs.«01_k».proof.Proof.GqaLocal.Band
public import Idealize.ShloMosaic.Lib.Pipeline.ValueKit
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-! # The reference of the windowed attention, stage by stage and at an index -/

/-- The queries by batch, position, KV head and query of the group. -/
def refQ (q : FVec Ideal S20480x1024 .f32) : FVec Ideal S4x4096x4x4x64 .f32 :=
  (shapeCast _ (transpose S4x4096x2x2x4x64 [0, 1, 2, 4, 3, 5] (shapeCast _ (extractStridedSlice S16384x1024 ![4096, 0] q slices_S20480x1024_S16384x1024_4096_0) shapeCasts_S16384x1024_S4x4096x2x4x2x64) transposes_S4x4096x2x4x2x64_S4x4096x2x2x4x64_0_1_2_4_3_5) shapeCasts_S4x4096x2x2x4x64_S4x4096x4x4x64)

/-- The scaled scores against the latent keys, minus infinity outside the window. -/
def refL (q : FVec Ideal S20480x1024 .f32) (k : FVec Ideal S20480x256 .f32) : FVec Ideal S4x4x4x4096x4096 .f32 :=
  ((select (broadcastInDim S4x4x4x4096x4096 ![3, 4] bcast_S4096x4096_S4x4x4x4096x4096_3_4 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 128#32)))) (mulf (transpose S4x4x4x4096x4096 [0, 1, 4, 3, 2] (Host.dotGeneral dot_S4x4096x4x64_S4x4096x4x4x64_S4x4x4096x4096x4_3_4_1_13_02_02 none (shapeCast _ (extractStridedSlice S16384x256 ![4096, 0] k slices_S20480x256_S16384x256_4096_0) shapeCasts_S16384x256_S4x4096x4x64) (refQ q)) transposes_S4x4x4096x4096x4_S4x4x4x4096x4096_0_1_4_3_2) (broadcastInDim S4x4x4x4096x4096 ![] bcast_S_S4x4x4x4096x4096 (constant S_ .f32 0x3E000000#32))) (broadcastInDim S4x4x4x4096x4096 ![] bcast_S_S4x4x4x4096x4096 (id (constant S_ .f32 0xFF800000#32 : FVec Ideal S_ .f32)))) : (⟨S4x4x4x4096x4096, .f32⟩ : BufTy).Contents (Elt Ideal))

/-- The scaled scores against the context's keys. -/
def refC (q : FVec Ideal S20480x1024 .f32) (kc : FVec Ideal S4x256x4x64 .f32) : FVec Ideal S4x4x4x4096x256 .f32 :=
  ((mulf (transpose S4x4x4x4096x256 [0, 1, 4, 3, 2] (Host.dotGeneral dot_S4x256x4x64_S4x4096x4x4x64_S4x4x256x4096x4_3_4_1_13_02_02 none kc (refQ q)) transposes_S4x4x256x4096x4_S4x4x4x4096x256_0_1_4_3_2) (broadcastInDim S4x4x4x4096x256 ![] bcast_S_S4x4x4x4096x256 (constant S_ .f32 0x3E000000#32))) : (⟨S4x4x4x4096x256, .f32⟩ : BufTy).Contents (Elt Ideal))

/-- The sinks, one column. -/
def refK (sk : FVec Ideal S16 .f32) : FVec Ideal S4x4x4x4096x1 .f32 :=
  ((broadcastInDim S4x4x4x4096x1 ![0, 1, 2, 3, 4] bcast_S1x4x4x1x1_S4x4x4x4096x1_0_1_2_3_4 (broadcastInDim S1x4x4x1x1 ![1, 2] bcast_S4x4_S1x4x4x1x1_1_2 (shapeCast _ sk shapeCasts_S16_S4x4))) : (⟨S4x4x4x4096x1, .f32⟩ : BufTy).Contents (Elt Ideal))

/-- All the scores of a query. -/
def refS (L : FVec Ideal S4x4x4x4096x4096 .f32) (C : FVec Ideal S4x4x4x4096x256 .f32) (K : FVec Ideal S4x4x4x4096x1 .f32) :
    FVec Ideal S4x4x4x4096x4353 .f32 :=
  ((concatenate S4x4x4x4096x4353 4 [⟨S4x4x4x4096x4096, L⟩, ⟨S4x4x4x4096x256, C⟩, ⟨S4x4x4x4096x1, K⟩] concatenates_S4x4x4x4096x4096_S4x4x4x4096x256_S4x4x4x4096x1_S4x4x4x4096x4353_d4 : (⟨S4x4x4x4096x4353, .f32⟩ : BufTy).Contents (Elt Ideal)))

/-- The maximum of a query's scores. -/
def refM (S : FVec Ideal S4x4x4x4096x4353 .f32) : FVec Ideal S4x4x4x4096 .f32 :=
  maximumf (broadcastInDim S4x4x4x4096 ![] bcast_S_S4x4x4x4096 (constant S_ .f32 0xFF800000#32))
    (Host.reduce (α := Ideal .f32) FloatOps.maximumf S (constant S_ .f32 0xFF800000#32) reducesTo_S4x4x4x4096x4353_S4x4x4x4096_d4 h_S_)

/-- The exponentials. -/
def refE (S : FVec Ideal S4x4x4x4096x4353 .f32) : FVec Ideal S4x4x4x4096x4353 .f32 :=
  (Host.exp (subf S (broadcastInDim S4x4x4x4096x4353 ![0, 1, 2, 3, 4] bcast_S4x4x4x4096x1_S4x4x4x4096x4353_0_1_2_3_4 (broadcastInDim S4x4x4x4096x1 ![0, 1, 2, 3] bcast_S4x4x4x4096_S4x4x4x4096x1_0_1_2_3 (refM S)))))

/-- Their sum. -/
def refD (S : FVec Ideal S4x4x4x4096x4353 .f32) : FVec Ideal S4x4x4x4096 .f32 :=
  (Host.reduceAdd (refE S) (constant S_ .f32 0x00000000#32) reducesTo_S4x4x4x4096x4353_S4x4x4x4096_d4 h_S_)

/-- The weights. -/
def refP (S : FVec Ideal S4x4x4x4096x4353 .f32) : FVec Ideal S4x4x4x4096x4353 .f32 :=
  (Host.divf (refE S) (broadcastInDim S4x4x4x4096x4353 ![0, 1, 2, 3, 4] bcast_S4x4x4x4096x1_S4x4x4x4096x4353_0_1_2_3_4 (broadcastInDim S4x4x4x4096x1 ![0, 1, 2, 3] bcast_S4x4x4x4096_S4x4x4x4096x1_0_1_2_3 (refD S))))

/-- The weighted sums of the values, laid out as the result. -/
def refO (P : FVec Ideal S4x4x4x4096x4353 .f32) (v : FVec Ideal S20480x256 .f32) (vc : FVec Ideal S4x256x4x64 .f32) :
    FVec Ideal S16384x1024 .bf16 :=
  truncf .bf16 (shapeCast _ (transpose S4x4096x2x4x2x64 [0, 1, 2, 4, 3, 5] (shapeCast _ (addf (transpose S4x4096x4x4x64 [0, 4, 1, 3, 2] (Host.dotGeneral dot_S4x4096x4x64_S4x4x4x4096x4096_S4x4x64x4x4096_1_4_3_23_02_01 none (shapeCast _ (extractStridedSlice S16384x256 ![4096, 0] v slices_S20480x256_S16384x256_4096_0) shapeCasts_S16384x256_S4x4096x4x64) (extractStridedSlice S4x4x4x4096x4096 ![0, 0, 0, 0, 0] P slices_S4x4x4x4096x4353_S4x4x4x4096x4096_0_0_0_0_0)) transposes_S4x4x64x4x4096_S4x4096x4x4x64_0_4_1_3_2) (transpose S4x4096x4x4x64 [0, 4, 1, 3, 2] (Host.dotGeneral dot_S4x256x4x64_S4x4x4x4096x256_S4x4x64x4x4096_1_4_3_23_02_01 none vc (extractStridedSlice S4x4x4x4096x256 ![0, 0, 0, 0, 4096] P slices_S4x4x4x4096x4353_S4x4x4x4096x256_0_0_0_0_4096)) transposes_S4x4x64x4x4096_S4x4096x4x4x64_0_4_1_3_2)) shapeCasts_S4x4096x4x4x64_S4x4096x2x2x4x64) transposes_S4x4096x2x2x4x64_S4x4096x2x4x2x64_0_1_2_4_3_5) shapeCasts_S4x4096x2x4x2x64_S16384x1024) bitsLt_bf16_f32

/-- The result is these stages of the arguments. -/
theorem res_eq (m : (ℓ : Loc nD τ sig) → Buf (Elt Ideal) ℓ) (c : Dev nD) :
    res_main_v51 m c = refO (refP (refS (refL (m ((c.tc : Thread nD τ).loc main_arg1)) (m ((c.tc : Thread nD τ).loc main_arg2)))
      (refC (m ((c.tc : Thread nD τ).loc main_arg1)) (m ((c.tc : Thread nD τ).loc main_arg4))) (refK (m ((c.tc : Thread nD τ).loc main_arg0)))))
      (m ((c.tc : Thread nD τ).loc main_arg3)) (m ((c.tc : Thread nD τ).loc main_arg5)) := by
  unfold res_main_v51
  simp only [refO, refP, refD, refE, refM, refS, refK, refC, refL, refQ]
  rfl

variable (sk : FVec Ideal S16 .f32) (q : FVec Ideal S20480x1024 .f32) (k v : FVec Ideal S20480x256 .f32)
  (kc vc : FVec Ideal S4x256x4x64 .f32)

/-- The whole reference. -/
def REF : FVec Ideal S16384x1024 .bf16 := refO (refP (refS (refL q k) (refC q kc) (refK sk))) v vc

/-! ## At an index

Row `r` is query `r % 4096` of batch `r / 4096`; column `x` is lane `x % 64` of KV head `2 (x / 512) + x / 64 % 2` and
query `x / 128 % 4` of its group. -/

/-- A query's lane `d`. -/
def qAt (r : Fin 16384) (x : Fin 1024) (d : Fin 64) : EReal :=
  q (ix2 ⟨4096 + r, by omega⟩ ⟨x / 128 * 128 + x / 64 % 2 * 64 + d, by omega⟩)

/-- The KV head of a column. -/
def hd (x : Fin 1024) : ℕ := x / 512 * 2 + x / 64 % 2

theorem hd_lt (x : Fin 1024) : hd x < 4 := by unfold hd; omega

/-- The score of the latent key `u`. -/
def sA (r : Fin 16384) (x : Fin 1024) (u : Fin 4096) : EReal :=
  if (r : ℕ) % 4096 ≤ u + 128 ∧ (u : ℕ) ≤ r % 4096 + 128 then
    (∑ d : Fin 64, k (ix2 ⟨4096 + (r / 4096 * 4096 + u), by omega⟩ ⟨hd x * 64 + d, by have := hd_lt x; omega⟩) * qAt q r x d)
      * (((1 : ℝ) / 8 : ℝ) : EReal)
  else ⊥

/-- The score of the context's key `u`. -/
def sC (r : Fin 16384) (x : Fin 1024) (u : Fin 256) : EReal :=
  (∑ d : Fin 64, kc (ix4 ⟨r / 4096, by omega⟩ u ⟨hd x, hd_lt x⟩ d) * qAt q r x d) * (((1 : ℝ) / 8 : ℝ) : EReal)

/-- The sink. -/
def sS (x : Fin 1024) : EReal := sk (ix1 ⟨hd x * 4 + x / 128 % 4, by have := hd_lt x; omega⟩)

/-- The latent values' and the context's values' lane. -/
def vA (r : Fin 16384) (x : Fin 1024) (u : Fin 4096) : EReal :=
  v (ix2 ⟨4096 + (r / 4096 * 4096 + u), by omega⟩ ⟨hd x * 64 + x % 64, by have := hd_lt x; omega⟩)

def vC (r : Fin 16384) (x : Fin 1024) (u : Fin 256) : EReal :=
  vc (ix4 ⟨r / 4096, by omega⟩ u ⟨hd x, hd_lt x⟩ ⟨x % 64, by omega⟩)

theorem refQ_at (b : Fin 4) (t : Fin 4096) (n g : Fin 4) (d : Fin 64) :
    refQ q (ix5 b t n g d)
      = q (ix2 ⟨4096 + (b * 4096 + t), by omega⟩ ⟨n / 2 * 512 + g * 128 + n % 2 * 64 + d, by omega⟩) := by
  pointwise [refQ]

theorem refL_at (b : Fin 4) (t u : Fin 4096) (n g : Fin 4) :
    refL q k (ix5 b n g t u)
      = if (t : ℕ) ≤ u + 128 ∧ (u : ℕ) ≤ t + 128 then
          (∑ d : Fin 64, k (ix2 ⟨4096 + (b * 4096 + u), by omega⟩ ⟨n * 64 + d, by omega⟩) * refQ q (ix5 b t n g d))
            * (((1 : ℝ) / 8 : ℝ) : EReal)
        else ⊥ := by
  pointwise [refL]
  rw [Cert.Softmax.band_eq t u (by omega) (by omega), Cert.Softmax.ofBits_eighth]
  unfold Scalar.select
  by_cases h : (t : ℕ) ≤ u + 128 ∧ (u : ℕ) ≤ t + 128
  · rw [if_pos h, if_pos h]; rfl
  · rw [if_neg h, if_neg h]; exact Cert.Softmax.ofBits_neg_inf

theorem refC_at (b : Fin 4) (t : Fin 4096) (u : Fin 256) (n g : Fin 4) :
    refC q kc (ix5 b n g t u)
      = (∑ d : Fin 64, kc (ix4 b u n d) * refQ q (ix5 b t n g d)) * (((1 : ℝ) / 8 : ℝ) : EReal) := by
  rw [← Cert.Softmax.ofBits_eighth]
  pointwise [refC]

theorem refK_at (b : Fin 4) (t : Fin 4096) (n g : Fin 4) (z : Fin 1) :
    refK sk (ix5 b n g t z) = sk (ix1 ⟨n * 4 + g, by omega⟩) := by
  pointwise [refK]

theorem refS_at (L : FVec Ideal S4x4x4x4096x4096 .f32) (C : FVec Ideal S4x4x4x4096x256 .f32) (K : FVec Ideal S4x4x4x4096x1 .f32)
    (b : Fin 4) (t : Fin 4096) (n g : Fin 4) (j : Fin 4353) :
    refS L C K (ix5 b n g t j)
      = if h : (j : ℕ) < 4096 then L (ix5 b n g t ⟨j, h⟩)
        else if h : (j : ℕ) - 4096 < 256 then C (ix5 b n g t ⟨j - 4096, h⟩) else K (ix5 b n g t ⟨j - 4096 - 256, by omega⟩) := by
  pointwise [refS]

/-- The operand indices that keep four coordinates, along the last axis. -/
theorem fiber_at (S : FVec Ideal S4x4x4x4096x4353 .f32) (z : EReal) (b : Fin 4) (t : Fin 4096) (n g : Fin 4) :
    (Finset.univ.filter (fun i => (reducesTo_S4x4x4x4096x4353_S4x4x4x4096_d4).drop i = (ix4 b n g t))).fold max z S
      = Finset.univ.fold max z (fun j => S (ix5 b n g t j)) := by
  rw [Shape.ReducesTo.fold_fiber_r5_a4 reducesTo_S4x4x4x4096x4353_S4x4x4x4096_d4 (ix4 b n g t) (max : EReal → EReal → EReal) z S]
  refine congrArg (fun f => Finset.univ.fold max z f) (funext fun j => congrArg S ?_)
  rfl

theorem reduce_max_at (S : FVec Ideal S4x4x4x4096x4353 .f32) (i : FVec Ideal S_ .f32) (b : Fin 4) (t : Fin 4096) (n g : Fin 4) :
    Host.reduce (α := EReal) max S i reducesTo_S4x4x4x4096x4353_S4x4x4x4096_d4 h_S_ (ix4 b n g t)
      = Finset.univ.fold max (i (Shape.Idx.first h_S_)) (fun j => S (ix5 b n g t j)) := by
  rw [Host.reduce_eq_fold (max : EReal → EReal → EReal) S i _ _ _]
  exact fiber_at S _ b t n g

theorem refM_at (S : FVec Ideal S4x4x4x4096x4353 .f32) (b : Fin 4) (t : Fin 4096) (n g : Fin 4) :
    refM S (ix4 b n g t) = max ⊥ (Finset.fold max ⊥ (fun j => S (ix5 b n g t j)) Finset.univ) := by
  have hop : (FloatOps.maximumf : Ideal .f32 → Ideal .f32 → Ideal .f32) = (max : EReal → EReal → EReal) := rfl
  unfold refM
  rw [maximumf_apply, hop, reduce_max_at]
  pointwise
  rw [Cert.Softmax.ofBits_neg_inf]

theorem refE_at (S : FVec Ideal S4x4x4x4096x4353 .f32) (b : Fin 4) (t : Fin 4096) (n g : Fin 4) (j : Fin 4353) :
    refE S (ix5 b n g t j) = Ideal.exp (S (ix5 b n g t j) - refM S (ix4 b n g t)) := by
  pointwise [refE]

theorem refD_at (S : FVec Ideal S4x4x4x4096x4353 .f32) (b : Fin 4) (t : Fin 4096) (n g : Fin 4) :
    refD S (ix4 b n g t) = ∑ j, refE S (ix5 b n g t j) := by
  pointwise [refD]

theorem refP_at (S : FVec Ideal S4x4x4x4096x4353 .f32) (b : Fin 4) (t : Fin 4096) (n g : Fin 4) (j : Fin 4353) :
    refP S (ix5 b n g t j) = Ideal.div (refE S (ix5 b n g t j)) (refD S (ix4 b n g t)) := by
  pointwise [refP]

theorem refO_at (P : FVec Ideal S4x4x4x4096x4353 .f32) (r : Fin 16384) (x : Fin 1024) :
    refO P v vc (ix2 r x)
      = ∑ u, vA v r x u * P (ix5 ⟨r / 4096, by omega⟩ ⟨hd x, hd_lt x⟩ ⟨x / 128 % 4, by omega⟩ ⟨r % 4096, by omega⟩ ⟨u, by omega⟩)
        + ∑ u, vC vc r x u
            * P (ix5 ⟨r / 4096, by omega⟩ ⟨hd x, hd_lt x⟩ ⟨x / 128 % 4, by omega⟩ ⟨r % 4096, by omega⟩ ⟨4096 + u, by omega⟩) := by
  pointwise [refO]
  rfl

/-- A row's scores, in the order the reference concatenates them. -/
theorem row_scores (r : Fin 16384) (x : Fin 1024) (j : Fin 4353) :
    refS (refL q k) (refC q kc) (refK sk)
        (ix5 ⟨r / 4096, by omega⟩ ⟨hd x, hd_lt x⟩ ⟨x / 128 % 4, by omega⟩ ⟨r % 4096, by omega⟩ j)
      = Cert.Softmax.scores (sA q k r x) (sC q kc r x) (sS sk x) j := by
  have hq : ∀ d : Fin 64, refQ q (ix5 ⟨r / 4096, by omega⟩ ⟨r % 4096, by omega⟩ ⟨hd x, hd_lt x⟩ ⟨x / 128 % 4, by omega⟩ d)
      = qAt q r x d := fun d => by
    rw [refQ_at]
    unfold qAt hd
    congr 2
    · exact Fin.ext (by simp only; omega)
    · exact Fin.ext (by simp only; omega)
  rw [refS_at]
  unfold Cert.Softmax.scores
  split
  · rw [refL_at]; simp only [hq]; rfl
  · split
    · rw [refC_at]; simp only [hq]; rfl
    · rw [refK_at]; rfl

/-- The reference at an index: the values times the softmax's weights. -/
theorem REF_at (r : Fin 16384) (x : Fin 1024) :
    REF sk q k v kc vc (ix2 r x)
      = ∑ u, vA v r x u * Ideal.div
            (Ideal.exp (sA q k r x u - max ⊥ (Finset.univ.fold max ⊥ (Cert.Softmax.scores (sA q k r x) (sC q kc r x) (sS sk x)))))
            (∑ j, Ideal.exp (Cert.Softmax.scores (sA q k r x) (sC q kc r x) (sS sk x) j
              - max ⊥ (Finset.univ.fold max ⊥ (Cert.Softmax.scores (sA q k r x) (sC q kc r x) (sS sk x)))))
        + ∑ u, vC vc r x u * Ideal.div
            (Ideal.exp (sC q kc r x u - max ⊥ (Finset.univ.fold max ⊥ (Cert.Softmax.scores (sA q k r x) (sC q kc r x) (sS sk x)))))
            (∑ j, Ideal.exp (Cert.Softmax.scores (sA q k r x) (sC q kc r x) (sS sk x) j
              - max ⊥ (Finset.univ.fold max ⊥ (Cert.Softmax.scores (sA q k r x) (sC q kc r x) (sS sk x))))) := by
  have eA : ∀ u : Fin 4096, Cert.Softmax.scores (sA q k r x) (sC q kc r x) (sS sk x) ⟨u, by omega⟩ = sA q k r x u := fun u => by
    simp [Cert.Softmax.scores]
  have eC : ∀ u : Fin 256, Cert.Softmax.scores (sA q k r x) (sC q kc r x) (sS sk x) ⟨4096 + u, by omega⟩ = sC q kc r x u := fun u => by
    simp [Cert.Softmax.scores]
  unfold REF
  rw [refO_at]
  simp only [refP_at, refD_at, refE_at, refM_at, row_scores, eA, eC]

end Cert.ReferenceIdeal.Value
-- ==== Proof.GqaLocal.Pure.lean ====
module

public import proofs.«01_k».proof.Proof.GqaLocal.Stores
public import proofs.«01_k».proof.Proof.GqaLocal.Ref

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-! # One stored element is the reference's

A stored block holds two query heads; lane `y` of 128 belongs to the first KV head of the pair below 64, else to the second. -/

/-- The named mask is minus infinity. -/
theorem mask_eq : (Named.named κ "mask" 0xF149F2CA#32 : Ideal .f32) = (⊥ : EReal) := rfl

/-- Masking 128 lanes to one half leaves the sum over that half's 64. -/
theorem sum_half (h : ℕ) (hh : h < 2) (f : Fin 128 → EReal) (b : Fin 128 → BitVec 1)
    (hb : ∀ y : Fin 128, b y = if (y : ℕ) / 64 = h then 1#1 else 0#1) :
    ∑ y, Scalar.select (b y) (f y) 0 = ∑ d : Fin 64, f ⟨h * 64 + d, by omega⟩ := by
  have hs : ∀ y, Scalar.select (b y) (f y) (0 : EReal) = if (y : ℕ) / 64 = h then f y else 0 := fun y => by
    rw [hb]; unfold Scalar.select
    by_cases hy : (y : ℕ) / 64 = h
    · rw [if_pos hy, if_pos hy]; rfl
    · rw [if_neg hy, if_neg hy]; rfl
  rw [Finset.sum_congr rfl fun y _ => hs y]
  have h1 : ∑ y : Fin 128, (if (y : ℕ) / 64 = h then f y else 0)
      = ∑ d : Fin 64, (if ((Fin.castAdd 64 d : Fin (64 + 64)) : ℕ) / 64 = h then f (Fin.castAdd 64 d) else 0)
        + ∑ d : Fin 64, (if ((Fin.natAdd 64 d : Fin (64 + 64)) : ℕ) / 64 = h then f (Fin.natAdd 64 d) else 0) :=
    Fin.sum_univ_add (a := 64) (b := 64) (fun y : Fin (64 + 64) => if (y : ℕ) / 64 = h then f y else 0)
  rw [h1]
  rcases (by omega : h = 0 ∨ h = 1) with rfl | rfl
  · have e1 : ∀ d : Fin 64, ((Fin.castAdd 64 d : Fin (64 + 64)) : ℕ) / 64 = 0 := fun d => by simp only [Fin.val_castAdd]; omega
    have e2 : ∀ d : Fin 64, ¬ ((Fin.natAdd 64 d : Fin (64 + 64)) : ℕ) / 64 = 0 := fun d => by simp only [Fin.val_natAdd]; omega
    simp only [e1, e2, if_true, if_false, Finset.sum_const_zero, add_zero]
    exact Finset.sum_congr rfl fun d _ => congrArg f (Fin.ext (by simp))
  · have e1 : ∀ d : Fin 64, ¬ ((Fin.castAdd 64 d : Fin (64 + 64)) : ℕ) / 64 = 1 := fun d => by simp only [Fin.val_castAdd]; omega
    have e2 : ∀ d : Fin 64, ((Fin.natAdd 64 d : Fin (64 + 64)) : ℕ) / 64 = 1 := fun d => by simp only [Fin.val_natAdd]; omega
    simp only [e1, e2, if_true, if_false, Finset.sum_const_zero, zero_add]
    exact Finset.sum_congr rfl fun d _ => congrArg f (Fin.ext (by simp; omega))

variable (lanes : IVec S256x128 1) (b : IVec S256x512 1) (qb : FVec Ideal S256x128 .bf16) (kc : FVec Ideal S256x128 .bf16)
  (vc : FVec Ideal S256x256 .bf16) (kl : FVec Ideal S512x128 .bf16) (vl : FVec Ideal S512x256 .bf16) (s s' : Ideal .f32)

/-- The scores against the context, and against the window. -/
def kC (h : ℕ) (hh : h < 2) (ρ : Fin 256) (c : Fin 256) : EReal :=
  ∑ d : Fin 64, qb (ix2 ρ ⟨h * 64 + d, by omega⟩) * kc (ix2 c ⟨h * 64 + d, by omega⟩)

def kL (h : ℕ) (hh : h < 2) (ρ : Fin 256) (l : Fin 512) : EReal :=
  Scalar.select (b (ix2 ρ l)) (∑ d : Fin 64, qb (ix2 ρ ⟨h * 64 + d, by omega⟩) * kl (ix2 l ⟨h * 64 + d, by omega⟩)) ⊥

def kM (h : ℕ) (hh : h < 2) (ρ : Fin 256) : EReal :=
  max (max (Finset.univ.fold max ⊥ (kC qb kc h hh ρ)) s) (Finset.univ.fold max ⊥ (kL b qb kl h hh ρ))

/-- One head's element. -/
theorem head_at (h : ℕ) (hh : h < 2) (ρ : Fin 256) (x : Fin 128)
    (hl : ∀ y : Fin 128, lanes (ix2 ρ y) = if (y : ℕ) / 64 = h then 1#1 else 0#1)
    (hv : ∀ c : Fin 256, vc (ix2 c ⟨128 + x, by omega⟩) = (1 : EReal))
    (hv' : ∀ l : Fin 512, vl (ix2 l ⟨128 + x, by omega⟩) = (1 : EReal)) :
    headK lanes b qb kc vc kl vl s (ix2 ρ x)
      = Ideal.div
          (∑ c, Ideal.exp (kC qb kc h hh ρ c - kM b qb kc kl s h hh ρ) * vc (ix2 c ⟨x, by omega⟩)
            + ∑ l, Ideal.exp (kL b qb kl h hh ρ l - kM b qb kc kl s h hh ρ) * vl (ix2 l ⟨x, by omega⟩))
          (∑ c, Ideal.exp (kC qb kc h hh ρ c - kM b qb kc kl s h hh ρ)
            + ∑ l, Ideal.exp (kL b qb kl h hh ρ l - kM b qb kc kl s h hh ρ) + Ideal.exp (s - kM b qb kc kl s h hh ρ)) := by
  have eC : ∀ c : Fin 256, ∑ y, Scalar.select (lanes (ix2 ρ y)) (qb (ix2 ρ y) * kc (ix2 c y)) (0 : EReal) = kC qb kc h hh ρ c :=
    fun c => sum_half h hh (fun y => qb (ix2 ρ y) * kc (ix2 c y)) (fun y => lanes (ix2 ρ y)) hl
  have eL : ∀ l : Fin 512, Scalar.select (b (ix2 ρ l))
      (∑ y, Scalar.select (lanes (ix2 ρ y)) (qb (ix2 ρ y) * kl (ix2 l y)) (0 : EReal)) (⊥ : EReal) = kL b qb kl h hh ρ l :=
    fun l => congrArg (fun z => Scalar.select (b (ix2 ρ l)) z (⊥ : EReal))
      (sum_half h hh (fun y => qb (ix2 ρ y) * kl (ix2 l y)) (fun y => lanes (ix2 ρ y)) hl)
  pointwise [headK]
  simp only [hv, hv', mul_one]
  have hm := mask_eq
  simp only [hm, Cert.Softmax.ofBits_neg_inf, eC, eL]
  rfl

/-- The two heads' lanes. -/
theorem lanes_lo (ρ : Fin 256) (y : Fin 128) : k0_pay2 (ix2 ρ y) = if (y : ℕ) / 64 = 0 then 1#1 else 0#1 := by
  pointwise [k0_pay2]
  unfold IntOp.cmpi
  have h1 : (BitVec.ofNat 32 (y : ℕ)).toInt = (y : ℕ) := by
    rw [BitVec.toInt_eq_toNat_cond, BitVec.toNat_ofNat, Nat.mod_eq_of_lt (by omega), if_pos (by omega)]
  have h2 : (64#32).toInt = 64 := by decide
  simp only [BitVec.slt_eq_decide, h1, h2]
  by_cases h : (y : ℕ) / 64 = 0
  · rw [if_pos h, decide_eq_true (by omega)]; rfl
  · rw [if_neg h, decide_eq_false (by omega)]; rfl

theorem lanes_hi (ρ : Fin 256) (y : Fin 128) : laneHi (ix2 ρ y) = if (y : ℕ) / 64 = 1 then 1#1 else 0#1 := by
  have e : laneHi (ix2 ρ y) = IntOp.xori (k0_pay2 (ix2 ρ y)) 1#1 := by pointwise [laneHi]
  rw [e, lanes_lo]
  by_cases h : (y : ℕ) / 64 = 0
  · rw [if_pos h, if_neg (by omega)]; rfl
  · rw [if_neg h, if_pos (by omega)]; rfl

/-- A score of the kernel, whose queries carry the factor 1/8, is the reference's. -/
theorem score_eq (Q K : Fin 64 → EReal) :
    ∑ d, (Q d * (((1 : ℝ) / 8 : ℝ) : EReal)) * K d = (∑ d, K d * Q d) * (((1 : ℝ) / 8 : ℝ) : EReal) := by
  rw [Cert.Softmax.sum_mul_coe _ _ _ (by norm_num)]
  exact Finset.sum_congr rfl fun d _ => by rw [mul_right_comm, mul_comm (Q d)]

/-- A sum of products of reals is no infinity. -/
theorem score_real (Q K : Fin 64 → EReal) (hQ : ∀ d, Q d ≠ ⊤ ∧ Q d ≠ ⊥) (hK : ∀ d, K d ≠ ⊤ ∧ K d ≠ ⊥) :
    (∑ d, K d * Q d) * (((1 : ℝ) / 8 : ℝ) : EReal) ≠ ⊤ ∧ (∑ d, K d * Q d) * (((1 : ℝ) / 8 : ℝ) : EReal) ≠ ⊥ := by
  have h : ∀ d, K d * Q d = (((K d).toReal * (Q d).toReal : ℝ) : EReal) := fun d => by
    rw [EReal.coe_mul, EReal.coe_toReal (hK d).1 (hK d).2, EReal.coe_toReal (hQ d).1 (hQ d).2]
  rw [Finset.sum_congr rfl fun d _ => h d, Cert.Softmax.coe_sum, ← EReal.coe_mul]
  exact ⟨EReal.coe_ne_top _, EReal.coe_ne_bot _⟩

section Element

open Cert.ReferenceIdeal.Value

variable (sk : FVec Ideal Cert.ReferenceIdeal.S16 .f32) (q : FVec Ideal Cert.ReferenceIdeal.S20480x1024 .f32)
  (k v : FVec Ideal Cert.ReferenceIdeal.S20480x256 .f32) (kcA vcA : FVec Ideal Cert.ReferenceIdeal.S4x256x4x64 .f32)

/-- What the claim supposes: finite queries and keys of the latent tokens, finite context keys, a sink below plus infinity. -/
structure Fin5 : Prop where
  sk : ∀ i, (sk i : EReal) ≠ ⊤
  q : ∀ (r : Fin 16384) (x : Fin 1024), (q (ix2 ⟨4096 + r, by omega⟩ x) : EReal) ≠ ⊤ ∧ (q (ix2 ⟨4096 + r, by omega⟩ x) : EReal) ≠ ⊥
  k : ∀ (r : Fin 16384) (x : Fin 256), (k (ix2 ⟨4096 + r, by omega⟩ x) : EReal) ≠ ⊤ ∧ (k (ix2 ⟨4096 + r, by omega⟩ x) : EReal) ≠ ⊥
  kc : ∀ i, (kcA i : EReal) ≠ ⊤ ∧ (kcA i : EReal) ≠ ⊥

/-- One head's element is the reference's, if what it reads are the arrays' elements and the window holds every key in reach. -/
theorem head_eq (hf : Fin5 sk q k kcA) (r : Fin 16384) (X : Fin 1024) (ρ : Fin 256) (x : Fin 128) (hx : (x : ℕ) = X % 128)
    (w : ℕ) (hw : w + 512 ≤ 4096) (hwin : ∀ u : ℕ, u < 4096 → (u < w ∨ w + 512 ≤ u) → ¬ ((r : ℕ) % 4096 ≤ u + 128 ∧ u ≤ (r : ℕ) % 4096 + 128))
    (hl : ∀ y : Fin 128, lanes (ix2 ρ y) = if (y : ℕ) / 64 = (X : ℕ) / 64 % 2 then 1#1 else 0#1)
    (hb : ∀ l : Fin 512, b (ix2 ρ l) = if (r : ℕ) % 4096 ≤ (w + l) + 128 ∧ w + l ≤ (r : ℕ) % 4096 + 128 then 1#1 else 0#1)
    (hqb : ∀ y : Fin 128, qb (ix2 ρ y) = q (ix2 ⟨4096 + r, by omega⟩ ⟨X / 128 * 128 + y, by omega⟩) * (((1 : ℝ) / 8 : ℝ) : EReal))
    (hkc : ∀ (c : Fin 256) (y : Fin 128), kc (ix2 c y) = kcA (ix4 ⟨r / 4096, by omega⟩ c ⟨X / 512 * 2 + y / 64, by omega⟩ ⟨y % 64, by omega⟩))
    (hvc : ∀ (c : Fin 256) (y : Fin 128), vc (ix2 c ⟨y, by omega⟩) = vcA (ix4 ⟨r / 4096, by omega⟩ c ⟨X / 512 * 2 + y / 64, by omega⟩ ⟨y % 64, by omega⟩))
    (hvc1 : ∀ (c : Fin 256) (y : Fin 128), vc (ix2 c ⟨128 + y, by omega⟩) = (1 : EReal))
    (hkl : ∀ (l : Fin 512) (y : Fin 128), kl (ix2 l y) = k (ix2 ⟨4096 + (r / 4096 * 4096 + (w + l)), by omega⟩ ⟨X / 512 * 128 + y, by omega⟩))
    (hvl : ∀ (l : Fin 512) (y : Fin 128), vl (ix2 l ⟨y, by omega⟩) = v (ix2 ⟨4096 + (r / 4096 * 4096 + (w + l)), by omega⟩ ⟨X / 512 * 128 + y, by omega⟩))
    (hvl1 : ∀ (l : Fin 512) (y : Fin 128), vl (ix2 l ⟨128 + y, by omega⟩) = (1 : EReal))
    (hs : s = sS sk X) :
    headK lanes b qb kc vc kl vl s (ix2 ρ x) = REF sk q k v kcA vcA (ix2 r X) := by
  have hh : (X : ℕ) / 64 % 2 < 2 := by omega
  have hq : ∀ d : Fin 64, qb (ix2 ρ ⟨X / 64 % 2 * 64 + d, by omega⟩) = qAt q r X d * (((1 : ℝ) / 8 : ℝ) : EReal) := fun d => by
    rw [hqb]; unfold qAt
    refine congrArg (fun i => q (ix2 _ i) * (((1 : ℝ) / 8 : ℝ) : EReal)) (Fin.ext ?_)
    simp only; omega
  have eC : kC qb kc (X / 64 % 2) hh ρ = sC q kcA r X := by
    funext c
    unfold kC sC
    rw [← score_eq]
    refine Finset.sum_congr rfl fun d _ => ?_
    rw [hq, hkc]
    refine congrArg (fun z => qAt q r X d * (((1 : ℝ) / 8 : ℝ) : EReal) * z) (congrArg₂ (fun i j => kcA (ix4 _ c i j)) (Fin.ext ?_) (Fin.ext ?_))
    · unfold hd; simp only; omega
    · simp only; omega
  have eL : kL b qb kl (X / 64 % 2) hh ρ = fun l : Fin 512 => sA q k r X ⟨w + l, by omega⟩ := by
    funext l
    unfold kL sA
    rw [hb]
    unfold Scalar.select
    simp only
    by_cases hc : (r : ℕ) % 4096 ≤ (w + l) + 128 ∧ w + l ≤ (r : ℕ) % 4096 + 128
    · rw [if_pos hc, if_pos hc, if_pos (by decide), ← score_eq]
      refine Finset.sum_congr rfl fun d _ => ?_
      rw [hq, hkl]
      refine congrArg (fun z => qAt q r X d * (((1 : ℝ) / 8 : ℝ) : EReal) * z) (congrArg (fun i => k (ix2 _ i)) (Fin.ext ?_))
      unfold hd; simp only; omega
    · rw [if_neg hc, if_neg hc]; rfl
  have eM : kM b qb kc kl s (X / 64 % 2) hh ρ
      = max (max (Finset.univ.fold max ⊥ (sC q kcA r X)) (sS sk X))
          (Finset.univ.fold max ⊥ (fun l : Fin 512 => sA q k r X ⟨w + l, by omega⟩)) := by
    unfold kM; rw [eC, eL, hs]
  have eV : ∀ l : Fin 512, vl (ix2 l ⟨x, by omega⟩) = vA v r X ⟨w + l, by omega⟩ := fun l => by
    rw [hvl]; unfold vA
    refine congrArg (fun i => v (ix2 _ i)) (Fin.ext ?_)
    unfold hd; simp only; omega
  have eW : ∀ c : Fin 256, vc (ix2 c ⟨x, by omega⟩) = vC vcA r X c := fun c => by
    rw [hvc]; unfold vC
    refine congrArg₂ (fun i j => vcA (ix4 _ c i j)) (Fin.ext ?_) (Fin.ext ?_)
    · unfold hd; simp only; omega
    · simp only; omega
  rw [head_at lanes b qb kc vc kl vl s (X / 64 % 2) hh ρ x hl (fun c => hvc1 c x) (fun l => hvl1 l x), REF_at, eM]
  simp only [eC, eL, eV, eW]
  rw [hs]
  refine Cert.Softmax.windowed (sA q k r X) (sC q kcA r X) (sS sk X) (vA v r X) (vC vcA r X) w hw ?_ ?_ ?_ ?_ ?_ _ _ rfl rfl
  · intro u hu
    unfold sA
    exact if_neg (hwin u u.isLt hu)
  · intro u
    unfold sA
    split
    · exact (score_real _ _ (fun d => hf.q r _) (fun d => hf.k ⟨r / 4096 * 4096 + u, by omega⟩ _)).1
    · exact bot_ne_top
  · intro c
    exact (score_real _ _ (fun d => hf.q r _) (fun d => hf.kc _)).1
  · exact (score_real _ _ (fun d => hf.q r _) (fun d => hf.kc _)).2
  · exact hf.sk _

/-- A stored element of a pair of heads is the reference's. -/
theorem pair_eq (hf : Fin5 sk q k kcA) (r : Fin 16384) (X : Fin 1024) (ρ : Fin 256) (x : Fin 128) (hx : (x : ℕ) = X % 128)
    (w : ℕ) (hw : w + 512 ≤ 4096) (hwin : ∀ u : ℕ, u < 4096 → (u < w ∨ w + 512 ≤ u) → ¬ ((r : ℕ) % 4096 ≤ u + 128 ∧ u ≤ (r : ℕ) % 4096 + 128))
    (hb : ∀ l : Fin 512, b (ix2 ρ l) = if (r : ℕ) % 4096 ≤ (w + l) + 128 ∧ w + l ≤ (r : ℕ) % 4096 + 128 then 1#1 else 0#1)
    (hqb : ∀ y : Fin 128, qb (ix2 ρ y) = q (ix2 ⟨4096 + r, by omega⟩ ⟨X / 128 * 128 + y, by omega⟩) * (((1 : ℝ) / 8 : ℝ) : EReal))
    (hkc : ∀ (c : Fin 256) (y : Fin 128), kc (ix2 c y) = kcA (ix4 ⟨r / 4096, by omega⟩ c ⟨X / 512 * 2 + y / 64, by omega⟩ ⟨y % 64, by omega⟩))
    (hvc : ∀ (c : Fin 256) (y : Fin 128), vc (ix2 c ⟨y, by omega⟩) = vcA (ix4 ⟨r / 4096, by omega⟩ c ⟨X / 512 * 2 + y / 64, by omega⟩ ⟨y % 64, by omega⟩))
    (hvc1 : ∀ (c : Fin 256) (y : Fin 128), vc (ix2 c ⟨128 + y, by omega⟩) = (1 : EReal))
    (hkl : ∀ (l : Fin 512) (y : Fin 128), kl (ix2 l y) = k (ix2 ⟨4096 + (r / 4096 * 4096 + (w + l)), by omega⟩ ⟨X / 512 * 128 + y, by omega⟩))
    (hvl : ∀ (l : Fin 512) (y : Fin 128), vl (ix2 l ⟨y, by omega⟩) = v (ix2 ⟨4096 + (r / 4096 * 4096 + (w + l)), by omega⟩ ⟨X / 512 * 128 + y, by omega⟩))
    (hvl1 : ∀ (l : Fin 512) (y : Fin 128), vl (ix2 l ⟨128 + y, by omega⟩) = (1 : EReal))
    (hs : s = sk (ix1 ⟨X / 512 * 8 + X / 128 % 4, by omega⟩)) (hs' : s' = sk (ix1 ⟨X / 512 * 8 + 4 + X / 128 % 4, by omega⟩)) :
    pairK b qb kc vc kl vl s s' (ix2 ρ x) = REF sk q k v kcA vcA (ix2 r X) := by
  have e : pairK b qb kc vc kl vl s s' (ix2 ρ x) = Scalar.select (k0_pay2 (ix2 ρ x)) (headK k0_pay2 b qb kc vc kl vl s (ix2 ρ x))
      (headK laneHi b qb kc vc kl vl s' (ix2 ρ x)) := by pointwise [pairK]
  rw [e, lanes_lo]
  unfold Scalar.select
  by_cases h : (x : ℕ) / 64 = 0
  · rw [if_pos h, if_pos (by decide)]
    have h0 : (X : ℕ) / 64 % 2 = 0 := by omega
    refine head_eq k0_pay2 b qb kc vc kl vl s sk q k v kcA vcA hf r X ρ x hx w hw hwin ?_ hb hqb hkc hvc hvc1 hkl hvl hvl1 ?_
    · rw [h0]; exact lanes_lo ρ
    · rw [hs]; unfold sS
      refine congrArg (fun i => sk (ix1 i)) (Fin.ext ?_)
      unfold hd; simp only; omega
  · rw [if_neg h, if_neg (by decide)]
    have h0 : (X : ℕ) / 64 % 2 = 1 := by omega
    refine head_eq laneHi b qb kc vc kl vl s' sk q k v kcA vcA hf r X ρ x hx w hw hwin ?_ hb hqb hkc hvc hvc1 hkl hvl hvl1 ?_
    · rw [h0]; exact lanes_hi ρ
    · rw [hs']; unfold sS
      refine congrArg (fun i => sk (ix1 i)) (Fin.ext ?_)
      unfold hd; simp only; omega

end Element

end Cert.KernelIdeal.Value
-- ==== Proof.GqaLocal.Reads.lean ====
module

public import proofs.«01_k».proof.Proof.GqaLocal.Band
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-! # What a point of the windowed attention reads

Point `t` handles the query rows `256 t … 256 t + 255` of the generated part, which begins at row 4096 of the queries. Batch
`t / 16` has its keys and values at rows `4096 (1 + t / 16) …`, and its context at rows `256 (t / 16) …`. -/

variable (m : (ℓ : Loc nD τ sig) → Buf (Elt Ideal) ℓ)

/-- The blocks each point stages. -/
theorem idx : ∀ t : Fin cfg0.N, win0_0.index t = ![0] ∧ win0_1.index t = ![16 + t.val, 0] ∧ win0_2.index t = ![1 + t.val / 16, 0]
    ∧ win0_3.index t = ![1 + t.val / 16, 0] ∧ win0_4.index t = ![t.val / 16, 0] ∧ win0_5.index t = ![t.val / 16, 0]
    ∧ win0_6.index t = ![t.val, 0] ∧ (grid0.coords t 1).val = t.val % 16 ∧ t.val < 64 :=
  (by decide +kernel : ∀ t : Fin grid0.N, _)

/-- The window's first row. -/
def wbase (t : ℕ) : ℕ := min 3584 (t % 16 * 256 - 128)

theorem offs : ∀ t : Fin cfg0.N, k0_off1 (grid0.coords t) = ![wbase t, 0] ∧ k0_off2 (grid0.coords t) = ![wbase t, 0]
    ∧ k0_off3 (grid0.coords t) = ![wbase t, 128] ∧ k0_off4 (grid0.coords t) = ![wbase t, 256] :=
  (by decide +kernel : ∀ t : Fin grid0.N, _)

/-- The argument arrays. -/
abbrev aSk (c : Dev nD) : FVec Ideal S16 .f32 := m ((c : Thread nD τ).loc main_arg0)
abbrev aQ (c : Dev nD) : FVec Ideal S20480x1024 .f32 := m ((c : Thread nD τ).loc main_arg1)
abbrev aK (c : Dev nD) : FVec Ideal S20480x256 .f32 := m ((c : Thread nD τ).loc main_arg2)
abbrev aV (c : Dev nD) : FVec Ideal S20480x256 .f32 := m ((c : Thread nD τ).loc main_arg3)
abbrev aKc (c : Dev nD) : FVec Ideal S4x256x4x64 .f32 := m ((c : Thread nD τ).loc main_arg4)
abbrev aVc (c : Dev nD) : FVec Ideal S4x256x4x64 .f32 := m ((c : Thread nD τ).loc main_arg5)

/-- The sinks. -/
theorem iblk0 (c : Dev nD) (t : Fin cfg0.N) (x : Fin 16) : iblk m c 0 t (ix1 x) = aSk m c (ix1 x) := by
  blk_ext [iblk, V, idx t]

/-- The queries, with the factor 1/8. -/
theorem iblk1 (c : Dev nD) (t : Fin cfg0.N) (ρ : Fin 256) (y : Fin 1024) (h : 4096 + (t.val * 256 + ρ) < 20480) :
    (iblk m c 1 t (ix2 ρ y) : EReal)
      = aQ m c (ix2 ⟨4096 + (t.val * 256 + ρ), h⟩ y) * (((1 : ℝ) / 8 : ℝ) : EReal) := by
  rw [← Cert.Softmax.ofBits_eighth]
  blk_simp [iblk]
  entry_read
  pointwise
  blk_point [idx t]

/-- The keys. -/
theorem iblk2 (c : Dev nD) (t : Fin cfg0.N) (u : Fin 4096) (y : Fin 256) (h : 4096 + (t.val / 16 * 4096 + u) < 20480) :
    (iblk m c 2 t (ix2 u y) : EReal) = aK m c (ix2 ⟨4096 + (t.val / 16 * 4096 + u), h⟩ y) := by
  blk_simp [iblk]
  entry_read
  pointwise
  blk_ext [idx t]

/-- The values: each pair of key heads' 128 columns are followed by 128 ones. -/
theorem iblk3 (c : Dev nD) (t : Fin cfg0.N) (u : Fin 4096) (X : Fin 512) (hX : (X : ℕ) % 256 < 128) (h : 4096 + (t.val / 16 * 4096 + u) < 20480) :
    (iblk m c 3 t (ix2 u X) : EReal) = aV m c (ix2 ⟨4096 + (t.val / 16 * 4096 + u), h⟩ ⟨X / 256 * 128 + X % 256, by omega⟩) := by
  blk_simp [iblk]
  entry_read
  pointwise
  rw [dif_pos (by blk_simp [idx t]; omega)]
  blk_ext [idx t]

theorem iblk3_one (c : Dev nD) (t : Fin cfg0.N) (u : Fin 4096) (X : Fin 512) (hX : ¬ (X : ℕ) % 256 < 128) :
    iblk m c 3 t (ix2 u X) = (1 : EReal) := by
  blk_simp [iblk]
  entry_read
  pointwise
  rw [dif_neg (by blk_simp [idx t]; omega)]

/-- The context's keys. -/
theorem iblk4 (c : Dev nD) (t : Fin cfg0.N) (u : Fin 256) (y : Fin 256) (h : t.val / 16 < 4) :
    (iblk m c 4 t (ix2 u y) : EReal) = aKc m c (ix4 ⟨t.val / 16, h⟩ u ⟨y / 64, by omega⟩ ⟨y % 64, by omega⟩) := by
  blk_simp [iblk]
  entry_read
  pointwise
  blk_ext [idx t]

/-- Equal coordinates give equal elements. -/
theorem at_eq (W : FVec Ideal S4x256x4x64 .f32) {a a' : Fin 4} {b b' : Fin 256} {c c' : Fin 4} {d d' : Fin 64} (ha : (a : ℕ) = a')
    (hb : (b : ℕ) = b') (hc : (c : ℕ) = c') (hd : (d : ℕ) = d') : W (ix4 a b c d) = W (ix4 a' b' c' d') := by
  rw [Fin.ext ha, Fin.ext hb, Fin.ext hc, Fin.ext hd]

/-- The context's values, extended as the others are. -/
theorem iblk5 (c : Dev nD) (t : Fin cfg0.N) (u : Fin 256) (X : Fin 512) (hX : (X : ℕ) % 256 < 128) (h : t.val / 16 < 4) :
    (iblk m c 5 t (ix2 u X) : EReal) = aVc m c (ix4 ⟨t.val / 16, h⟩ u ⟨X / 256 * 2 + X % 256 / 64, by omega⟩ ⟨X % 64, by omega⟩) := by
  blk_simp [iblk]
  entry_read
  pointwise
  rw [dif_pos (by blk_simp [idx t]; omega)]
  refine at_eq (aVc m c) ?_ ?_ ?_ ?_ <;> blk_simp [idx t] <;> (try simp only) <;> (try omega)

theorem iblk5_one (c : Dev nD) (t : Fin cfg0.N) (u : Fin 256) (X : Fin 512) (hX : ¬ (X : ℕ) % 256 < 128) :
    iblk m c 5 t (ix2 u X) = (1 : EReal) := by
  blk_simp [iblk]
  entry_read
  pointwise
  rw [dif_neg (by blk_simp [idx t]; omega)]

end Cert.KernelIdeal.Value
-- ==== Proof.GqaLocal.Value.lean ====
module

public import proofs.«01_k».proof.Proof.GqaLocal.Pure
public import proofs.«01_k».proof.Proof.GqaLocal.Reads

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! # The windowed attention's result array -/

/-- The two words a point's band is computed from: the first query row of the point and the first key row of its window. -/
theorem words : ∀ t : Fin cfg0.N, Scalar.muli (BitVec.ofNat 32 ((grid0.coords t) 1).val) 256#32 = BitVec.ofNat 32 (t.val % 16 * 256)
    ∧ Scalar.minsi 3584#32 (Scalar.maxsi 0#32 (Scalar.subi (Scalar.muli (BitVec.ofNat 32 ((grid0.coords t) 1).val) 256#32) 128#32)) = BitVec.ofNat 32 (wbase t) :=
  (by decide +kernel : ∀ t : Fin grid0.N, _)

/-- A key is in the band when it is at most 128 rows from the query. -/
theorem band_at (t : Fin cfg0.N) (ρ : Fin 256) (l : Fin 512) :
    k0_pay3 (grid0.coords t) (ix2 ρ l)
      = if t.val % 16 * 256 + ρ ≤ (wbase t + l) + 128 ∧ wbase t + l ≤ (t.val % 16 * 256 + ρ) + 128 then 1#1 else 0#1 := by
  have hw : wbase t ≤ 3584 := by unfold wbase; omega
  rw [← Cert.Softmax.band_eq (t.val % 16 * 256 + ρ) (wbase t + l) (by omega) (by omega), BitVec.ofNat_add, BitVec.ofNat_add,
    ← (words t).1, ← (words t).2]
  pointwise [k0_pay3]
  rfl

/-- One stored block of a point, over what it reads: columns `128 k …`. -/
theorem block (c : Dev nD) (t : Fin cfg0.N) (hf : Fin5 (aSk m c) (aQ m c) (aK m c) (aKc m c)) (k : Fin 8) (ρ : Fin 256) (x : Fin 128)
    (r : Fin 16384) (X : Fin 1024) (hr : (r : ℕ) = t.val * 256 + ρ) (hX : (X : ℕ) = k * 128 + x)
    (qb : FVec Ideal S256x128 .bf16) (kc : FVec Ideal S256x128 .bf16) (vc : FVec Ideal S256x256 .bf16)
    (kl : FVec Ideal S512x128 .bf16) (vl : FVec Ideal S512x256 .bf16) (s s' : Ideal .f32)
    (hqb : ∀ y : Fin 128, qb (ix2 ρ y) = iblk m c 1 t (ix2 ρ ⟨k * 128 + y, by omega⟩))
    (hkc : ∀ (u : Fin 256) (y : Fin 128), kc (ix2 u y) = iblk m c 4 t (ix2 u ⟨k / 4 * 128 + y, by omega⟩))
    (hvc : ∀ (u : Fin 256) (y : Fin 256), vc (ix2 u y) = iblk m c 5 t (ix2 u ⟨k / 4 * 256 + y, by omega⟩))
    (hkl : ∀ (l : Fin 512) (y : Fin 128), kl (ix2 l y) = iblk m c 2 t (ix2 ⟨wbase t + l, by unfold wbase; omega⟩ ⟨k / 4 * 128 + y, by omega⟩))
    (hvl : ∀ (l : Fin 512) (y : Fin 256), vl (ix2 l y) = iblk m c 3 t (ix2 ⟨wbase t + l, by unfold wbase; omega⟩ ⟨k / 4 * 256 + y, by omega⟩))
    (hs : s = iblk m c 0 t (ix1 ⟨k / 4 * 8 + k % 4, by omega⟩)) (hs' : s' = iblk m c 0 t (ix1 ⟨k / 4 * 8 + 4 + k % 4, by omega⟩)) :
    pairK (k0_pay3 (grid0.coords t)) qb kc vc kl vl s s' (ix2 ρ x)
      = Cert.ReferenceIdeal.Value.REF (aSk m c) (aQ m c) (aK m c) (aV m c) (aKc m c) (aVc m c) (ix2 r X) := by
  have ht : t.val < 64 := (idx t).2.2.2.2.2.2.2.2
  have hw : wbase t ≤ 3584 := by unfold wbase; omega
  have hX0 : (X : ℕ) / 128 = k := by omega
  have hX1 : (X : ℕ) / 512 = k / 4 := by omega
  have hr0 : (r : ℕ) / 4096 = t.val / 16 := by omega
  have hr1 : (r : ℕ) % 4096 = t.val % 16 * 256 + ρ := by omega
  refine pair_eq _ _ _ _ _ _ _ _ _ _ _ _ _ _ hf r X ρ x (by omega) (wbase t) (by omega) ?_ ?_ ?_ ?_ ?_ ?_ ?_ ?_ ?_ ?_ ?_
  · intro u hu hu' hb
    rw [hr1] at hb
    unfold wbase at hu'
    omega
  · intro l
    rw [band_at, hr1]
  · intro y
    rw [hqb, iblk1 m c t ρ _ (by omega)]
    exact congrArg₂ (fun i j => aQ m c (ix2 i j) * (((1 : ℝ) / 8 : ℝ) : EReal)) (Fin.ext (by simp only; omega)) (Fin.ext (by simp only; omega))
  · intro u y
    rw [hkc, iblk4 m c t u _ (by omega)]
    exact at_eq (aKc m c) (by simp only; omega) rfl (by simp only; omega) (by simp only; omega)
  · intro u y
    rw [hvc, iblk5 m c t u _ (by simp only; omega) (by omega)]
    exact at_eq (aVc m c) (by simp only; omega) rfl (by simp only; omega) (by simp only; omega)
  · intro u y
    rw [hvc, iblk5_one m c t u _ (by simp only; omega)]
  · intro l y
    rw [hkl, iblk2 m c t _ _ (by simp only; omega)]
    exact congrArg₂ (fun i j => aK m c (ix2 i j)) (Fin.ext (by simp only; omega)) (Fin.ext (by simp only; omega))
  · intro l y
    rw [hvl, iblk3 m c t _ _ (by simp only; omega) (by simp only; omega)]
    exact congrArg₂ (fun i j => aV m c (ix2 i j)) (Fin.ext (by simp only; omega)) (Fin.ext (by simp only; omega))
  · intro l y
    rw [hvl, iblk3_one m c t _ _ (by simp only; omega)]
  · rw [hs, iblk0]
    exact congrArg (fun i => aSk m c (ix1 i)) (Fin.ext (by simp only; omega))
  · rw [hs', iblk0]
    exact congrArg (fun i => aSk m c (ix1 i)) (Fin.ext (by simp only; omega))

/-- Index `(i, j)` of part of an array is the array's index at the part's offset. -/
theorem rect2 {A B P Q : ℕ} (off : Fin 2 → ℕ) (inb : ∀ a, off a + (![P, Q] : Fin 2 → ℕ) a ≤ (⟨2, ![A, B]⟩ : Shape).size a)
    (i : Fin P) (j : Fin Q) (i' : Fin A) (j' : Fin B) (hi : (i' : ℕ) = off 0 + i) (hj : (j' : ℕ) = off 1 + j) :
    (Rect.unit (s := ⟨2, ![A, B]⟩) off ![P, Q] inb).idx (ix2 i j : (⟨2, ![P, Q]⟩ : Shape).Idx) = ix2 i' j' := by
  blk_ext
  · show off 0 + 1 * (i : ℕ) = i'; omega
  · show off 1 + 1 * (j : ℕ) = j'; omega

theorem rect1 (j : ℕ) (inb : ∀ a, (![j] : Fin 1 → ℕ) a + (![1] : Fin 1 → ℕ) a ≤ S16.size a) (x : (⟨1, ![1]⟩ : Shape).Idx) (j' : Fin 16)
    (hj : (j' : ℕ) = j) : (Rect.unit (s := S16) ![j] ![1] inb).idx x = ix1 j' := by
  blk_ext
  show j + 1 * (x 0 : ℕ) = j'; omega

set_option maxHeartbeats 1600000 in
/-- The result array is the reference's. -/
theorem final (c : Dev nD) (hf : Fin5 (aSk m c) (aQ m c) (aK m c) (aKc m c)) : (dats m 0 c).arrAt 6 (cfgs 0).N
    = Cert.ReferenceIdeal.Value.REF (aSk m c) (aQ m c) (aK m c) (aV m c) (aKc m c) (aVc m c) := by
  refine (dats m 0 c).arrAt_eq_of_covers 6 _ (by decide +kernel) fun t hfl y => ?_
  have ht : t.val < 64 := (idx t).2.2.2.2.2.2.2.2
  have hy : ∀ (X : Fin 1024) (ρ : Fin 256), (y 0 : ℕ) = ρ → (y 1 : ℕ) = X →
      ((View.whole main_v17).slice (win0_6.rect t)).emb y = ix2 ⟨t.val * 256 + (ρ : ℕ), by omega⟩ X := by
    intro X ρ h0 h1
    blk_ext [idx t]
  blk_simp
  rw [after0_6]; unfold outsAt0; frame_out
  canon_tiles x h
  · rw [store0]
    idx_vars x
    rw [hy ⟨896 + x1, by omega⟩ x0 h0 h1]
    refine block m c t hf 7 x0 x1 _ _ rfl rfl _ _ _ _ _ _ _ ?_ ?_ ?_ ?_ ?_ ?_ ?_
    · exact fun y => congrArg (iblk m c 1 t) (rect2 _ _ _ _ _ _ (Nat.zero_add _).symm rfl)
    · exact fun u y => congrArg (iblk m c 4 t) (rect2 _ _ _ _ _ _ (Nat.zero_add _).symm rfl)
    · exact fun u y => congrArg (iblk m c 5 t) (rect2 _ _ _ _ _ _ (Nat.zero_add _).symm rfl)
    · exact fun l y => congrArg (iblk m c 2 t) (rect2 _ _ _ _ _ _ (by rw [(offs t).2.2.1]; rfl) (by rw [(offs t).2.2.1]; rfl))
    · exact fun l y => congrArg (iblk m c 3 t) (rect2 _ _ _ _ _ _ (by rw [(offs t).2.2.2]; rfl) (by rw [(offs t).2.2.2]; rfl))
    · exact congrArg (iblk m c 0 t) (rect1 _ _ _ _ rfl)
    · exact congrArg (iblk m c 0 t) (rect1 _ _ _ _ rfl)
  · rw [store1]
    idx_vars x
    rw [hy ⟨768 + x1, by omega⟩ x0 h0 h1]
    refine block m c t hf 6 x0 x1 _ _ rfl rfl _ _ _ _ _ _ _ ?_ ?_ ?_ ?_ ?_ ?_ ?_
    · exact fun y => congrArg (iblk m c 1 t) (rect2 _ _ _ _ _ _ (Nat.zero_add _).symm rfl)
    · exact fun u y => congrArg (iblk m c 4 t) (rect2 _ _ _ _ _ _ (Nat.zero_add _).symm rfl)
    · exact fun u y => congrArg (iblk m c 5 t) (rect2 _ _ _ _ _ _ (Nat.zero_add _).symm rfl)
    · exact fun l y => congrArg (iblk m c 2 t) (rect2 _ _ _ _ _ _ (by rw [(offs t).2.2.1]; rfl) (by rw [(offs t).2.2.1]; rfl))
    · exact fun l y => congrArg (iblk m c 3 t) (rect2 _ _ _ _ _ _ (by rw [(offs t).2.2.2]; rfl) (by rw [(offs t).2.2.2]; rfl))
    · exact congrArg (iblk m c 0 t) (rect1 _ _ _ _ rfl)
    · exact congrArg (iblk m c 0 t) (rect1 _ _ _ _ rfl)
  · rw [store2]
    idx_vars x
    rw [hy ⟨640 + x1, by omega⟩ x0 h0 h1]
    refine block m c t hf 5 x0 x1 _ _ rfl rfl _ _ _ _ _ _ _ ?_ ?_ ?_ ?_ ?_ ?_ ?_
    · exact fun y => congrArg (iblk m c 1 t) (rect2 _ _ _ _ _ _ (Nat.zero_add _).symm rfl)
    · exact fun u y => congrArg (iblk m c 4 t) (rect2 _ _ _ _ _ _ (Nat.zero_add _).symm rfl)
    · exact fun u y => congrArg (iblk m c 5 t) (rect2 _ _ _ _ _ _ (Nat.zero_add _).symm rfl)
    · exact fun l y => congrArg (iblk m c 2 t) (rect2 _ _ _ _ _ _ (by rw [(offs t).2.2.1]; rfl) (by rw [(offs t).2.2.1]; rfl))
    · exact fun l y => congrArg (iblk m c 3 t) (rect2 _ _ _ _ _ _ (by rw [(offs t).2.2.2]; rfl) (by rw [(offs t).2.2.2]; rfl))
    · exact congrArg (iblk m c 0 t) (rect1 _ _ _ _ rfl)
    · exact congrArg (iblk m c 0 t) (rect1 _ _ _ _ rfl)
  · rw [store3]
    idx_vars x
    rw [hy ⟨512 + x1, by omega⟩ x0 h0 h1]
    refine block m c t hf 4 x0 x1 _ _ rfl rfl _ _ _ _ _ _ _ ?_ ?_ ?_ ?_ ?_ ?_ ?_
    · exact fun y => congrArg (iblk m c 1 t) (rect2 _ _ _ _ _ _ (Nat.zero_add _).symm rfl)
    · exact fun u y => congrArg (iblk m c 4 t) (rect2 _ _ _ _ _ _ (Nat.zero_add _).symm rfl)
    · exact fun u y => congrArg (iblk m c 5 t) (rect2 _ _ _ _ _ _ (Nat.zero_add _).symm rfl)
    · exact fun l y => congrArg (iblk m c 2 t) (rect2 _ _ _ _ _ _ (by rw [(offs t).2.2.1]; rfl) (by rw [(offs t).2.2.1]; rfl))
    · exact fun l y => congrArg (iblk m c 3 t) (rect2 _ _ _ _ _ _ (by rw [(offs t).2.2.2]; rfl) (by rw [(offs t).2.2.2]; rfl))
    · exact congrArg (iblk m c 0 t) (rect1 _ _ _ _ rfl)
    · exact congrArg (iblk m c 0 t) (rect1 _ _ _ _ rfl)
  · rw [store4]
    idx_vars x
    rw [hy ⟨384 + x1, by omega⟩ x0 h0 h1]
    refine block m c t hf 3 x0 x1 _ _ rfl rfl _ _ _ _ _ _ _ ?_ ?_ ?_ ?_ ?_ ?_ ?_
    · exact fun y => congrArg (iblk m c 1 t) (rect2 _ _ _ _ _ _ (Nat.zero_add _).symm rfl)
    · exact fun u y => congrArg (iblk m c 4 t) (rect2 _ _ _ _ _ _ (Nat.zero_add _).symm rfl)
    · exact fun u y => congrArg (iblk m c 5 t) (rect2 _ _ _ _ _ _ (Nat.zero_add _).symm rfl)
    · exact fun l y => congrArg (iblk m c 2 t) (rect2 _ _ _ _ _ _ (by rw [(offs t).1]; rfl) (by rw [(offs t).1]; rfl))
    · exact fun l y => congrArg (iblk m c 3 t) (rect2 _ _ _ _ _ _ (by rw [(offs t).2.1]; rfl) (by rw [(offs t).2.1]; rfl))
    · exact congrArg (iblk m c 0 t) (rect1 _ _ _ _ rfl)
    · exact congrArg (iblk m c 0 t) (rect1 _ _ _ _ rfl)
  · rw [store5]
    idx_vars x
    rw [hy ⟨256 + x1, by omega⟩ x0 h0 h1]
    refine block m c t hf 2 x0 x1 _ _ rfl rfl _ _ _ _ _ _ _ ?_ ?_ ?_ ?_ ?_ ?_ ?_
    · exact fun y => congrArg (iblk m c 1 t) (rect2 _ _ _ _ _ _ (Nat.zero_add _).symm rfl)
    · exact fun u y => congrArg (iblk m c 4 t) (rect2 _ _ _ _ _ _ (Nat.zero_add _).symm rfl)
    · exact fun u y => congrArg (iblk m c 5 t) (rect2 _ _ _ _ _ _ (Nat.zero_add _).symm rfl)
    · exact fun l y => congrArg (iblk m c 2 t) (rect2 _ _ _ _ _ _ (by rw [(offs t).1]; rfl) (by rw [(offs t).1]; rfl))
    · exact fun l y => congrArg (iblk m c 3 t) (rect2 _ _ _ _ _ _ (by rw [(offs t).2.1]; rfl) (by rw [(offs t).2.1]; rfl))
    · exact congrArg (iblk m c 0 t) (rect1 _ _ _ _ rfl)
    · exact congrArg (iblk m c 0 t) (rect1 _ _ _ _ rfl)
  · rw [store6]
    idx_vars x
    rw [hy ⟨128 + x1, by omega⟩ x0 h0 h1]
    refine block m c t hf 1 x0 x1 _ _ rfl rfl _ _ _ _ _ _ _ ?_ ?_ ?_ ?_ ?_ ?_ ?_
    · exact fun y => congrArg (iblk m c 1 t) (rect2 _ _ _ _ _ _ (Nat.zero_add _).symm rfl)
    · exact fun u y => congrArg (iblk m c 4 t) (rect2 _ _ _ _ _ _ (Nat.zero_add _).symm rfl)
    · exact fun u y => congrArg (iblk m c 5 t) (rect2 _ _ _ _ _ _ (Nat.zero_add _).symm rfl)
    · exact fun l y => congrArg (iblk m c 2 t) (rect2 _ _ _ _ _ _ (by rw [(offs t).1]; rfl) (by rw [(offs t).1]; rfl))
    · exact fun l y => congrArg (iblk m c 3 t) (rect2 _ _ _ _ _ _ (by rw [(offs t).2.1]; rfl) (by rw [(offs t).2.1]; rfl))
    · exact congrArg (iblk m c 0 t) (rect1 _ _ _ _ rfl)
    · exact congrArg (iblk m c 0 t) (rect1 _ _ _ _ rfl)
  · rw [store7]
    idx_vars x
    rw [hy ⟨x1, by omega⟩ x0 h0 h1]
    refine block m c t hf 0 x0 x1 _ _ rfl (by simp) _ _ _ _ _ _ _ ?_ ?_ ?_ ?_ ?_ ?_ ?_
    · exact fun y => congrArg (iblk m c 1 t) (rect2 _ _ _ _ _ _ (Nat.zero_add _).symm rfl)
    · exact fun u y => congrArg (iblk m c 4 t) (rect2 _ _ _ _ _ _ (Nat.zero_add _).symm rfl)
    · exact fun u y => congrArg (iblk m c 5 t) (rect2 _ _ _ _ _ _ (Nat.zero_add _).symm rfl)
    · exact fun l y => congrArg (iblk m c 2 t) (rect2 _ _ _ _ _ _ (by rw [(offs t).1]; rfl) (by rw [(offs t).1]; rfl))
    · exact fun l y => congrArg (iblk m c 3 t) (rect2 _ _ _ _ _ _ (by rw [(offs t).2.1]; rfl) (by rw [(offs t).2.1]; rfl))
    · exact congrArg (iblk m c 0 t) (rect1 _ _ _ _ rfl)
    · exact congrArg (iblk m c 0 t) (rect1 _ _ _ _ rfl)

end Cert.KernelIdeal.Value
-- ==== Proof.GqaLocal.Claims.lean ====
module

public import proofs.«01_k».proof.Defs
public import proofs.«01_k».proof.Proof.GqaLocal.Value
public import proofs.«01_k».proof.Proof.Gen.Pre_finite_scores
public import proofs.«01_k».proof.Proof.Gen.ReferenceIdeal.Run
public import Idealize.ShloMosaic.Lib.Claim
public import Idealize.ShloMosaic.Lib.ReduceAll

@[expose] public section

set_option maxRecDepth 16384

noncomputable section

namespace Cert.KernelIdeal.Value

open Cert.KernelIdeal Cert.KernelIdeal.Gen Idealize.ShloMosaic Idealize.ShloMosaic.TcCoe Idealize.SL.Sem

/-! # The claims about the windowed attention -/

theorem ofBits_inf : Ideal.ofBits .f32 0x7F800000#32 = ⊤ := by
  simp only [Ideal.ofBits]
  rfl

/-- An extended real that compares below infinity is not infinity. -/
theorem lt_top_of (x : Ideal .f32) (h : FloatOps.cmpf (F := Ideal) .olt x (FloatOps.ofBits .f32 0x7F800000#32) = 1#1) :
    (x : EReal) < ⊤ := by
  have h' : BitVec.ofBool (decide ((x : EReal) < ⊤)) = 1#1 := by
    rw [← ofBits_inf]; exact h
  by_contra hc
  rw [decide_eq_false hc] at h'
  exact absurd h' (by decide)

/-- An extended real whose absolute value is below infinity is neither infinity. -/
theorem finite_of (x : Ideal .f32) (h : FloatOps.cmpf (F := Ideal) .olt (FloatOps.hostAbsf x) (FloatOps.ofBits .f32 0x7F800000#32) = 1#1) :
    (x : EReal) ≠ ⊤ ∧ (x : EReal) ≠ ⊥ := by
  have hl : max (x : EReal) (-(x : EReal)) < ⊤ := lt_top_of (FloatOps.hostAbsf x) h
  refine ⟨(max_lt_iff.1 hl).1.ne, fun hb => ?_⟩
  have := (max_lt_iff.1 hl).2
  rw [hb] at this
  exact absurd this (by simp)

/-- The precondition, read at every element. -/
theorem fin5 (sk : FVec Ideal Cert.Pre_finite_scores.S16 .f32) (q : FVec Ideal Cert.Pre_finite_scores.S20480x1024 .f32) (k v : FVec Ideal Cert.Pre_finite_scores.S20480x256 .f32)
    (kc vc : FVec Ideal Cert.Pre_finite_scores.S4x256x4x64 .f32) (h : Cert.Pre_finite_scores.fn (F := Ideal) sk q k v kc vc = fun _ => 1#1) :
    Fin5 sk q k kc := by
  have h0 := congrFun h (Shape.Idx.first Cert.Pre_finite_scores.Gen.h_S_)
  unfold Cert.Pre_finite_scores.fn Cert.Pre_finite_scores.fn_part1 at h0
  simp only [andi] at h0
  obtain ⟨h0, h4⟩ := IntOp.andi_eq_one.1 h0
  obtain ⟨h0, h3⟩ := IntOp.andi_eq_one.1 h0
  obtain ⟨h1, h2⟩ := IntOp.andi_eq_one.1 h0
  have hq := fun i => finite_of _ (Host.reduce_andi_all _ _ _ _ _ h2 i)
  have hk := fun i => finite_of _ (Host.reduce_andi_all _ _ _ _ _ h3 i)
  refine ⟨fun i => (lt_top_of _ (Host.reduce_andi_all _ _ _ _ _ h1 i)).ne, fun r x => ?_, fun r x => ?_,
    fun i => finite_of _ (Host.reduce_andi_all _ _ _ _ _ h4 i)⟩
  · have e : extractStridedSlice Cert.Pre_finite_scores.S16384x1024 ![4096, 0] q Cert.Pre_finite_scores.Gen.facts.slices_S20480x1024_S16384x1024_4096_0 (ix2 r x)
        = q (ix2 ⟨4096 + r, by omega⟩ x) := by pointwise
    rw [← e]; exact hq _
  · have e : extractStridedSlice Cert.Pre_finite_scores.S16384x256 ![4096, 0] k Cert.Pre_finite_scores.Gen.facts.slices_S20480x256_S16384x256_4096_0 (ix2 r x)
        = k (ix2 ⟨4096 + r, by omega⟩ x) := by pointwise
    rw [← e]; exact hk _

theorem algebraic : Cert.algebraic_KernelIdeal_ReferenceIdeal_pre_finite_scores := by
  pair_intro
  · run_from Cert.KernelIdeal.Value.run_blocks m g
  · run_from Cert.ReferenceIdeal.Value.run m' g'
    obtain ⟨h0, h1, h2, h3, h4, h5⟩ := hagree c
    rw [Cert.ReferenceIdeal.Value.res_eq, h0, h1, h2, h3, h4, h5]
    exact (final m c (fin5 _ _ _ _ _ _ (hpre c))).symm

/-- The mask's constant is named, and its name stands for minus infinity. -/
theorem preserves : Cert.preserves_Kernel_KernelIdeal :=
  IdealRules.named_const.statement Cert.KernelIdeal.κ "mask" .f32 0xF149F2CA#32 ⊥ rfl

end Cert.KernelIdeal.Value
-- ==== Proof.Moe.Routed.lean ====
module

public import proofs.«01_k».proof.Pre_routed
public import proofs.«01_k».proof.Proof.Gen.Pre_routed
public import Idealize.ShloMosaic.Lib.Affine
public import Idealize.ShloMosaic.Lib.ReduceAll

@[expose] public section

set_option maxRecDepth 16384

noncomputable section

namespace Cert.Pre_routed.Value

open Cert.Pre_routed Cert.Pre_routed.Gen Idealize.ShloMosaic

/-! # What the routing's precondition says of each tile -/

/-- A word between zero and seven, read signed, is below eight read unsigned. -/
theorem lt_eight (v : BitVec 32) (h0 : 0 ≤ v.toInt) (h8 : v.toInt < 8) : v.toNat < 8 := by
  rw [BitVec.toInt_eq_toNat_cond] at h0 h8
  split at h0 <;> rename_i hc
  · rw [if_pos hc] at h8; omega
  · have := v.isLt; omega

/-- Every tile's expert is one of the eight, and no tile's count is negative. -/
theorem tiles {F : FTy → Type} [FloatOps F] (te tv : IVec S88 32) (x : FVec F S45056x1024 .f32) (wg wu : FVec F S8x1024x2816 .f32)
    (wd : FVec F S8x2816x1024 .f32) (h : fn (F := F) te tv x wg wu wd = fun _ => 1#1) :
    (∀ i, (te i).toNat < 8) ∧ ∀ i, 0 ≤ (tv i).toInt := by
  have h0 := congrFun h (Shape.Idx.first Cert.Pre_routed.Gen.h_S_)
  unfold fn at h0
  simp only [andi] at h0
  obtain ⟨h0, h3⟩ := IntOp.andi_eq_one.1 h0
  obtain ⟨h1, h2⟩ := IntOp.andi_eq_one.1 h0
  refine ⟨fun i => lt_eight _ ?_ ?_, fun i => ?_⟩
  · exact IntOp.cmpi_sge.1 (Host.reduce_andi_all _ _ _ _ _ h1 i)
  · exact IntOp.cmpi_slt.1 (Host.reduce_andi_all _ _ _ _ _ h2 i)
  · exact IntOp.cmpi_sge.1 (Host.reduce_andi_all _ _ _ _ _ h3 i)

end Cert.Pre_routed.Value
-- ==== Proof.Moe.Ref.lean ====
module

public import proofs.«01_k».proof.Proof.Gen.Reference2Ideal.Run
public import Idealize.ShloMosaic.Lib.Pipeline.ValueKit
public import Idealize.ShloMosaic.Lib.Pointwise
public import Idealize.ShloMosaic.Lib.Affine
public import Idealize.ShloMosaic.Lib.IdealHost

@[expose] public section

set_option maxRecDepth 16384

noncomputable section

namespace Cert.Reference2Ideal.Value

open Cert.Reference2Ideal Cert.Reference2Ideal.Gen Idealize.ShloMosaic Idealize.ShloMosaic.TcCoe Idealize.SL.Sem

/-! # The reference of the experts' feed-forward, stage by stage and at an index -/

/-- Each row's expert: its tile's. -/
def refE (te : IVec S88 32) : IVec S45056 32 :=
  shapeCast _ (broadcastInDim S88x512 ![0, 1] bcast_S88x1_S88x512_0_1 (broadcastInDim S88x1 ![0] bcast_S88_S88x1_0 te)) shapeCasts_S88x512_S45056

/-- Whether each row is one of its tile's valid rows. -/
def refV (tv : IVec S88 32) : IVec S45056 1 :=
  shapeCast _ (cmpi .slt (broadcastInDim S88x512 ![0, 1] bcast_S1x512_S88x512_0_1 (broadcastInDim S1x512 ![1] bcast_S512_S1x512_1 (iotaInDim S512 32 0)))
    (broadcastInDim S88x512 ![0, 1] bcast_S88x1_S88x512_0_1 (broadcastInDim S88x1 ![0] bcast_S88_S88x1_0 tv))) shapeCasts_S88x512_S45056

/-- The gate of each expert on each row: one at the row's expert, if the row is valid, and else zero. -/
def refG (e : IVec S45056 32) (v : IVec S45056 1) : FVec Ideal S8x45056 .f32 :=
  transpose S8x45056 [1, 0] (select (broadcastInDim S45056x8 ![0, 1] bcast_S45056x1_S45056x8_0_1 (broadcastInDim S45056x1 ![0] bcast_S45056_S45056x1_0 v))
    (uitofp .f32 (cmpi .eq (broadcastInDim S45056x8 ![0, 1] bcast_S45056x1_S45056x8_0_1 (broadcastInDim S45056x1 ![0] bcast_S45056_S45056x1_0 e))
      (broadcastInDim S45056x8 ![0, 1] bcast_S1x8_S45056x8_0_1 (iotaInDim S1x8 32 1))))
    (broadcastInDim S45056x8 ![] bcast_S_S45056x8 (id (constant S_ .f32 0x00000000#32)))) transposes_S45056x8_S8x45056_1_0

/-- One of the two projections of every row through every expert. -/
def refA (x : FVec Ideal S45056x1024 .f32) (w : FVec Ideal S8x1024x2816 .f32) : FVec Ideal S8x45056x2816 .f32 :=
  transpose S8x45056x2816 [0, 2, 1] (Host.dotGeneral dot_S8x1024x2816_S45056x1024_S8x2816x45056_1_1_02_0_n_n none w x) transposes_S8x2816x45056_S8x45056x2816_0_2_1

/-- The gated features. -/
def refP (A U : FVec Ideal S8x45056x2816 .f32) : FVec Ideal S8x45056x2816 .f32 :=
  mulf (mulf A (Host.divf (broadcastInDim S8x45056x2816 ![] bcast_S_S8x45056x2816 (constant S_ .f32 0x3F800000#32))
    (addf (broadcastInDim S8x45056x2816 ![] bcast_S_S8x45056x2816 (constant S_ .f32 0x3F800000#32)) (Host.exp (Host.negf A))))) U

/-- Their projection back, expert by expert. -/
def refF (P : FVec Ideal S8x45056x2816 .f32) (w : FVec Ideal S8x2816x1024 .f32) : FVec Ideal S8x45056x1024 .f32 :=
  Host.dotGeneral dot_S8x45056x2816_S8x2816x1024_S8x45056x1024_2_1_1_2_0_0 none P w

/-- The gated sum over the experts. -/
def refY (g : FVec Ideal S8x45056 .f32) (f : FVec Ideal S8x45056x1024 .f32) : FVec Ideal S45056x1024 .f32 :=
  Host.reduceAdd (mulf (broadcastInDim S8x45056x1024 ![0, 1, 2] bcast_S8x45056x1_S8x45056x1024_0_1_2
    (broadcastInDim S8x45056x1 ![0, 1] bcast_S8x45056_S8x45056x1_0_1 g)) f) (constant S_ .f32 0x00000000#32) reducesTo_S8x45056x1024_S45056x1024_d0 h_S_

/-- The whole reference. -/
def REF (te tv : IVec S88 32) (x : FVec Ideal S45056x1024 .f32) (wg wu : FVec Ideal S8x1024x2816 .f32) (wd : FVec Ideal S8x2816x1024 .f32) :
    FVec Ideal S45056x1024 .f32 :=
  refY (refG (refE te) (refV tv)) (refF (refP (refA x wg) (refA x wu)) wd)

theorem refE_at (te : IVec S88 32) (r : Fin 45056) : refE te (ix1 r) = te (ix1 ⟨r / 512, by omega⟩) := by
  pointwise [refE]

theorem refV_at (tv : IVec S88 32) (r : Fin 45056) :
    refV tv (ix1 r) = IntOp.cmpi .slt (BitVec.ofNat 32 (r % 512)) (tv (ix1 ⟨r / 512, by omega⟩)) := by
  pointwise [refV]

theorem refA_at (x : FVec Ideal S45056x1024 .f32) (w : FVec Ideal S8x1024x2816 .f32) (e : Fin 8) (r : Fin 45056) (j : Fin 2816) :
    refA x w (ix3 e r j) = ∑ d : Fin 1024, (w (ix3 e d j) : EReal) * x (ix2 r d) := by
  pointwise [refA]

/-- The gated product of two projections. -/
def swish (a u : EReal) : EReal := a * Ideal.logistic a * u

theorem refP_at (A U : FVec Ideal S8x45056x2816 .f32) (e : Fin 8) (r : Fin 45056) (j : Fin 2816) :
    refP A U (ix3 e r j) = swish (A (ix3 e r j)) (U (ix3 e r j)) := by
  unfold swish Ideal.logistic
  pointwise [refP]

theorem refF_at (P : FVec Ideal S8x45056x2816 .f32) (w : FVec Ideal S8x2816x1024 .f32) (e : Fin 8) (r : Fin 45056) (y : Fin 1024) :
    refF P w (ix3 e r y) = ∑ j : Fin 2816, P (ix3 e r j) * w (ix3 e j y) := by
  pointwise [refF]

theorem refY_at (g : FVec Ideal S8x45056 .f32) (f : FVec Ideal S8x45056x1024 .f32) (r : Fin 45056) (y : Fin 1024) :
    refY g f (ix2 r y) = ∑ e : Fin 8, g (ix2 e r) * f (ix3 e r y) := by
  pointwise [refY]

theorem refG_at (e : IVec S45056 32) (v : IVec S45056 1) (i : Fin 8) (r : Fin 45056) :
    refG e v (ix2 i r) = if v (ix1 r) = 1#1 then (if e (ix1 r) = BitVec.ofNat 32 i then (1 : EReal) else 0) else 0 := by
  have hs : refG e v (ix2 i r) = Scalar.select (v (ix1 r)) (FloatOps.uitofp (F := Ideal) .f32 (IntOp.cmpi .eq (e (ix1 r)) (BitVec.ofNat 32 i)))
      (Ideal.ofBits .f32 0#32) := by
    unfold refG
    pointwise []
    simp only [id]
    pointwise []
  rw [hs, Ideal.ofBits_zero_f32]
  unfold Scalar.select
  by_cases hv : v (ix1 r) = 1#1
  · refine (if_pos hv).trans (Eq.trans ?_ (if_pos hv).symm)
    by_cases he : e (ix1 r) = BitVec.ofNat 32 i
    · rw [if_pos he, IntOp.cmpi_eq.2 he]; simp [FloatOps.uitofp]
    · rw [if_neg he]
      have : IntOp.cmpi .eq (e (ix1 r)) (BitVec.ofNat 32 i) = 0#1 := by
        show BitVec.ofBool (e (ix1 r) == BitVec.ofNat 32 i) = 0#1
        rw [beq_eq_false_iff_ne.2 he]; rfl
      rw [this]; simp [FloatOps.uitofp]
  · exact (if_neg hv).trans (if_neg hv).symm

end Cert.Reference2Ideal.Value
-- ==== Proof.Moe.IdealBody.lean ====
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! # The expert kernel's body, run once for a tile with valid rows and once for a tile without

Both runs are stated for any contents of the two tables; the tile's word is read from the second. -/

variable {F : FTy → Type} [FloatOps F]

local notation "𝕄" => MT nD τ sig Unit (Elt F) ℕ (UR sig nD τ) ℕ

/-- The two tables as the body is handed them. -/
abbrev tabE : Memref sig .tc .smem S88 .i32 := Memref.whole main_arg0
abbrev tabV : Memref sig .tc .smem S88 .i32 := Memref.whole main_arg1

/-- The number of valid rows the body reads at a point. -/
def word (T : S88.Idx → Elt F .i32) (i : grid0.Coords) : BitVec 32 :=
  View.readAt (Elt F) tabV.view (Rect.unit (s := S88) (k0_off1 i) S1.size (k0_off1_inb i)).toLoadRect T (Shape.Idx.first (numel1_S1.symm ▸ Nat.one_pos))

/-- The parts of the staged blocks the body reads. -/
abbrev rX : Rect S512x1024 := Rect.unit (s := S512x1024) ![0, 0] S512x1024.size inb_S512x1024_S512x1024_0_0
abbrev rW0 : Rect S1x1024x2816 := Rect.unit (s := S1x1024x2816) ![0, 0, 0] S1x1024x1408.size inb_S1x1024x2816_S1x1024x1408_0_0_0
abbrev rW1 : Rect S1x1024x2816 := Rect.unit (s := S1x1024x2816) ![0, 0, 1408] S1x1024x1408.size inb_S1x1024x2816_S1x1024x1408_0_0_1408
abbrev rD0 : Rect S1x2816x1024 := Rect.unit (s := S1x2816x1024) ![0, 0, 0] S1x1408x1024.size inb_S1x2816x1024_S1x1408x1024_0_0_0
abbrev rD1 : Rect S1x2816x1024 := Rect.unit (s := S1x2816x1024) ![0, 1408, 0] S1x1408x1024.size inb_S1x2816x1024_S1x1408x1024_0_1408_0

/-- The block stored for a tile with `v` valid rows, from the staged blocks. -/
def live (v : BitVec 32) (x0 : Vec F S512x1024 .f32) (x1 x2 : Vec F S1x1024x2816 .f32) (x3 : Vec F S1x2816x1024 .f32) : Vec F S512x1024 .f32 :=
  View.canon [⟨rX, k0_pay1 (k0_pay4 v (View.ld x0 rX) (View.ld x1 rW0) (View.ld x2 rW0) (View.ld x3 rD0))
    (k0_pay5 v (View.ld x0 rX) (View.ld x1 rW1) (View.ld x2 rW1)) (View.ld x3 rD1)⟩]

/-- The block stored for a tile without valid rows. -/
def dead : Vec F S512x1024 .f32 := View.canon [⟨rX, k0_pay2⟩]

/-- One store of the whole block leaves nothing of what was there. -/
theorem covers (p : Vec F S512x1024 .f32) (y : S512x1024.Idx) :
    ∃ pc ∈ ([⟨rX, p⟩] : List (View.Piece (Elt F) S512x1024 .f32)), y ∈ pc.1.set :=
  View.cover_of_tiled [⟨rX, p⟩] S512x1024.size (by rfl) y

set_option maxHeartbeats 4000000 in
/-- The body at a point whose tile has valid rows. -/
theorem run_live (c : Dev nD) (i : grid0.Coords) (a3 : Memref sig .tc .vmem S512x1024 .f32) (h3 : a3.IsWhole)
    (a4 : Memref sig .tc .vmem S1x1024x2816 .f32) (h4 : a4.IsWhole) (a5 : Memref sig .tc .vmem S1x1024x2816 .f32) (h5 : a5.IsWhole)
    (a6 : Memref sig .tc .vmem S1x2816x1024 .f32) (h6 : a6.IsWhole) (a7 : Memref sig .tc .vmem S512x1024 .f32) (h7 : a7.IsWhole)
    (TE TV : S88.Idx → Elt F .i32) (x0 : Vec F S512x1024 .f32) (x1 x2 : Vec F S1x1024x2816 .f32) (x3 : Vec F S1x2816x1024 .f32)
    (hc1 : k0_cond1 (word TV i) = 1#1) (hc2 : ¬ k0_cond2 (word TV i) = 1#1) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ (tabE.view.loc (c : Thread nD τ) ↦{fullShare.right} TE)
        ∗ (tabV.view.loc (c : Thread nD τ) ↦{fullShare.right} TV) ∗ (∃ d, owns (c : Thread nD τ) a7 fullShare d)
        ∗ (iprop(owns (c : Thread nD τ) a3 fullShare x0 ∗ owns (c : Thread nD τ) a4 fullShare x1 ∗ owns (c : Thread nD τ) a5 fullShare x2
          ∗ owns (c : Thread nD τ) a6 fullShare x3 ∗ (tabE.view.loc (c : Thread nD τ) ↦{fullShare.right} TE)
          ∗ (tabV.view.loc (c : Thread nD τ) ↦{fullShare.right} TV) ∗ owns (c : Thread nD τ) a7 fullShare (live (word TV i) x0 x1 x2 x3)) -∗ K ⟨⟩))
      ⊢ wp frame (wpE (defs₀ (F := F)) Variants.none c none) Set.univ
          (cc0_moe_expert_ffn i tabE (Memref.isWhole_whole _) tabV (Memref.isWhole_whole _) a3 h3 a4 h4 a5 h5 a6 h6 a7 h7) K := by
  rw [cc0_moe_expert_ffn_eq_skeleton]; unfold cc0_moe_expert_ffn_skel
  rw [k0_part1_eq_skeleton]
  unfold owns
  iintro ⟨⟨%f0, %hf0, H0⟩, ⟨%f1, %hf1, H1⟩, ⟨%f2, %hf2, H2⟩, ⟨%f3, %hf3, H3⟩, HE, HV, ⟨%d7, %f7, -, H7⟩, Hk⟩
  subst hf0 hf1 hf2 hf3
  unfold word at hc1 hc2
  have hE : tabE.IsWhole := Memref.isWhole_whole _
  have hV : tabV.IsWhole := Memref.isWhole_whole _
  sl_exec! (disch := first | (guard_target = k0_cond1 _ = _; exact hc1) | (guard_target = ¬(k0_cond2 _ = _); exact hc2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HE]; · iexact HE
  isplitl [HV]; · iexact HV
  iexists _; isplitr
  swap; · iexact H7
  ipureintro
  exact View.read_writes_eq_canon _ _ _ (covers _)

set_option maxHeartbeats 4000000 in
/-- The body at a point whose tile has no valid row. -/
theorem run_dead (c : Dev nD) (i : grid0.Coords) (a3 : Memref sig .tc .vmem S512x1024 .f32) (h3 : a3.IsWhole)
    (a4 : Memref sig .tc .vmem S1x1024x2816 .f32) (h4 : a4.IsWhole) (a5 : Memref sig .tc .vmem S1x1024x2816 .f32) (h5 : a5.IsWhole)
    (a6 : Memref sig .tc .vmem S1x2816x1024 .f32) (h6 : a6.IsWhole) (a7 : Memref sig .tc .vmem S512x1024 .f32) (h7 : a7.IsWhole)
    (TE TV : S88.Idx → Elt F .i32)
    (hc1 : ¬ k0_cond1 (word TV i) = 1#1) (hc2 : k0_cond2 (word TV i) = 1#1) (K : PUnit → sProp 𝕄) :
    iprop((tabE.view.loc (c : Thread nD τ) ↦{fullShare.right} TE)
        ∗ (tabV.view.loc (c : Thread nD τ) ↦{fullShare.right} TV) ∗ (∃ d, owns (c : Thread nD τ) a7 fullShare d)
        ∗ (iprop((tabE.view.loc (c : Thread nD τ) ↦{fullShare.right} TE)
          ∗ (tabV.view.loc (c : Thread nD τ) ↦{fullShare.right} TV) ∗ owns (c : Thread nD τ) a7 fullShare dead) -∗ K ⟨⟩))
      ⊢ wp frame (wpE (defs₀ (F := F)) Variants.none c none) Set.univ
          (cc0_moe_expert_ffn i tabE (Memref.isWhole_whole _) tabV (Memref.isWhole_whole _) a3 h3 a4 h4 a5 h5 a6 h6 a7 h7) K := by
  rw [cc0_moe_expert_ffn_eq_skeleton]; unfold cc0_moe_expert_ffn_skel
  unfold owns
  iintro ⟨HE, HV, ⟨%d7, %f7, -, H7⟩, Hk⟩
  unfold word at hc1 hc2
  have hE : tabE.IsWhole := Memref.isWhole_whole _
  have hV : tabV.IsWhole := Memref.isWhole_whole _
  sl_exec! (disch := first | (guard_target = ¬(k0_cond1 _ = _); exact hc1) | (guard_target = k0_cond2 _ = _; exact hc2))
  sl_step
  iapply Hk
  isplitl [HE]; · iexact HE
  isplitl [HV]; · iexact HV
  iexists _; isplitr
  swap; · iexact H7
  ipureintro
  exact View.read_writes_eq_canon _ _ _ (covers _)

end Cert.Kernel2Ideal.Moe
-- ==== Proof.Moe.IdealFrame.lean ====
module

public import proofs.«01_k».proof.Proof.Moe.IdealBody
public import Idealize.ShloMosaic.Lib.Pipeline.Quiescent
public import Idealize.ShloMosaic.Lib.Claim

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

/-! # The expert kernel's run at any tables the routing can produce

`TE` names the expert of each tile of 512 rows, `TV` how many of the tile's rows are valid. -/

variable {F : FTy → Type} [FloatOps F]

local notation "𝕄" => MT nD τ sig Unit (Elt F) ℕ (UR sig nD τ) ℕ

/-- What the run needs of the tables: every expert is one of the eight, and no count is negative. -/
structure Tables (TE TV : S88.Idx → BitVec 32) : Prop where
  expert : ∀ x, (TE x).toNat < 8
  count : ∀ x, 0 ≤ (TV x).toInt

/-- The two tables as the launch reads them. -/
def contents (TE TV : S88.Idx → BitVec 32) : pre0.Contents (Elt F) :=
  fun | ⟨0, _⟩ => TE | ⟨1, _⟩ => TV | ⟨_ + 2, h⟩ => absurd h (by simp)

variable {TE TV : S88.Idx → BitVec 32}

/-- Every block of the experts' weights lies inside its array. -/
theorem fits1 (h : Tables TE TV) (i : grid0.Coords) (a : Fin 3) :
    (cc0_transform_1 k0_off1_inb numel1_S1 (contents (F := F) TE TV) i a + 1) * S1x1024x2816.size a ≤ S8x1024x2816.size a := by
  fin_cases a
  · exact (Nat.mul_one _).trans_le (h.expert _)
  · exact Nat.le_refl 1024
  · exact Nat.le_refl 2816

theorem fits2 (h : Tables TE TV) (i : grid0.Coords) (a : Fin 3) :
    (cc0_transform_2 k0_off1_inb numel1_S1 (contents (F := F) TE TV) i a + 1) * S1x1024x2816.size a ≤ S8x1024x2816.size a := by
  fin_cases a
  · exact (Nat.mul_one _).trans_le (h.expert _)
  · exact Nat.le_refl 1024
  · exact Nat.le_refl 2816

theorem fits3 (h : Tables TE TV) (i : grid0.Coords) (a : Fin 3) :
    (cc0_transform_3 k0_off1_inb numel1_S1 (contents (F := F) TE TV) i a + 1) * S1x2816x1024.size a ≤ S8x2816x1024.size a := by
  fin_cases a
  · exact (Nat.mul_one _).trans_le (h.expert _)
  · exact Nat.le_refl 2816
  · exact Nat.le_refl 1024

/-- The tables are admissible: the pipeline runs at them. -/
def adm (h : Tables TE TV) : (pcfg0 (F := F)).Adm :=
  ⟨contents TE TV, fun i => ⟨fits1 h i, .inl rfl⟩, fun i => ⟨fits2 h i, .inl rfl⟩, fun i => ⟨fits3 h i, .inl rfl⟩⟩

variable (F) in
/-- The pipeline at the tables. -/
abbrev pipe (h : Tables TE TV) : Cfg sig Λ₀ := cfg0 (F := F) (adm h)

variable (F) in
/-- A point's coordinate. -/
abbrev crd (h : Tables TE TV) (t : Fin (pipe F h).N) : (pipe F h).grid.Coords := (pipe F h).grid.coords t

/-- The body's tests of the count. -/
theorem test (b : Bool) : BitVec.ofBool ((BitVec.ofBool b).setWidth 32 != 0#32) = 1#1 ↔ b = true := by cases b <;> decide

theorem cond1_iff (v : BitVec 32) : k0_cond1 v = 1#1 ↔ (0#32).slt v = true := test _

theorem cond2_iff (v : BitVec 32) : k0_cond2 v = 1#1 ↔ (v == 0#32) = true := test _

/-- A count that is not negative is positive or zero, and not both. -/
theorem cond_not_iff (v : BitVec 32) (hv : 0 ≤ v.toInt) : ¬ k0_cond1 v = 1#1 ↔ k0_cond2 v = 1#1 := by
  rw [cond1_iff, cond2_iff, BitVec.slt_iff_toInt_lt, beq_iff_eq, BitVec.toInt_zero]
  constructor
  · intro h; exact BitVec.eq_of_toInt_eq (by rw [BitVec.toInt_zero]; omega)
  · intro h; rw [h, BitVec.toInt_zero]; omega

/-- The word the schedule tests is the word the body reads. -/
theorem word_eq (i : grid0.Coords) : (contents (F := F) TE TV).atD 1 (k0_off1 i) = word (F := F) TV i := by
  refine (dif_pos (fun a => ?_)).trans ?_
  · fin_cases a; exact k0_off1_inb i 0
  · exact congrArg TV (funext fun a => Fin.ext (by fin_cases a; exact (Nat.add_zero _).symm))

/-- No tile's block is left unwritten. -/
theorem written (h : Tables TE TV) (t : Fin (pipe F h).N) : (pipe F h).idle (4 : Fin 5) (crd F h t) = false := by
  have e : (pipe F h).idle (4 : Fin 5) (crd F h t)
      = (!(k0_cond1 ((contents (F := F) TE TV).atD 1 (k0_off1 (crd F h t))) == 1#1)
        && !(k0_cond2 ((contents (F := F) TE TV).atD 1 (k0_off1 (crd F h t))) == 1#1)) := rfl
  rw [e, word_eq]
  by_cases hc : k0_cond1 (word (F := F) TV (crd F h t)) = 1#1
  · rw [hc]; rfl
  · have h2 : k0_cond2 (word (F := F) TV (crd F h t)) = 1#1 := (cond_not_iff _ (h.count _)).1 hc
    rw [h2]; simp

/-! ## The staged blocks and what each point leaves -/

variable (h : Tables TE TV) (m : (ℓ : Loc nD τ sig) → Buf (Elt F) ℓ) (ρ : Dev nD → PrngReg)

variable (F) in
/-- The staging buffers of a point. -/
abbrev st0 (t : Fin (pipe F h).N) : Memref sig .tc .vmem S512x1024 .f32 := spec0_0.stage ((pipe F h).slots t (0 : Fin 5))
variable (F) in
abbrev st1 (t : Fin (pipe F h).N) : Memref sig .tc .vmem S1x1024x2816 .f32 := spec0_1.stage ((pipe F h).slots t (1 : Fin 5))
variable (F) in
abbrev st2 (t : Fin (pipe F h).N) : Memref sig .tc .vmem S1x1024x2816 .f32 := spec0_2.stage ((pipe F h).slots t (2 : Fin 5))
variable (F) in
abbrev st3 (t : Fin (pipe F h).N) : Memref sig .tc .vmem S1x2816x1024 .f32 := spec0_3.stage ((pipe F h).slots t (3 : Fin 5))
variable (F) in
abbrev st4 (t : Fin (pipe F h).N) : Memref sig .tc .vmem S512x1024 .f32 := spec0_4.stage ((pipe F h).slots t (4 : Fin 5))

/-- A window's block at a point, as the launch's memory has it. -/
def blk (c : Dev nD) (w : Fin (pipe F h).W) (t : Fin (pipe F h).N) : (((pipe F h).win w).xblock (crd F h t)).Idx → Elt F ((pipe F h).win w).elt :=
  (((pipe F h).win w).blk t).view.read (Elt F) ((s₀ m ρ).mem (((pipe F h).win w).arr.view.loc (c : Thread nD τ)))

/-- What a point leaves in the result's staging buffer. -/
def left (c : Dev nD) (t : Fin (pipe F h).N) : Vec F S512x1024 .f32 :=
  if k0_cond1 (word (F := F) TV (crd F h t)) = 1#1 then
    live (word (F := F) TV (crd F h t)) (blk h m ρ c (0 : Fin 5) t) (blk h m ρ c (1 : Fin 5) t) (blk h m ρ c (2 : Fin 5) t) (blk h m ρ c (3 : Fin 5) t)
  else dead

/-- What the body holds of the tables throughout. -/
def held (TE TV : S88.Idx → BitVec 32) (c : Dev nD) : sProp 𝕄 :=
  iprop((tabE.view.loc (c : Thread nD τ) ↦{fullShare.right} TE) ∗ (tabV.view.loc (c : Thread nD τ) ↦{fullShare.right} TV))

/-- The proof data of the pipeline. -/
def dats (_ : Fin 1) (c : Dev nD) : Dat τ (Elt F) Unit ℕ (UR sig nD τ) ℕ (pipe F h) c where
  A w := (s₀ m ρ).mem (((pipe F h).win w).arr.view.loc (c : Thread nD τ))
  after w t := match w with
    | ⟨0, _⟩ => blk h m ρ c (0 : Fin 5) t
    | ⟨1, _⟩ => blk h m ρ c (1 : Fin 5) t
    | ⟨2, _⟩ => blk h m ρ c (2 : Fin 5) t
    | ⟨3, _⟩ => blk h m ρ c (3 : Fin 5) t
    | ⟨4, _⟩ => left h m ρ c t
  Φ _ := held TE TV c
  q _ := fullShare
  owed _ := 0

theorem after4 (c : Dev nD) (t : Fin (pipe F h).N) : (dats h m ρ 0 c).after (4 : Fin 5) t = left h m ρ c t := rfl

/-- An input's buffer holds its block when the body runs, whether it was fetched at this point or earlier. -/
theorem before0 (c : Dev nD) (t : Fin (pipe F h).N) (d) : (dats h m ρ 0 c).before (0 : Fin 5) t d = blk h m ρ c (0 : Fin 5) t :=
  ((dats h m ρ 0 c).before_in_eq_fetched (0 : Fin 5) rfl (fun _ => rfl) (fun _ _ _ => rfl) (fun _ => rfl) t d).trans rfl

theorem before1 (c : Dev nD) (t : Fin (pipe F h).N) (d) : (dats h m ρ 0 c).before (1 : Fin 5) t d = blk h m ρ c (1 : Fin 5) t :=
  ((dats h m ρ 0 c).before_in_eq_fetched (1 : Fin 5) rfl (fun _ => rfl) (fun _ _ _ => rfl) (fun _ => rfl) t d).trans rfl

theorem before2 (c : Dev nD) (t : Fin (pipe F h).N) (d) : (dats h m ρ 0 c).before (2 : Fin 5) t d = blk h m ρ c (2 : Fin 5) t :=
  ((dats h m ρ 0 c).before_in_eq_fetched (2 : Fin 5) rfl (fun _ => rfl) (fun _ _ _ => rfl) (fun _ => rfl) t d).trans rfl

theorem before3 (c : Dev nD) (t : Fin (pipe F h).N) (d) : (dats h m ρ 0 c).before (3 : Fin 5) t d = blk h m ρ c (3 : Fin 5) t :=
  ((dats h m ρ 0 c).before_in_eq_fetched (3 : Fin 5) rfl (fun _ => rfl) (fun _ _ _ => rfl) (fun _ => rfl) t d).trans rfl

/-! ## The body at a point -/

/-- The body as the pipeline calls it at a point. -/
abbrev bodyAt (t : Fin (pipe F h).N) : Prog (TpuEff nD τ sig (Elt F) Λ₀ .tc) PUnit :=
  cc0_moe_expert_ffn (crd F h t) tabE (Memref.isWhole_whole _) tabV (Memref.isWhole_whole _)
    (st0 F h t) (hstage0_0 (((pipe F h).slots t (0 : Fin 5)).cast nbuf0_0)) (st1 F h t) (hstage0_1 (((pipe F h).slots t (1 : Fin 5)).cast nbuf0_1))
    (st2 F h t) (hstage0_2 (((pipe F h).slots t (2 : Fin 5)).cast nbuf0_2)) (st3 F h t) (hstage0_3 (((pipe F h).slots t (3 : Fin 5)).cast nbuf0_3))
    (st4 F h t) (hstage0_4 (((pipe F h).slots t (4 : Fin 5)).cast nbuf0_4))

/-- The body run on the staged blocks, whichever of its two cases the count selects. -/
theorem run_point (c : Dev nD) (t : Fin (pipe F h).N) (K : PUnit → sProp 𝕄) :
    iprop(owns (c : Thread nD τ) (st0 F h t) fullShare (blk h m ρ c (0 : Fin 5) t) ∗ owns (c : Thread nD τ) (st1 F h t) fullShare (blk h m ρ c (1 : Fin 5) t)
        ∗ owns (c : Thread nD τ) (st2 F h t) fullShare (blk h m ρ c (2 : Fin 5) t) ∗ owns (c : Thread nD τ) (st3 F h t) fullShare (blk h m ρ c (3 : Fin 5) t)
        ∗ held TE TV c ∗ (∃ d, owns (c : Thread nD τ) (st4 F h t) fullShare d)
        ∗ (iprop(owns (c : Thread nD τ) (st0 F h t) fullShare (blk h m ρ c (0 : Fin 5) t) ∗ owns (c : Thread nD τ) (st1 F h t) fullShare (blk h m ρ c (1 : Fin 5) t)
          ∗ owns (c : Thread nD τ) (st2 F h t) fullShare (blk h m ρ c (2 : Fin 5) t) ∗ owns (c : Thread nD τ) (st3 F h t) fullShare (blk h m ρ c (3 : Fin 5) t)
          ∗ held TE TV c ∗ owns (c : Thread nD τ) (st4 F h t) fullShare (left h m ρ c t)) -∗ K ⟨⟩))
      ⊢ wp frame (wpE (defs₀ (F := F)) Variants.none c none) Set.univ (bodyAt h t) K := by
  unfold held left
  by_cases hc : k0_cond1 (word (F := F) TV (crd F h t)) = 1#1
  · rw [if_pos hc]
    have h2 : ¬ k0_cond2 (word (F := F) TV (crd F h t)) = 1#1 := fun e => (cond_not_iff _ (h.count _)).2 e hc
    iintro ⟨H0, H1, H2, H3, ⟨HE, HV⟩, H4, Hk⟩
    iapply run_live c (crd F h t) _ _ _ _ _ _ _ _ _ _ TE TV _ _ _ _ hc h2
    isplitl [H0]; · iexact H0
    isplitl [H1]; · iexact H1
    isplitl [H2]; · iexact H2
    isplitl [H3]; · iexact H3
    isplitl [HE]; · iexact HE
    isplitl [HV]; · iexact HV
    isplitl [H4]; · iexact H4
    iintro ⟨H0, H1, H2, H3, HE, HV, H4⟩
    iapply Hk
    isplitl [H0]; · iexact H0
    isplitl [H1]; · iexact H1
    isplitl [H2]; · iexact H2
    isplitl [H3]; · iexact H3
    isplitl [HE HV]
    · isplitl [HE]; · iexact HE
      iexact HV
    iexact H4
  · rw [if_neg hc]
    have h2 : k0_cond2 (word (F := F) TV (crd F h t)) = 1#1 := (cond_not_iff _ (h.count _)).1 hc
    iintro ⟨H0, H1, H2, H3, ⟨HE, HV⟩, H4, Hk⟩
    iapply run_dead c (crd F h t) _ _ _ _ _ _ _ _ _ _ TE TV hc h2
    isplitl [HE]; · iexact HE
    isplitl [HV]; · iexact HV
    isplitl [H4]; · iexact H4
    iintro ⟨HE, HV, H4⟩
    iapply Hk
    isplitl [H0]; · iexact H0
    isplitl [H1]; · iexact H1
    isplitl [H2]; · iexact H2
    isplitl [H3]; · iexact H3
    isplitl [HE HV]
    · isplitl [HE]; · iexact HE
      iexact HV
    iexact H4

set_option maxHeartbeats 4000000 in
/-- The library's obligation: at every point the body takes what the windows hold to what the proof data says. -/
theorem obligation (c : Dev nD) : BodyObligation (dats h m ρ 0 c) (defs₀ (F := F)) Variants.none () Set.univ := fun t => by
  rw [bigSep_W0, bigSep_W0]
  rewrite [show (pipe F h).idle (4 : Fin 5) ((pipe F h).grid.coords t) = false from written h t]
  rewrite [show (dats h m ρ 0 c).Φ t.castSucc = held TE TV c from rfl, show (dats h m ρ 0 c).Φ t.succ = held TE TV c from rfl]
  simp only [before0, before1, before2, before3, after4]
  iintro ⟨HT, Ho, ⟨%d0, H0⟩, ⟨%d1, H1⟩, ⟨%d2, H2⟩, ⟨%d3, H3⟩, ⟨%d4, H4⟩⟩
  iapply run_point h m ρ c t
  isplitl [H0]; · iexact H0
  isplitl [H1]; · iexact H1
  isplitl [H2]; · iexact H2
  isplitl [H3]; · iexact H3
  isplitl [HT]; · iexact HT
  isplitl [H4]; · iexists _; iexact H4
  iintro ⟨H0, H1, H2, H3, HT, H4⟩
  isplitl [HT]; · iexact HT
  isplitl [Ho]; · iexact Ho
  isplitl [H0]; · iexact H0
  isplitl [H1]; · iexact H1
  isplitl [H2]; · iexact H2
  isplitl [H3]; · iexact H3
  iexact H4

/-! ## The launch -/

variable (F) in
/-- The launch's pipelines, at the tables. -/
abbrev pipes : Fin 1 → Cfg sig Λ₀ := Pipeline.pin (pcfgs (F := F)) fun _ => adm h

variable (F) in
/-- The launch's element of the resource algebra. -/
def start : UR sig nD τ :=
  initOf (Pipeline.cells (pipes F h) ((launch0 (F := F)).cellOf_inj fun _ => adm h))
    (Pipeline.launchToks (pipes F h) ((launch0 (F := F)).cellOf_inj fun _ => adm h))

theorem share_full (c : Dev nD) (w : Fin (pipe F h).W) : (dats h m ρ 0 c).share w = fullShare := by unfold Dat.share; split <;> rfl

/-- The tables' halves the region is handed are what the body holds. -/
theorem handed (c : Dev nD) :
    (Pipeline.prefHeld (Ix := Unit) (Name := ℕ) (U := UR sig nD τ) (Lvl := ℕ) pre0 c (fun _ => fullShare.right) (contents (F := F) TE TV) : sProp 𝕄)
      = held TE TV c := by
  unfold Pipeline.prefHeld held
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) (adm (F := F) h).1 ∗ Pipeline.scopedRest spec0 c) ⊢ (dats h m ρ 0 c).Φ 0 := by
  rw [show (adm (F := F) h).1 = contents TE TV from rfl, handed, scopedRest0_eq, show (dats h m ρ 0 c).Φ 0 = held TE TV c from rfl]
  iintro ⟨-, HT, -⟩
  iexact HT

theorem leave (c : Dev nD) : (dats h m ρ 0 c).Φ (Fin.last (pipe F h).N) ⊢ iprop(BI.emp ∗ Pipeline.scopedRest spec0 c) := by
  rw [scopedRest0_eq, show (dats h m ρ 0 c).Φ (Fin.last (pipe F h).N) = held TE TV c from rfl]
  iintro -
  isplitr <;> iempintro

/-- The launch's memory holds the tables. -/
def Holds (TE TV : S88.Idx → BitVec 32) (m : (ℓ : Loc nD τ sig) → Buf (Elt F) ℓ) : Prop :=
  ∀ c : Dev nD, m ((c : Thread nD τ).loc main_arg0) = TE ∧ m ((c : Thread nD τ).loc main_arg1) = TV

set_option backward.isDefEq.respectTransparency.types false in
set_option maxHeartbeats 4000000 in
/-- Every execution ends, each window's array at what the proof data computes, the tables as they were, every counter at zero. -/
theorem run (hm : Holds TE TV m) : θ_run (defs (F := F)) (onTc (τ := τ) (main (F := F))) (s₀ m ρ) (fun r =>
    (∀ c : Dev nD, (∀ w : Fin (pipe F h).W, r.2.mem (((pipe F h).win w).arr.view.loc (c : Thread nD τ)) = (dats h m ρ 0 c).arrAt w (pipe F h).N)
      ∧ ∀ j, r.2.mem ((c : Thread nD τ).loc (pre0.ref j)) = (adm (F := F) h).1 j) ∧ r.2.sem = fun _ => 0) :=
  Pipeline.θ_run_region_noSem_pf_quiescent pcfgs (fun _ => adm h) (dats h m ρ) () ((launch0 (F := F)).cellOf_inj fun _ => adm h) (0 : Fin 1)
    (launch0 (F := F)).win.to₀ (launch0 (F := F)).pre (emb₁ : Emb (UR sig nD τ) 𝕄) defs₀ Variants.none m ρ main
    (hbody := fun c => (obligation h m ρ c).loose) (hne := (launch0 (F := F)).block_pos)
    (harr := (launch0 (F := F)).arr_whole) (hstage := (launch0 (F := F)).stage_whole) (howed := fun _ _ => rfl)
    (u₀ := start F h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes F h) (dats h m ρ) 0 (launch0 (F := F)).win.arr_inj c (launch0 (F := F)).arr_whole
      (share_full h m ρ c) _ _ fun _ => rfl)
    (hpf := fun c j => by
      fin_cases j
      · exact (hm c).1
      · exact (hm c).2)
    (X := fun _ => iprop(emp)) (Y := fun _ => iprop(emp)) (Z := fun _ => iprop(emp))
    (hX := fun c => by rw [unscopedRestP0_eq]; iintro -; isplitr <;> iempintro)
    (hin := enter h m ρ)
    (hout := leave h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run's post read at the arguments and at the result. -/
theorem run_value (hm : Holds TE TV m) : θ_run (defs (F := F)) (onTc (τ := τ) (main (F := F))) ⟨m, fun _ => 0, ρ⟩ (fun r => (∀ c : Dev nD,
      r.2.mem ((c.tc : Thread nD τ).loc main_v0) = (dats h m ρ 0 c).arrAt (4 : Fin 5) (pipe F h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ r => ⟨fun c => ⟨(r.1 c).1 (4 : Fin 5), ((r.1 c).2 0).trans (hm c).1.symm, ((r.1 c).2 1).trans (hm c).2.symm,
    ((r.1 c).1 (0 : Fin 5)).trans ((dats h m ρ 0 c).arrAt_in (0 : Fin 5) rfl _), ((r.1 c).1 (1 : Fin 5)).trans ((dats h m ρ 0 c).arrAt_in (1 : Fin 5) rfl _),
    ((r.1 c).1 (2 : Fin 5)).trans ((dats h m ρ 0 c).arrAt_in (2 : Fin 5) rfl _), ((r.1 c).1 (3 : Fin 5)).trans ((dats h m ρ 0 c).arrAt_in (3 : Fin 5) rfl _)⟩, r.2⟩)
    (run h m ρ hm)

end Cert.Kernel2Ideal.Moe
-- ==== Proof.Moe.Value.lean ====
module

public import proofs.«01_k».proof.Proof.Moe.Ref
public import proofs.«01_k».proof.Proof.Moe.IdealFrame

@[expose] public section

set_option maxRecDepth 16384

noncomputable section

namespace Cert.Kernel2Ideal.Moe

open Cert.Kernel2Ideal Cert.Kernel2Ideal.Gen Idealize.ShloMosaic Idealize.ShloMosaic.TcCoe Idealize.SL.Sem
open Idealize.ShloMosaic.Pipeline (Dat)
open Cert.Reference2Ideal.Value (swish)

/-! # The experts' result array

Point `t` handles the rows `512 t … 512 t + 511` through the expert the first table names. The 2816 wide features are summed in two
halves of 1408. -/

/-- A sum over the wide features, half by half. -/
theorem sum_halves (f : Fin 2816 → EReal) :
    ∑ j : Fin 2816, f j = (∑ j : Fin 1408, f ⟨j, by omega⟩) + ∑ j : Fin 1408, f ⟨1408 + j, by omega⟩ :=
  Fin.sum_univ_add (a := 1408) (b := 1408) f

/-- The masked row: the rows past the count are zero. -/
theorem masked_at (v : BitVec 32) (x : FVec Ideal S512x1024 .f32) (ρ : Fin 512) (d : Fin 1024) :
    (k0_pay3 (F := Ideal) v x (ix2 ρ d) : EReal) = if IntOp.cmpi .slt (BitVec.ofNat 32 ρ) v = 1#1 then (x (ix2 ρ d) : EReal) else 0 := by
  pointwise [k0_pay3]
  rfl

theorem first_at (v : BitVec 32) (x : FVec Ideal S512x1024 .f32) (g u : FVec Ideal S1x1024x1408 .f32) (w : FVec Ideal S1x1408x1024 .f32)
    (ρ : Fin 512) (y : Fin 1024) :
    (k0_pay4 (F := Ideal) v x g u w (ix2 ρ y) : EReal)
      = ∑ j : Fin 1408, swish (∑ d : Fin 1024, k0_pay3 (F := Ideal) v x (ix2 ρ d) * g (ix3 0 d j)) (∑ d : Fin 1024, k0_pay3 (F := Ideal) v x (ix2 ρ d) * u (ix3 0 d j))
          * w (ix3 0 j y) := by
  unfold swish
  pointwise [k0_pay4]

theorem second_at (v : BitVec 32) (x : FVec Ideal S512x1024 .f32) (g u : FVec Ideal S1x1024x1408 .f32) (ρ : Fin 512) (j : Fin 1408) :
    (k0_pay5 (F := Ideal) v x g u (ix2 ρ j) : EReal)
      = swish (∑ d : Fin 1024, k0_pay3 (F := Ideal) v x (ix2 ρ d) * g (ix3 0 d j)) (∑ d : Fin 1024, k0_pay3 (F := Ideal) v x (ix2 ρ d) * u (ix3 0 d j)) := by
  unfold swish
  pointwise [k0_pay5]

theorem sum_at (f : FVec Ideal S512x1024 .f32) (p : FVec Ideal S512x1408 .bf16) (w : FVec Ideal S1x1408x1024 .f32) (ρ : Fin 512) (y : Fin 1024) :
    (k0_pay1 (F := Ideal) f p w (ix2 ρ y) : EReal) = f (ix2 ρ y) + ∑ j : Fin 1408, (p (ix2 ρ j) : EReal) * w (ix3 0 j y) := by
  pointwise [k0_pay1]

/-! ## The blocks -/

/-- A point's place in the grid, and where its table words and its rows lie. -/
theorem place : ∀ t : Fin grid0.N, k0_off1 (grid0.coords t) = ![t.val] ∧ cc0_transform_0 (grid0.coords t) = ![t.val, 0]
    ∧ cc0_transform_4 (grid0.coords t) = ![t.val, 0] ∧ t.val < 88 := by decide +kernel

variable {TE TV : S88.Idx → BitVec 32} (h : Tables TE TV) (m : (ℓ : Loc nD τ sig) → Buf (Elt Ideal) ℓ) (ρ : Dev nD → PrngReg)

/-- The argument arrays. -/
abbrev aX (c : Dev nD) : FVec Ideal S45056x1024 .f32 := m ((c : Thread nD τ).loc main_arg2)
abbrev aWg (c : Dev nD) : FVec Ideal S8x1024x2816 .f32 := m ((c : Thread nD τ).loc main_arg3)
abbrev aWu (c : Dev nD) : FVec Ideal S8x1024x2816 .f32 := m ((c : Thread nD τ).loc main_arg4)
abbrev aWd (c : Dev nD) : FVec Ideal S8x2816x1024 .f32 := m ((c : Thread nD τ).loc main_arg5)

theorem lt88 (t : Fin (pipe Ideal h).N) : t.val < 88 := (place t).2.2.2

/-- A table's word at a point. -/
theorem entry (T : S88.Idx → BitVec 32) (t : Fin (pipe Ideal h).N) (x : S88.Idx) (hx : (x 0 : ℕ) = k0_off1 (crd Ideal h t) 0 + 1 * 0) :
    T x = T (ix1 ⟨t.val, lt88 h t⟩) := by
  refine congrArg T (funext fun a => Fin.ext ?_)
  fin_cases a
  refine hx.trans ?_
  rw [(place t).1]
  rfl

/-- A point's count. -/
theorem word_at (t : Fin (pipe Ideal h).N) : word (F := Ideal) TV (crd Ideal h t) = TV (ix1 ⟨t.val, lt88 h t⟩) := entry h TV t _ rfl

/-- A point's expert. -/
abbrev expert (t : Fin (pipe Ideal h).N) : Fin 8 := ⟨(TE (ix1 ⟨t.val, lt88 h t⟩)).toNat, h.expert _⟩

theorem idx0 (t : Fin (pipe Ideal h).N) : ((pipe Ideal h).win (0 : Fin 5)).index t = ![t.val, 0] := (place t).2.1

theorem idx4 (t : Fin (pipe Ideal h).N) : ((pipe Ideal h).win (4 : Fin 5)).index t = ![t.val, 0] := (place t).2.2.1

theorem idx1 (t : Fin (pipe Ideal h).N) : ((pipe Ideal h).win (1 : Fin 5)).index t = ![(expert h t : ℕ), 0, 0] :=
  congrArg (fun v : BitVec 32 => ![v.toNat, 0, 0]) (entry h TE t _ rfl)

theorem idx2 (t : Fin (pipe Ideal h).N) : ((pipe Ideal h).win (2 : Fin 5)).index t = ![(expert h t : ℕ), 0, 0] :=
  congrArg (fun v : BitVec 32 => ![v.toNat, 0, 0]) (entry h TE t _ rfl)

theorem idx3 (t : Fin (pipe Ideal h).N) : ((pipe Ideal h).win (3 : Fin 5)).index t = ![(expert h t : ℕ), 0, 0] :=
  congrArg (fun v : BitVec 32 => ![v.toNat, 0, 0]) (entry h TE t _ rfl)

theorem blk0 (c : Dev nD) (t : Fin (pipe Ideal h).N) (i : Fin 512) (y : Fin 1024) (hr : t.val * 512 + i < 45056) :
    blk h m ρ c (0 : Fin 5) t (ix2 i y) = aX m c (ix2 ⟨t.val * 512 + i, hr⟩ y) := by
  have e := idx0 h t
  blk_ext [blk, s₀, e]

theorem blk1 (c : Dev nD) (t : Fin (pipe Ideal h).N) (d : Fin 1024) (j : Fin 2816) :
    blk h m ρ c (1 : Fin 5) t (ix3 0 d j) = aWg m c (ix3 (expert h t) d j) := by
  have e := idx1 h t
  blk_ext [blk, s₀, e]

theorem blk2 (c : Dev nD) (t : Fin (pipe Ideal h).N) (d : Fin 1024) (j : Fin 2816) :
    blk h m ρ c (2 : Fin 5) t (ix3 0 d j) = aWu m c (ix3 (expert h t) d j) := by
  have e := idx2 h t
  blk_ext [blk, s₀, e]

theorem blk3 (c : Dev nD) (t : Fin (pipe Ideal h).N) (j : Fin 2816) (y : Fin 1024) :
    blk h m ρ c (3 : Fin 5) t (ix3 0 j y) = aWd m c (ix3 (expert h t) j y) := by
  have e := idx3 h t
  blk_ext [blk, s₀, e]

/-! ## A row of a tile -/

/-- The features a row of a tile is projected back from, through expert `e`'s weights. -/
def wide (x : Fin 1024 → EReal) (wg wu : FVec Ideal S8x1024x2816 .f32) (e : Fin 8) (j : Fin 2816) : EReal :=
  swish (∑ d : Fin 1024, x d * wg (ix3 e d j)) (∑ d : Fin 1024, x d * wu (ix3 e d j))

/-- A row of zeros has no features. -/
theorem wide_zero (wg wu : FVec Ideal S8x1024x2816 .f32) (e : Fin 8) (j : Fin 2816) : wide (fun _ => 0) wg wu e j = 0 := by
  unfold wide swish
  simp

/-- Index `(0, i, j)` of part of a weight's block is the block's index at the part's offset. -/
theorem rect3 {A B P Q : ℕ} (off : Fin 3 → ℕ) (inb : ∀ a, off a + (![1, P, Q] : Fin 3 → ℕ) a ≤ (⟨3, ![1, A, B]⟩ : Shape).size a)
    (i : Fin P) (j : Fin Q) (i' : Fin A) (j' : Fin B) (h0 : off 0 = 0) (hi : (i' : ℕ) = off 1 + i) (hj : (j' : ℕ) = off 2 + j) :
    (Rect.unit (s := ⟨3, ![1, A, B]⟩) off ![1, P, Q] inb).idx (ix3 0 i j : (⟨3, ![1, P, Q]⟩ : Shape).Idx) = ix3 0 i' j' := by
  blk_ext
  · show off 1 + 1 * (i : ℕ) = i'; omega
  · show off 2 + 1 * (j : ℕ) = j'; omega

/-- What a tile with valid rows stores, over the staged blocks. -/
theorem live_at (v : BitVec 32) (x0 : Vec Ideal S512x1024 .f32) (x1 x2 : Vec Ideal S1x1024x2816 .f32) (x3 : Vec Ideal S1x2816x1024 .f32)
    (wg wu : FVec Ideal S8x1024x2816 .f32) (wd : FVec Ideal S8x2816x1024 .f32) (e : Fin 8) (i : Fin 512) (y : Fin 1024) (x : Fin 1024 → EReal)
    (hx : ∀ d, (k0_pay3 (F := Ideal) v x0 (ix2 i d) : EReal) = x d) (h1 : ∀ d j, x1 (ix3 0 d j) = wg (ix3 e d j)) (h2 : ∀ d j, x2 (ix3 0 d j) = wu (ix3 e d j))
    (h3 : ∀ j z, x3 (ix3 0 j z) = wd (ix3 e j z)) :
    (live (F := Ideal) v x0 x1 x2 x3 (ix2 i y) : EReal) = ∑ j : Fin 2816, wide x wg wu e j * wd (ix3 e j y) := by
  have a1 : ∀ d (j : Fin 1408), (View.ld x1 rW0 : FVec Ideal S1x1024x1408 .f32) (ix3 0 d j) = wg (ix3 e d ⟨j, by omega⟩) := fun d j =>
    (congrArg x1 (rect3 _ _ _ _ d ⟨j, by omega⟩ rfl (Nat.zero_add _).symm (Nat.zero_add _).symm)).trans (h1 _ _)
  have a2 : ∀ d (j : Fin 1408), (View.ld x2 rW0 : FVec Ideal S1x1024x1408 .f32) (ix3 0 d j) = wu (ix3 e d ⟨j, by omega⟩) := fun d j =>
    (congrArg x2 (rect3 _ _ _ _ d ⟨j, by omega⟩ rfl (Nat.zero_add _).symm (Nat.zero_add _).symm)).trans (h2 _ _)
  have a3 : ∀ (j : Fin 1408) z, (View.ld x3 rD0 : FVec Ideal S1x1408x1024 .f32) (ix3 0 j z) = wd (ix3 e ⟨j, by omega⟩ z) := fun j z =>
    (congrArg x3 (rect3 _ _ _ _ ⟨j, by omega⟩ z rfl (Nat.zero_add _).symm (Nat.zero_add _).symm)).trans (h3 _ _)
  have b1 : ∀ d (j : Fin 1408), (View.ld x1 rW1 : FVec Ideal S1x1024x1408 .f32) (ix3 0 d j) = wg (ix3 e d ⟨1408 + j, by omega⟩) := fun d j =>
    (congrArg x1 (rect3 _ _ _ _ d ⟨1408 + j, by omega⟩ rfl (Nat.zero_add _).symm rfl)).trans (h1 _ _)
  have b2 : ∀ d (j : Fin 1408), (View.ld x2 rW1 : FVec Ideal S1x1024x1408 .f32) (ix3 0 d j) = wu (ix3 e d ⟨1408 + j, by omega⟩) := fun d j =>
    (congrArg x2 (rect3 _ _ _ _ d ⟨1408 + j, by omega⟩ rfl (Nat.zero_add _).symm rfl)).trans (h2 _ _)
  have b3 : ∀ (j : Fin 1408) z, (View.ld x3 rD1 : FVec Ideal S1x1408x1024 .f32) (ix3 0 j z) = wd (ix3 e ⟨1408 + j, by omega⟩ z) := fun j z =>
    (congrArg x3 (rect3 _ _ _ _ ⟨1408 + j, by omega⟩ z rfl rfl (Nat.zero_add _).symm)).trans (h3 _ _)
  unfold live
  frame_out
  rw [sum_at, first_at, sum_halves]
  unfold wide
  simp only [second_at, a1, a2, a3, b1, b2, b3, hx]

/-- What a tile without valid rows stores. -/
theorem dead_at (i : Fin 512) (y : Fin 1024) : (dead (F := Ideal) (ix2 i y) : EReal) = 0 := by
  unfold dead
  frame_out
  pointwise [k0_pay2]

/-- A count above a row's place in its tile is positive. -/
theorem live_of (v : BitVec 32) (i : Fin 512) (hv : IntOp.cmpi .slt (BitVec.ofNat 32 i) v = 1#1) : k0_cond1 v = 1#1 := by
  rw [cond1_iff, BitVec.slt_iff_toInt_lt, BitVec.toInt_zero]
  refine lt_of_le_of_lt ?_ (IntOp.cmpi_slt.1 hv)
  rw [BitVec.toInt_eq_toNat_of_lt (by rw [BitVec.toNat_ofNat]; omega)]
  omega

/-- The gates select the row's expert, if the row is valid. -/
theorem gates (b : BitVec 1) (e : Fin 8) (v : BitVec 32) (hv : v.toNat = e) (f : Fin 8 → EReal) :
    ∑ i : Fin 8, (if b = 1#1 then (if v = BitVec.ofNat 32 i then (1 : EReal) else 0) else 0) * f i = if b = 1#1 then f e else 0 := by
  by_cases hb : b = 1#1
  · simp only [if_pos hb]
    rw [Finset.sum_eq_single e]
    · rw [if_pos (BitVec.eq_of_toNat_eq (by rw [BitVec.toNat_ofNat, hv]; omega)), one_mul]
    · intro i _ hi
      rw [if_neg, zero_mul]
      intro hc
      have := congrArg BitVec.toNat hc
      rw [BitVec.toNat_ofNat, hv] at this
      exact hi (Fin.ext (by omega))
    · intro hn; exact absurd (Finset.mem_univ _) hn
  · simp [if_neg hb]

/-- A point's stored row is the reference's. -/
theorem block (c : Dev nD) (t : Fin (pipe Ideal h).N) (i : Fin 512) (y : Fin 1024) (r : Fin 45056) (hr : (r : ℕ) = t.val * 512 + i) :
    (left h m ρ c t (ix2 i y) : EReal) = Cert.Reference2Ideal.Value.REF TE TV (aX m c) (aWg m c) (aWu m c) (aWd m c) (ix2 r y) := by
  have ht := lt88 h t
  have er : (⟨t.val * 512 + i, by omega⟩ : Fin 45056) = r := Fin.ext hr.symm
  have et : (⟨(r : ℕ) / 512, by omega⟩ : Fin 88) = ⟨t.val, ht⟩ := Fin.ext (by show (r : ℕ) / 512 = t.val; omega)
  have ei : (r : ℕ) % 512 = i := by omega
  have R : (Cert.Reference2Ideal.Value.REF TE TV (aX m c) (aWg m c) (aWu m c) (aWd m c) (ix2 r y) : EReal)
      = if IntOp.cmpi .slt (BitVec.ofNat 32 i) (TV (ix1 ⟨t.val, ht⟩)) = 1#1
        then ∑ j : Fin 2816, wide (fun d => aX m c (ix2 r d)) (aWg m c) (aWu m c) (expert h t) j * aWd m c (ix3 (expert h t) j y) else 0 := by
    unfold Cert.Reference2Ideal.Value.REF
    rw [Cert.Reference2Ideal.Value.refY_at]
    simp only [Cert.Reference2Ideal.Value.refG_at, Cert.Reference2Ideal.Value.refV_at, Cert.Reference2Ideal.Value.refE_at, et, ei]
    rw [gates _ (expert h t) _ rfl, Cert.Reference2Ideal.Value.refF_at]
    unfold wide
    simp only [Cert.Reference2Ideal.Value.refP_at, Cert.Reference2Ideal.Value.refA_at]
    simp only [mul_comm (aX m c _)]
  rw [R]
  unfold left
  rw [word_at]
  by_cases hb : IntOp.cmpi .slt (BitVec.ofNat 32 i) (TV (ix1 ⟨t.val, ht⟩)) = 1#1
  · rw [if_pos (live_of _ i hb), if_pos hb]
    refine live_at _ _ _ _ _ _ _ _ _ i y _ (fun d => ?_) (fun d j => blk1 h m ρ c t d j) (fun d j => blk2 h m ρ c t d j) (fun j z => blk3 h m ρ c t j z)
    rw [masked_at, if_pos hb, blk0 h m ρ c t i d (by omega), er]
  · rw [if_neg hb]
    split
    · refine (live_at _ _ _ _ _ (aWg m c) (aWu m c) (aWd m c) (expert h t) i y (fun _ => 0) (fun d => ?_) (fun d j => blk1 h m ρ c t d j)
        (fun d j => blk2 h m ρ c t d j) (fun j z => blk3 h m ρ c t j z)).trans ?_
      · rw [masked_at, if_neg hb]
      · simp [wide_zero]
    · exact dead_at i y

/-- The result's blocks lie where they do whatever the tables hold, so it is enough to see them at one pair of tables. -/
theorem zeros : Tables (fun _ => 0#32) (fun _ => 0#32) := ⟨fun _ => by decide, fun _ => by decide⟩

theorem covers0 : ((pipe Ideal zeros).win (4 : Fin 5)).Covers := by decide +kernel

theorem covers_result : ((pipe Ideal h).win (4 : Fin 5)).Covers := covers0

set_option maxHeartbeats 1600000 in
/-- The result array is the reference's. -/
theorem final (c : Dev nD) : (dats h m ρ 0 c).arrAt (4 : Fin 5) (pipe Ideal h).N
    = Cert.Reference2Ideal.Value.REF TE TV (aX m c) (aWg m c) (aWu m c) (aWd m c) := by
  refine (dats h m ρ 0 c).arrAt_eq_of_covers (4 : Fin 5) _ (covers_result h) fun t hfl y => ?_
  have ht := lt88 h t
  idx_vars y
  have e := idx4 h t
  have hy : ((View.whole main_v0).slice (((pipe Ideal h).win (4 : Fin 5)).rect t)).emb (ix2 y0 y1 : S512x1024.Idx) = ix2 ⟨t.val * 512 + (y0 : ℕ), by omega⟩ y1 := by
    blk_ext [e]
  blk_simp
  rw [after4]
  rw [hy]
  exact block h m ρ c t y0 y1 _ rfl

end Cert.Kernel2Ideal.Moe
-- ==== Proof.Moe.Claims.lean ====
module

public import proofs.«01_k».proof.Defs
public import proofs.«01_k».proof.Proof.Moe.Routed
public import proofs.«01_k».proof.Proof.Moe.Value
public import proofs.«01_k».proof.Proof.Moe.BitsFrame
public import Idealize.ShloMosaic.Lib.Claim

@[expose] public section

set_option maxRecDepth 16384

noncomputable section

/-! # The claims about the experts' feed-forward -/

namespace Cert.Kernel2.Moe

open Cert.Kernel2 Cert.Kernel2.Gen Idealize.ShloMosaic Idealize.ShloMosaic.TcCoe Idealize.SL.Sem

/-- There is one device, so one pair of tables. -/
theorem holds (m : (ℓ : Loc nD τ sig) → Buf (Elt Bits) ℓ) :
    Holds (F := Bits) (m (((0 : Dev nD) : Thread nD τ).loc main_arg0)) (m (((0 : Dev nD) : Thread nD τ).loc main_arg1)) m := fun c => by
  obtain rfl : c = 0 := Subsingleton.elim _ _
  exact ⟨rfl, rfl⟩

theorem frame : Cert.quiescent_Kernel2 := fun m g hp =>
  have ht : Tables (m (((0 : Dev nD) : Thread nD τ).loc main_arg0)) (m (((0 : Dev nD) : Thread nD τ).loc main_arg1)) :=
    ⟨(Cert.Pre_routed.Value.tiles _ _ _ _ _ _ (hp 0)).1, (Cert.Pre_routed.Value.tiles _ _ _ _ _ _ (hp 0)).2⟩
  (θ_run defs _ _).mono (fun r h => ⟨fun c => (h.1 c).2, h.2⟩) (run_value (F := Bits) ht m g (holds m))

end Cert.Kernel2.Moe

namespace Cert.Kernel2Ideal.Moe

open Cert.Kernel2Ideal Cert.Kernel2Ideal.Gen Idealize.ShloMosaic Idealize.ShloMosaic.TcCoe Idealize.SL.Sem

/-- There is one device, so one pair of tables. -/
theorem holds (m : (ℓ : Loc nD τ sig) → Buf (Elt Ideal) ℓ) :
    Holds (F := Ideal) (m (((0 : Dev nD) : Thread nD τ).loc main_arg0)) (m (((0 : Dev nD) : Thread nD τ).loc main_arg1)) m := fun c => by
  obtain rfl : c = 0 := Subsingleton.elim _ _
  exact ⟨rfl, rfl⟩

theorem tables (m : (ℓ : Loc nD τ sig) → Buf (Elt Ideal) ℓ) (hp : Cert.Pre_Kernel2Ideal m) :
    Tables (m (((0 : Dev nD) : Thread nD τ).loc main_arg0)) (m (((0 : Dev nD) : Thread nD τ).loc main_arg1)) :=
  ⟨(Cert.Pre_routed.Value.tiles _ _ _ _ _ _ (hp 0)).1, (Cert.Pre_routed.Value.tiles _ _ _ _ _ _ (hp 0)).2⟩

theorem frame : Cert.quiescent_Kernel2Ideal := fun m g hp =>
  (θ_run defs _ _).mono (fun r h => ⟨fun c => (h.1 c).2, h.2⟩) (run_value (F := Ideal) (tables m hp) m g (holds m))

/-- The reference runs on the host alone: its arguments stay and it has no semaphore. -/
theorem frame_reference : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The kernel's run, its result at the reference's formula. -/
theorem run_ref (m : (ℓ : Loc nD τ sig) → Buf (Elt Ideal) ℓ) (g : Dev nD → PrngReg) (hp : Cert.Pre_Kernel2Ideal m) :
    θ_run (defs (F := Ideal)) (onTc (τ := τ) (main (F := Ideal))) ⟨m, fun _ => 0, g⟩ (fun r => ∀ c : Dev nD,
      r.2.mem ((c.tc : Thread nD τ).loc main_v0) = Cert.Reference2Ideal.Value.REF (m ((c.tc : Thread nD τ).loc main_arg0)) (m ((c.tc : Thread nD τ).loc main_arg1))
        (aX m c) (aWg m c) (aWu m c) (aWd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain rfl : c = 0 := Subsingleton.elim _ _
    exact ⟨(h.1 0).1.trans (final (tables m hp) m g 0), (h.1 0).2⟩) (run_value (F := Ideal) (tables m hp) m g (holds m))

theorem algebraic : Cert.algebraic_Kernel2Ideal_Reference2Ideal := fun m g m' g' hp hagree =>
  ⟨_, run_ref m g hp, (θ_run Cert.Reference2Ideal.defs _ _).mono (fun r h c => by
    obtain ⟨e0, e1, e2, e3, e4, e5⟩ := hagree c
    refine ⟨(h c).1.trans ?_, (h c).2⟩
    rw [e0, e1, e2, e3, e4, e5]
    rfl) (Cert.Reference2Ideal.Value.run (F := Ideal) m' g')⟩

end Cert.Kernel2Ideal.Moe
-- ==== Proof.Ffn.Ref.lean ====
module

public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Reference3Ideal.Value

open Cert.Reference3Ideal Cert.Reference3Ideal.Gen Idealize.ShloMosaic Idealize.ShloMosaic.TcCoe Idealize.SL.Sem

/-! # The reference of the dense feed-forward, stage by stage and at an index -/

/-- One of the two projections to the wide features. -/
def refA (h : FVec Ideal S20480x1024 .bf16) (w : FVec Ideal S1024x2816 .f32) : FVec Ideal S20480x2816 .f32 :=
  Host.dotGeneral dot_S20480x1024_S1024x2816_S20480x2816_1_0_0_1_n_n none (extf .f32 h bitsLt_bf16_f32) w

/-- The gated features. -/
def refP (A U : FVec Ideal S20480x2816 .f32) : FVec Ideal S20480x2816 .f32 :=
  mulf (mulf A (Host.divf (broadcastInDim S20480x2816 ![] bcast_S_S20480x2816 (constant S_ .f32 0x3F800000#32))
    (addf (broadcastInDim S20480x2816 ![] bcast_S_S20480x2816 (constant S_ .f32 0x3F800000#32)) (Host.exp (Host.negf A))))) U

/-- Their projection back. -/
def refF (P : FVec Ideal S20480x2816 .f32) (w : FVec Ideal S2816x1024 .f32) : FVec Ideal S20480x1024 .f32 :=
  Host.dotGeneral dot_S20480x2816_S2816x1024_S20480x1024_1_0_0_1_n_n none P w

/-- The root mean square normalisation of each row. -/
def refN (f : FVec Ideal S20480x1024 .f32) (g : FVec Ideal S1x1024 .f32) : FVec Ideal S20480x1024 .f32 :=
  mulf (mulf f (broadcastInDim S20480x1024 ![0, 1] bcast_S20480x1_S20480x1024_0_1 (Host.rsqrt (addf (Host.divf
    (broadcastInDim S20480x1 ![0] bcast_S20480_S20480x1_0 (Host.reduceAdd (mulf f f) (constant S_ .f32 0x00000000#32) reducesTo_S20480x1024_S20480_d1 h_S_))
    (broadcastInDim S20480x1 ![] bcast_S_S20480x1 (constant S_ .f32 0x44800000#32)))
    (broadcastInDim S20480x1 ![] bcast_S_S20480x1 (constant S_ .f32 0x358637BD#32))))))
    (broadcastInDim S20480x1024 ![0, 1] bcast_S1x1024_S20480x1024_0_1 g)

/-- The gate and the residual. -/
def refY (x : FVec Ideal S20480x1024 .f32) (md : FVec Ideal S2x8x6x1x1024 .f32) (n : FVec Ideal S20480x1024 .f32) : FVec Ideal S20480x1024 .f32 :=
  shapeCast _ (addf (shapeCast _ x shapeCasts_S20480x1024_S5x4096x1024) (mulf (broadcastInDim S5x4096x1024 ![0, 1, 2] bcast_S5x1x1024_S5x4096x1024_0_1_2
    (shapeCast _ (extractStridedSlice S1x5x1x1x1024 ![0, 0, 5, 0, 0] md slices_S2x8x6x1x1024_S1x5x1x1x1024_0_0_5_0_0) shapeCasts_S1x5x1x1x1024_S5x1x1024))
    (shapeCast _ n shapeCasts_S20480x1024_S5x4096x1024))) shapeCasts_S5x4096x1024_S20480x1024

/-- The whole reference. -/
def REF (h : FVec Ideal S20480x1024 .bf16) (x : FVec Ideal S20480x1024 .f32) (wg wu : FVec Ideal S1024x2816 .f32) (wd : FVec Ideal S2816x1024 .f32)
    (md : FVec Ideal S2x8x6x1x1024 .f32) (g : FVec Ideal S1x1024 .f32) : FVec Ideal S20480x1024 .f32 :=
  refY x md (refN (refF (refP (refA h wg) (refA h wu)) wd) g)

theorem refA_at (h : FVec Ideal S20480x1024 .bf16) (w : FVec Ideal S1024x2816 .f32) (r : Fin 20480) (j : Fin 2816) :
    refA h w (ix2 r j) = ∑ d : Fin 1024, (h (ix2 r d) : EReal) * w (ix2 d j) := by
  pointwise [refA]

/-- The gated product of two projections. -/
def swish (a u : EReal) : EReal := a * Ideal.logistic a * u

theorem refP_at (A U : FVec Ideal S20480x2816 .f32) (r : Fin 20480) (j : Fin 2816) :
    refP A U (ix2 r j) = swish (A (ix2 r j)) (U (ix2 r j)) := by
  unfold swish Ideal.logistic
  pointwise [refP]

theorem refF_at (P : FVec Ideal S20480x2816 .f32) (w : FVec Ideal S2816x1024 .f32) (r : Fin 20480) (y : Fin 1024) :
    refF P w (ix2 r y) = ∑ j : Fin 2816, P (ix2 r j) * w (ix2 j y) := by
  pointwise [refF]

theorem refN_at (f : FVec Ideal S20480x1024 .f32) (g : FVec Ideal S1x1024 .f32) (r : Fin 20480) (y : Fin 1024) :
    refN f g (ix2 r y) = f (ix2 r y) * Ideal.rsqrt (Ideal.div (∑ z : Fin 1024, f (ix2 r z) * f (ix2 r z)) (Ideal.ofBits .f32 0x44800000#32)
      + Ideal.ofBits .f32 0x358637BD#32) * g (ix2 0 y) := by
  pointwise [refN]

theorem refY_at (x : FVec Ideal S20480x1024 .f32) (md : FVec Ideal S2x8x6x1x1024 .f32) (n : FVec Ideal S20480x1024 .f32) (r : Fin 20480) (y : Fin 1024) :
    refY x md n (ix2 r y) = x (ix2 r y) + md (ix5 0 ⟨r / 4096, by omega⟩ 5 0 y) * n (ix2 r y) := by
  pointwise [refY]

end Cert.Reference3Ideal.Value
-- ==== Proof.Ffn.Value.lean ====
module

public import proofs.«01_k».proof.Proof.Ffn.Ref
public import proofs.«01_k».proof.Proof.Gen.Kernel3Ideal.Value

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Reference3Ideal.Value (swish)

/-! # The dense feed-forward's result array

Point `t` handles the rows `512 t … 512 t + 511`, whose gate is that of group `t / 8`. The 2816 wide features are summed in two
halves of 1408. -/

/-- A sum over the wide features, half by half. -/
theorem sum_halves (f : Fin 2816 → EReal) :
    ∑ j : Fin 2816, f j = (∑ j : Fin 1408, f ⟨j, by omega⟩) + ∑ j : Fin 1408, f ⟨1408 + j, by omega⟩ :=
  Fin.sum_univ_add (a := 1408) (b := 1408) f

/-- The wide product of a row, over the loaded halves. -/
theorem wide_at (h : FVec Ideal S512x1024 .bf16) (g0 u0 : FVec Ideal S1024x1408 .f32) (d0 : FVec Ideal S1408x1024 .f32)
    (g1 u1 : FVec Ideal S1024x1408 .f32) (d1 : FVec Ideal S1408x1024 .f32) (ρ : Fin 512) (y : Fin 1024) :
    (k0_pay2 (F := Ideal) h g0 u0 d0 g1 u1 d1 (ix2 ρ y) : EReal)
      = (∑ j : Fin 1408, swish (∑ d : Fin 1024, h (ix2 ρ d) * g0 (ix2 d j)) (∑ d : Fin 1024, h (ix2 ρ d) * u0 (ix2 d j)) * d0 (ix2 j y))
        + ∑ j : Fin 1408, swish (∑ d : Fin 1024, h (ix2 ρ d) * g1 (ix2 d j)) (∑ d : Fin 1024, h (ix2 ρ d) * u1 (ix2 d j)) * d1 (ix2 j y) := by
  unfold swish
  pointwise [k0_pay2]

/-- The normalisation, the gate and the residual of a row. -/
theorem out_at (f x : FVec Ideal S512x1024 .f32) (gt : FVec Ideal S1x1x1x1x1024 .f32) (g : FVec Ideal S1x1024 .f32) (ρ : Fin 512) (y : Fin 1024) :
    k0_pay1 f x (k0_pay3 gt) g (ix2 ρ y)
      = x (ix2 ρ y) + gt (ix5 0 0 0 0 y) * (f (ix2 ρ y) * Ideal.rsqrt (Ideal.div (∑ z : Fin 1024, f (ix2 ρ z) * f (ix2 ρ z))
        (Ideal.ofBits .f32 0x44800000#32) + Ideal.ofBits .f32 0x358637BD#32) * g (ix2 0 y)) := by
  pointwise [k0_pay1, k0_pay3]

variable (m : (ℓ : Loc nD τ sig) → Buf (Elt Ideal) ℓ)

/-- The blocks each point stages. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0]
    ∧ win0_6.index t = ![0, t.val / 8, 5, 0, 0] ∧ win0_7.index t = ![t.val, 0] ∧ t.val < 40 :=
  (by decide +kernel : ∀ t : Fin grid0.N, _)

/-- The argument arrays. -/
abbrev aH (c : Dev nD) : FVec Ideal S20480x1024 .bf16 := m ((c : Thread nD τ).loc main_arg0)
abbrev aX (c : Dev nD) : FVec Ideal S20480x1024 .f32 := m ((c : Thread nD τ).loc main_arg1)
abbrev aWg (c : Dev nD) : FVec Ideal S1024x2816 .f32 := m ((c : Thread nD τ).loc main_arg2)
abbrev aWu (c : Dev nD) : FVec Ideal S1024x2816 .f32 := m ((c : Thread nD τ).loc main_arg3)
abbrev aWd (c : Dev nD) : FVec Ideal S2816x1024 .f32 := m ((c : Thread nD τ).loc main_arg4)
abbrev aMod (c : Dev nD) : FVec Ideal S2x8x6x1x1024 .f32 := m ((c : Thread nD τ).loc main_arg5)
abbrev aG (c : Dev nD) : FVec Ideal S1x1024 .f32 := m ((c : Thread nD τ).loc main_arg6)

theorem iblk0 (c : Dev nD) (t : Fin cfg0.N) (ρ : Fin 512) (y : Fin 1024) (h : t.val * 512 + ρ < 20480) :
    iblk m c 0 t (ix2 ρ y) = aH m c (ix2 ⟨t.val * 512 + ρ, h⟩ y) := by
  blk_ext [iblk, V, idx t]

theorem iblk1 (c : Dev nD) (t : Fin cfg0.N) (ρ : Fin 512) (y : Fin 1024) (h : t.val * 512 + ρ < 20480) :
    iblk m c 1 t (ix2 ρ y) = aX m c (ix2 ⟨t.val * 512 + ρ, h⟩ y) := by
  blk_ext [iblk, V, idx t]

theorem iblk2 (c : Dev nD) (t : Fin cfg0.N) (d : Fin 1024) (j : Fin 2816) : iblk m c 2 t (ix2 d j) = aWg m c (ix2 d j) := by
  blk_ext [iblk, V, idx t]

theorem iblk3 (c : Dev nD) (t : Fin cfg0.N) (d : Fin 1024) (j : Fin 2816) : iblk m c 3 t (ix2 d j) = aWu m c (ix2 d j) := by
  blk_ext [iblk, V, idx t]

theorem iblk4 (c : Dev nD) (t : Fin cfg0.N) (j : Fin 2816) (y : Fin 1024) : iblk m c 4 t (ix2 j y) = aWd m c (ix2 j y) := by
  blk_ext [iblk, V, idx t]

theorem iblk5 (c : Dev nD) (t : Fin cfg0.N) (y : Fin 1024) : iblk m c 5 t (ix2 0 y) = aG m c (ix2 0 y) := by
  blk_ext [iblk, V, idx t]

theorem iblk6 (c : Dev nD) (t : Fin cfg0.N) (y : Fin 1024) (h : t.val / 8 < 8) :
    iblk m c 6 t (ix5 0 0 0 0 y) = aMod m c (ix5 0 ⟨t.val / 8, h⟩ 5 0 y) := by
  blk_ext [iblk, V, idx t]

/-- Index `(i, j)` of part of an array is the array's index at the part's offset. -/
theorem rect2 {A B P Q : ℕ} (off : Fin 2 → ℕ) (inb : ∀ a, off a + (![P, Q] : Fin 2 → ℕ) a ≤ (⟨2, ![A, B]⟩ : Shape).size a)
    (i : Fin P) (j : Fin Q) (i' : Fin A) (j' : Fin B) (hi : (i' : ℕ) = off 0 + i) (hj : (j' : ℕ) = off 1 + j) :
    (Rect.unit (s := ⟨2, ![A, B]⟩) off ![P, Q] inb).idx (ix2 i j : (⟨2, ![P, Q]⟩ : Shape).Idx) = ix2 i' j' := by
  blk_ext
  · show off 0 + 1 * (i : ℕ) = i'; omega
  · show off 1 + 1 * (j : ℕ) = j'; omega

/-- A point's stored row, over what it reads. -/
theorem block (c : Dev nD) (t : Fin cfg0.N) (ρ : Fin 512) (y : Fin 1024) (r : Fin 20480) (hr : (r : ℕ) = t.val * 512 + ρ)
    (h : FVec Ideal S512x1024 .bf16) (g0 u0 : FVec Ideal S1024x1408 .f32) (d0 : FVec Ideal S1408x1024 .f32)
    (g1 u1 : FVec Ideal S1024x1408 .f32) (d1 : FVec Ideal S1408x1024 .f32) (x : FVec Ideal S512x1024 .f32)
    (gt : FVec Ideal S1x1x1x1x1024 .f32) (g : FVec Ideal S1x1024 .f32)
    (hh : ∀ d : Fin 1024, h (ix2 ρ d) = iblk m c 0 t (ix2 ρ d))
    (hg0 : ∀ (d : Fin 1024) (j : Fin 1408), g0 (ix2 d j) = iblk m c 2 t (ix2 d ⟨j, by omega⟩))
    (hu0 : ∀ (d : Fin 1024) (j : Fin 1408), u0 (ix2 d j) = iblk m c 3 t (ix2 d ⟨j, by omega⟩))
    (hd0 : ∀ (j : Fin 1408) (z : Fin 1024), d0 (ix2 j z) = iblk m c 4 t (ix2 ⟨j, by omega⟩ z))
    (hg1 : ∀ (d : Fin 1024) (j : Fin 1408), g1 (ix2 d j) = iblk m c 2 t (ix2 d ⟨1408 + j, by omega⟩))
    (hu1 : ∀ (d : Fin 1024) (j : Fin 1408), u1 (ix2 d j) = iblk m c 3 t (ix2 d ⟨1408 + j, by omega⟩))
    (hd1 : ∀ (j : Fin 1408) (z : Fin 1024), d1 (ix2 j z) = iblk m c 4 t (ix2 ⟨1408 + j, by omega⟩ z))
    (hx : x (ix2 ρ y) = iblk m c 1 t (ix2 ρ y)) (hgt : gt (ix5 0 0 0 0 y) = iblk m c 6 t (ix5 0 0 0 0 y))
    (hg : g (ix2 0 y) = iblk m c 5 t (ix2 0 y)) :
    k0_pay1 (k0_pay2 h g0 u0 d0 g1 u1 d1) x (k0_pay3 gt) g (ix2 ρ y)
      = Cert.Reference3Ideal.Value.REF (aH m c) (aX m c) (aWg m c) (aWu m c) (aWd m c) (aMod m c) (aG m c) (ix2 r y) := by
  have ht : t.val < 40 := (idx t).2.2.2.2.2.2.2.2
  have hr8 : t.val / 8 = (r : ℕ) / 4096 := by omega
  have er : (⟨t.val * 512 + ρ, by omega⟩ : Fin 20480) = r := Fin.ext hr.symm
  have hw : ∀ z : Fin 1024, (k0_pay2 (F := Ideal) h g0 u0 d0 g1 u1 d1 (ix2 ρ z) : EReal)
      = Cert.Reference3Ideal.Value.refF (Cert.Reference3Ideal.Value.refP (Cert.Reference3Ideal.Value.refA (aH m c) (aWg m c))
        (Cert.Reference3Ideal.Value.refA (aH m c) (aWu m c))) (aWd m c) (ix2 r z) := by
    intro z
    rw [wide_at, Cert.Reference3Ideal.Value.refF_at, sum_halves]
    simp only [Cert.Reference3Ideal.Value.refP_at, Cert.Reference3Ideal.Value.refA_at, hh, hg0, hu0, hd0, hg1, hu1, hd1,
      iblk0 m c t ρ _ (by omega), iblk2, iblk3, iblk4, er]
  unfold Cert.Reference3Ideal.Value.REF
  rw [out_at, Cert.Reference3Ideal.Value.refY_at, Cert.Reference3Ideal.Value.refN_at, hx, hgt, hg, iblk1 m c t ρ y (by omega),
    iblk6 m c t y (by omega), iblk5, er]
  simp only [hw, hr8]

set_option maxHeartbeats 1600000 in
/-- The result array is the reference's. -/
theorem final (c : Dev nD) : (dats m 0 c).arrAt 7 (cfgs 0).N
    = Cert.Reference3Ideal.Value.REF (aH m c) (aX m c) (aWg m c) (aWu m c) (aWd m c) (aMod m c) (aG m c) := by
  refine (dats m 0 c).arrAt_eq_of_covers 7 _ (by decide +kernel) fun t hfl y => ?_
  have ht : t.val < 40 := (idx t).2.2.2.2.2.2.2.2
  idx_vars y
  have hy : ((View.whole main_v0).slice (win0_7.rect t)).emb (ix2 y0 y1 : S512x1024.Idx) = ix2 ⟨t.val * 512 + (y0 : ℕ), by omega⟩ y1 := by
    blk_ext [idx t]
  blk_simp
  rw [after0_7]; unfold out0_7; frame_out
  rw [hy]
  refine block m c t y0 y1 _ rfl _ _ _ _ _ _ _ _ _ _ ?_ ?_ ?_ ?_ ?_ ?_ ?_ ?_ ?_ ?_
  · exact fun d => rfl
  · exact fun d j => congrArg (iblk m c 2 t) (rect2 _ _ _ _ _ _ (Nat.zero_add _).symm (Nat.zero_add _).symm)
  · exact fun d j => congrArg (iblk m c 3 t) (rect2 _ _ _ _ _ _ (Nat.zero_add _).symm (Nat.zero_add _).symm)
  · exact fun d j => congrArg (iblk m c 4 t) (rect2 _ _ _ _ _ _ (Nat.zero_add _).symm (Nat.zero_add _).symm)
  · exact fun d j => congrArg (iblk m c 2 t) (rect2 _ _ _ _ _ _ (Nat.zero_add _).symm rfl)
  · exact fun d j => congrArg (iblk m c 3 t) (rect2 _ _ _ _ _ _ (Nat.zero_add _).symm rfl)
  · exact fun d j => congrArg (iblk m c 4 t) (rect2 _ _ _ _ _ _ rfl (Nat.zero_add _).symm)
  · rfl
  · rfl
  · rfl

end Cert.Kernel3Ideal.Value
-- ==== Proof.Ffn.Claims.lean ====
module

public import proofs.«01_k».proof.Defs
public import proofs.«01_k».proof.Proof.Ffn.Value
public import Idealize.ShloMosaic.Lib.Claim

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Reference3Ideal.Value (swish)

/-! # The dense feed-forward's value claim -/

theorem algebraic : Cert.algebraic_Kernel3Ideal_Reference3Ideal := by
  pair_intro
  · run_from Cert.Kernel3Ideal.Value.run_blocks m g
  · run_from Cert.Reference3Ideal.Value.run m' g'
    refine Eq.trans ?_ (final m c).symm
    unfold Cert.Reference3Ideal.Value.REF Cert.Reference3Ideal.Value.refY Cert.Reference3Ideal.Value.refN Cert.Reference3Ideal.Value.refF
      Cert.Reference3Ideal.Value.refP Cert.Reference3Ideal.Value.refA
    rfl

end Cert.Kernel3Ideal.Value
-- ==== Proof.Combine.Context.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Reference4Ideal.Value

open Cert.Reference4Ideal Cert.Reference4Ideal.Gen Idealize.ShloMosaic Idealize.ShloMosaic.TcCoe Idealize.SL.Sem

/-! # The combination of the experts' rows, for the context tokens -/

/-- The weighted sum of a token's two experts' rows. -/
def refF (yg : FVec Ideal S40960x1024 .f32) (w : FVec Ideal S20480x128 .f32) : FVec Ideal S4096x1024 .f32 :=
  addf (mulf (broadcastInDim S4096x1024 ![0, 1] bcast_S4096x1_S4096x1024_0_1 (extractStridedSlice S4096x1 ![0, 0] w slices_S20480x128_S4096x1_0_0))
      (extractStridedSlice S4096x1024 ![0, 0] yg slices_S40960x1024_S4096x1024_0_0))
    (mulf (broadcastInDim S4096x1024 ![0, 1] bcast_S4096x1_S4096x1024_0_1 (extractStridedSlice S4096x1 ![0, 1] w slices_S20480x128_S4096x1_0_1))
      (extractStridedSlice S4096x1024 ![20480, 0] yg slices_S40960x1024_S4096x1024_20480_0))

/-- The root mean square normalisation of each row. -/
def refN (f : FVec Ideal S4096x1024 .f32) (g : FVec Ideal S1x1024 .f32) : FVec Ideal S4096x1024 .f32 :=
  mulf (mulf f (broadcastInDim S4096x1024 ![0, 1] bcast_S4096x1_S4096x1024_0_1 (Host.rsqrt (addf (Host.divf
    (broadcastInDim S4096x1 ![0] bcast_S4096_S4096x1_0 (Host.reduceAdd (mulf f f) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)

/-- The gate and the residual. -/
def refY (x : FVec Ideal S20480x1024 .f32) (md : FVec Ideal S2x8x6x1x1024 .f32) (n : FVec Ideal S4096x1024 .f32) : FVec Ideal S4096x1024 .f32 :=
  addf (extractStridedSlice S4096x1024 ![0, 0] x slices_S20480x1024_S4096x1024_0_0) (mulf (broadcastInDim S4096x1024 ![0, 1] bcast_S1x1024_S4096x1024_0_1
    (shapeCast _ (extractStridedSlice S1x1x1x1x1024 ![1, 0, 5, 0, 0] md slices_S2x8x6x1x1024_S1x1x1x1x1024_1_0_5_0_0) shapeCasts_S1x1x1x1x1024_S1x1024)) n)

/-- The whole reference. -/
def REF (yg : FVec Ideal S40960x1024 .f32) (w : FVec Ideal S20480x128 .f32) (x : FVec Ideal S20480x1024 .f32)
    (md : FVec Ideal S2x8x6x1x1024 .f32) (g : FVec Ideal S1x1024 .f32) : FVec Ideal S4096x1024 .f32 :=
  refY x md (refN (refF yg w) g)

theorem refF_at (yg : FVec Ideal S40960x1024 .f32) (w : FVec Ideal S20480x128 .f32) (r : Fin 4096) (y : Fin 1024) :
    refF yg w (ix2 r y) = w (ix2 ⟨0 + r, by omega⟩ 0) * yg (ix2 ⟨0 + r, by omega⟩ y)
      + w (ix2 ⟨0 + r, by omega⟩ 1) * yg (ix2 ⟨20480 + r, by omega⟩ y) := by
  pointwise [refF]

theorem refN_at (f : FVec Ideal S4096x1024 .f32) (g : FVec Ideal S1x1024 .f32) (r : Fin 4096) (y : Fin 1024) :
    refN f g (ix2 r y) = f (ix2 r y) * Ideal.rsqrt (Ideal.div (∑ z : Fin 1024, f (ix2 r z) * f (ix2 r z)) (Ideal.ofBits .f32 0x44800000#32)
      + Ideal.ofBits .f32 0x358637BD#32) * g (ix2 0 y) := by
  pointwise [refN]

theorem refY_at (x : FVec Ideal S20480x1024 .f32) (md : FVec Ideal S2x8x6x1x1024 .f32) (n : FVec Ideal S4096x1024 .f32) (r : Fin 4096) (y : Fin 1024) :
    refY x md n (ix2 r y) = x (ix2 ⟨0 + r, by omega⟩ y) + md (ix5 1 0 5 0 y) * n (ix2 r y) := by
  pointwise [refY]

end Cert.Reference4Ideal.Value

namespace Cert.Kernel4Ideal.Value

open Cert.Kernel4Ideal Cert.Kernel4Ideal.Gen Idealize.ShloMosaic Idealize.ShloMosaic.TcCoe Idealize.SL.Sem
open Idealize.ShloMosaic.Pipeline (Dat)

/-- A point's stored row, over what it reads. -/
theorem pay_at (w : FVec Ideal S512x128 .f32) (y1 y2 x : FVec Ideal S512x1024 .f32) (gt : FVec Ideal S1x1x1x1x1024 .f32)
    (g : FVec Ideal S1x1024 .f32) (ρ : Fin 512) (y : Fin 1024) :
    k0_pay1 w y1 y2 x gt g (ix2 ρ y)
      = x (ix2 ρ y) + gt (ix5 0 0 0 0 y) * ((w (ix2 ρ 0) * y1 (ix2 ρ y) + w (ix2 ρ 1) * y2 (ix2 ρ y))
        * Ideal.rsqrt (Ideal.div (∑ z : Fin 1024, (w (ix2 ρ 0) * y1 (ix2 ρ z) + w (ix2 ρ 1) * y2 (ix2 ρ z))
            * (w (ix2 ρ 0) * y1 (ix2 ρ z) + w (ix2 ρ 1) * y2 (ix2 ρ z)))
          (Ideal.ofBits .f32 0x44800000#32) + Ideal.ofBits .f32 0x358637BD#32) * g (ix2 0 y)) := by
  pointwise [k0_pay1]

variable (m : (ℓ : Loc nD τ sig) → Buf (Elt Ideal) ℓ)

/-- The blocks each point stages. -/
theorem idx : ∀ t : Fin cfg0.N, win0_0.index t = ![t.val, 0] ∧ win0_1.index t = ![40 + t.val, 0] ∧ win0_2.index t = ![t.val, 0]
    ∧ win0_3.index t = ![t.val, 0] ∧ win0_4.index t = ![0, 0] ∧ win0_5.index t = ![1, 0, 5, 0, 0]
    ∧ win0_6.index t = ![t.val, 0] ∧ t.val < 8 :=
  (by decide +kernel : ∀ t : Fin grid0.N, _)

/-- The argument arrays. -/
abbrev aYg (c : Dev nD) : FVec Ideal S40960x1024 .f32 := m ((c : Thread nD τ).loc main_arg0)
abbrev aW (c : Dev nD) : FVec Ideal S20480x128 .f32 := m ((c : Thread nD τ).loc main_arg1)
abbrev aX (c : Dev nD) : FVec Ideal S20480x1024 .f32 := m ((c : Thread nD τ).loc main_arg2)
abbrev aMod (c : Dev nD) : FVec Ideal S2x8x6x1x1024 .f32 := m ((c : Thread nD τ).loc main_arg3)
abbrev aG (c : Dev nD) : FVec Ideal S1x1024 .f32 := m ((c : Thread nD τ).loc main_arg4)

theorem iblk0 (c : Dev nD) (t : Fin cfg0.N) (ρ : Fin 512) (y : Fin 1024) (i : Fin 40960) (h : (i : ℕ) = 0 + (t.val * 512 + ρ)) :
    iblk m c 0 t (ix2 ρ y) = aYg m c (ix2 i y) := by
  blk_ext [iblk, V, idx t]

theorem iblk1 (c : Dev nD) (t : Fin cfg0.N) (ρ : Fin 512) (y : Fin 1024) (i : Fin 40960) (h : (i : ℕ) = 20480 + (t.val * 512 + ρ)) :
    iblk m c 1 t (ix2 ρ y) = aYg m c (ix2 i y) := by
  blk_ext [iblk, V, idx t]

theorem iblk2 (c : Dev nD) (t : Fin cfg0.N) (ρ : Fin 512) (y : Fin 128) (i : Fin 20480) (h : (i : ℕ) = 0 + (t.val * 512 + ρ)) :
    iblk m c 2 t (ix2 ρ y) = aW m c (ix2 i y) := by
  blk_ext [iblk, V, idx t]

theorem iblk3 (c : Dev nD) (t : Fin cfg0.N) (ρ : Fin 512) (y : Fin 1024) (i : Fin 20480) (h : (i : ℕ) = 0 + (t.val * 512 + ρ)) :
    iblk m c 3 t (ix2 ρ y) = aX m c (ix2 i y) := by
  blk_ext [iblk, V, idx t]

theorem iblk4 (c : Dev nD) (t : Fin cfg0.N) (y : Fin 1024) : iblk m c 4 t (ix2 0 y) = aG m c (ix2 0 y) := by
  blk_ext [iblk, V, idx t]

theorem iblk5 (c : Dev nD) (t : Fin cfg0.N) (y : Fin 1024) (i : Fin 8) (h : (i : ℕ) = 0) :
    iblk m c 5 t (ix5 0 0 0 0 y) = aMod m c (ix5 1 i 5 0 y) := by
  blk_ext [iblk, V, idx t]

set_option maxHeartbeats 1600000 in
/-- The result array is the reference's. -/
theorem final (c : Dev nD) : (dats m 0 c).arrAt 6 (cfgs 0).N
    = Cert.Reference4Ideal.Value.REF (aYg m c) (aW m c) (aX m c) (aMod m c) (aG m c) := by
  refine (dats m 0 c).arrAt_eq_of_covers 6 _ (by decide +kernel) fun t hfl y => ?_
  have ht : t.val < 8 := (idx t).2.2.2.2.2.2.2
  idx_vars y
  have hy : ((View.whole main_v0).slice (win0_6.rect t)).emb (ix2 y0 y1 : S512x1024.Idx) = ix2 ⟨t.val * 512 + (y0 : ℕ), by omega⟩ y1 := by
    blk_ext [idx t]
  blk_simp
  rw [after0_6]; unfold out0_6; frame_out
  rw [hy]
  refine (pay_at _ _ _ _ _ _ y0 y1).trans ?_
  unfold Cert.Reference4Ideal.Value.REF
  rw [Cert.Reference4Ideal.Value.refY_at, Cert.Reference4Ideal.Value.refN_at]
  simp only [Cert.Reference4Ideal.Value.refF_at]
  have e0 := fun z : Fin 1024 => iblk0 m c t y0 z ⟨0 + (t.val * 512 + (y0 : ℕ)), by omega⟩ rfl
  have e1 := fun z : Fin 1024 => iblk1 m c t y0 z ⟨20480 + (t.val * 512 + (y0 : ℕ)), by omega⟩ rfl
  have e2 := fun z : Fin 128 => iblk2 m c t y0 z ⟨0 + (t.val * 512 + (y0 : ℕ)), by omega⟩ rfl
  have e3 := fun z : Fin 1024 => iblk3 m c t y0 z ⟨0 + (t.val * 512 + (y0 : ℕ)), by omega⟩ rfl
  have e5 := fun z : Fin 1024 => iblk5 m c t z 0 rfl
  simp only [e0, e1, e2, e3, iblk4, e5]

/-- The call's value claim. -/
theorem algebraic : Cert.algebraic_Kernel4Ideal_Reference4Ideal := by
  pair_intro
  · run_from Cert.Kernel4Ideal.Value.run_blocks m g
  · run_from Cert.Reference4Ideal.Value.run m' g'
    refine Eq.trans ?_ (final m c).symm
    unfold Cert.Reference4Ideal.Value.REF Cert.Reference4Ideal.Value.refY Cert.Reference4Ideal.Value.refN Cert.Reference4Ideal.Value.refF
    rfl

end Cert.Kernel4Ideal.Value
-- ==== Proof.Combine.Latent.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Reference5Ideal.Value

open Cert.Reference5Ideal Cert.Reference5Ideal.Gen Idealize.ShloMosaic Idealize.ShloMosaic.TcCoe Idealize.SL.Sem

/-! # The combination of the experts' rows, for the latent tokens -/

/-- The weighted sum of a token's two experts' rows. -/
def refF (yg : FVec Ideal S40960x1024 .f32) (w : FVec Ideal S20480x128 .f32) : FVec Ideal S16384x1024 .f32 :=
  addf (mulf (broadcastInDim S16384x1024 ![0, 1] bcast_S16384x1_S16384x1024_0_1 (extractStridedSlice S16384x1 ![4096, 0] w slices_S20480x128_S16384x1_4096_0))
      (extractStridedSlice S16384x1024 ![4096, 0] yg slices_S40960x1024_S16384x1024_4096_0))
    (mulf (broadcastInDim S16384x1024 ![0, 1] bcast_S16384x1_S16384x1024_0_1 (extractStridedSlice S16384x1 ![4096, 1] w slices_S20480x128_S16384x1_4096_1))
      (extractStridedSlice S16384x1024 ![24576, 0] yg slices_S40960x1024_S16384x1024_24576_0))

/-- The root mean square normalisation of each row. -/
def refN (f : FVec Ideal S16384x1024 .f32) (g : FVec Ideal S1x1024 .f32) : FVec Ideal S16384x1024 .f32 :=
  mulf (mulf f (broadcastInDim S16384x1024 ![0, 1] bcast_S16384x1_S16384x1024_0_1 (Host.rsqrt (addf (Host.divf
    (broadcastInDim S16384x1 ![0] bcast_S16384_S16384x1_0 (Host.reduceAdd (mulf f f) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 g)

/-- The gate and the residual. -/
def refY (x : FVec Ideal S20480x1024 .f32) (md : FVec Ideal S2x8x6x1x1024 .f32) (n : FVec Ideal S16384x1024 .f32) : FVec Ideal S16384x1024 .f32 :=
  shapeCast _ (addf (shapeCast _ (extractStridedSlice S16384x1024 ![4096, 0] x slices_S20480x1024_S16384x1024_4096_0) shapeCasts_S16384x1024_S4x4096x1024)
    (mulf (broadcastInDim S4x4096x1024 ![0, 1, 2] bcast_S4x1x1024_S4x4096x1024_0_1_2
      (shapeCast _ (extractStridedSlice S1x4x1x1x1024 ![1, 1, 5, 0, 0] md slices_S2x8x6x1x1024_S1x4x1x1x1024_1_1_5_0_0) shapeCasts_S1x4x1x1x1024_S4x1x1024))
      (shapeCast _ n shapeCasts_S16384x1024_S4x4096x1024))) shapeCasts_S4x4096x1024_S16384x1024

/-- The whole reference. -/
def REF (yg : FVec Ideal S40960x1024 .f32) (w : FVec Ideal S20480x128 .f32) (x : FVec Ideal S20480x1024 .f32)
    (md : FVec Ideal S2x8x6x1x1024 .f32) (g : FVec Ideal S1x1024 .f32) : FVec Ideal S16384x1024 .f32 :=
  refY x md (refN (refF yg w) g)

theorem refF_at (yg : FVec Ideal S40960x1024 .f32) (w : FVec Ideal S20480x128 .f32) (r : Fin 16384) (y : Fin 1024) :
    refF yg w (ix2 r y) = w (ix2 ⟨4096 + r, by omega⟩ 0) * yg (ix2 ⟨4096 + r, by omega⟩ y)
      + w (ix2 ⟨4096 + r, by omega⟩ 1) * yg (ix2 ⟨24576 + r, by omega⟩ y) := by
  pointwise [refF]

theorem refN_at (f : FVec Ideal S16384x1024 .f32) (g : FVec Ideal S1x1024 .f32) (r : Fin 16384) (y : Fin 1024) :
    refN f g (ix2 r y) = f (ix2 r y) * Ideal.rsqrt (Ideal.div (∑ z : Fin 1024, f (ix2 r z) * f (ix2 r z)) (Ideal.ofBits .f32 0x44800000#32)
      + Ideal.ofBits .f32 0x358637BD#32) * g (ix2 0 y) := by
  pointwise [refN]

theorem refY_at (x : FVec Ideal S20480x1024 .f32) (md : FVec Ideal S2x8x6x1x1024 .f32) (n : FVec Ideal S16384x1024 .f32) (r : Fin 16384) (y : Fin 1024) :
    refY x md n (ix2 r y) = x (ix2 ⟨4096 + r, by omega⟩ y) + md (ix5 1 ⟨1 + r / 4096, by omega⟩ 5 0 y) * n (ix2 r y) := by
  pointwise [refY]

end Cert.Reference5Ideal.Value

namespace Cert.Kernel5Ideal.Value

open Cert.Kernel5Ideal Cert.Kernel5Ideal.Gen Idealize.ShloMosaic Idealize.ShloMosaic.TcCoe Idealize.SL.Sem
open Idealize.ShloMosaic.Pipeline (Dat)

/-- A point's stored row, over what it reads. -/
theorem pay_at (w : FVec Ideal S512x128 .f32) (y1 y2 x : FVec Ideal S512x1024 .f32) (gt : FVec Ideal S1x1x1x1x1024 .f32)
    (g : FVec Ideal S1x1024 .f32) (ρ : Fin 512) (y : Fin 1024) :
    k0_pay1 w y1 y2 x gt g (ix2 ρ y)
      = x (ix2 ρ y) + gt (ix5 0 0 0 0 y) * ((w (ix2 ρ 0) * y1 (ix2 ρ y) + w (ix2 ρ 1) * y2 (ix2 ρ y))
        * Ideal.rsqrt (Ideal.div (∑ z : Fin 1024, (w (ix2 ρ 0) * y1 (ix2 ρ z) + w (ix2 ρ 1) * y2 (ix2 ρ z))
            * (w (ix2 ρ 0) * y1 (ix2 ρ z) + w (ix2 ρ 1) * y2 (ix2 ρ z)))
          (Ideal.ofBits .f32 0x44800000#32) + Ideal.ofBits .f32 0x358637BD#32) * g (ix2 0 y)) := by
  pointwise [k0_pay1]

variable (m : (ℓ : Loc nD τ sig) → Buf (Elt Ideal) ℓ)

/-- The blocks each point stages. -/
theorem idx : ∀ t : Fin cfg0.N, win0_0.index t = ![8 + t.val, 0] ∧ win0_1.index t = ![48 + t.val, 0] ∧ win0_2.index t = ![8 + t.val, 0]
    ∧ win0_3.index t = ![8 + t.val, 0] ∧ win0_4.index t = ![0, 0] ∧ win0_5.index t = ![1, 1 + t.val / 8, 5, 0, 0]
    ∧ win0_6.index t = ![t.val, 0] ∧ t.val < 32 :=
  (by decide +kernel : ∀ t : Fin grid0.N, _)

/-- The argument arrays. -/
abbrev aYg (c : Dev nD) : FVec Ideal S40960x1024 .f32 := m ((c : Thread nD τ).loc main_arg0)
abbrev aW (c : Dev nD) : FVec Ideal S20480x128 .f32 := m ((c : Thread nD τ).loc main_arg1)
abbrev aX (c : Dev nD) : FVec Ideal S20480x1024 .f32 := m ((c : Thread nD τ).loc main_arg2)
abbrev aMod (c : Dev nD) : FVec Ideal S2x8x6x1x1024 .f32 := m ((c : Thread nD τ).loc main_arg3)
abbrev aG (c : Dev nD) : FVec Ideal S1x1024 .f32 := m ((c : Thread nD τ).loc main_arg4)

theorem iblk0 (c : Dev nD) (t : Fin cfg0.N) (ρ : Fin 512) (y : Fin 1024) (i : Fin 40960) (h : (i : ℕ) = 4096 + (t.val * 512 + ρ)) :
    iblk m c 0 t (ix2 ρ y) = aYg m c (ix2 i y) := by
  blk_ext [iblk, V, idx t]

theorem iblk1 (c : Dev nD) (t : Fin cfg0.N) (ρ : Fin 512) (y : Fin 1024) (i : Fin 40960) (h : (i : ℕ) = 24576 + (t.val * 512 + ρ)) :
    iblk m c 1 t (ix2 ρ y) = aYg m c (ix2 i y) := by
  blk_ext [iblk, V, idx t]

theorem iblk2 (c : Dev nD) (t : Fin cfg0.N) (ρ : Fin 512) (y : Fin 128) (i : Fin 20480) (h : (i : ℕ) = 4096 + (t.val * 512 + ρ)) :
    iblk m c 2 t (ix2 ρ y) = aW m c (ix2 i y) := by
  blk_ext [iblk, V, idx t]

theorem iblk3 (c : Dev nD) (t : Fin cfg0.N) (ρ : Fin 512) (y : Fin 1024) (i : Fin 20480) (h : (i : ℕ) = 4096 + (t.val * 512 + ρ)) :
    iblk m c 3 t (ix2 ρ y) = aX m c (ix2 i y) := by
  blk_ext [iblk, V, idx t]

theorem iblk4 (c : Dev nD) (t : Fin cfg0.N) (y : Fin 1024) : iblk m c 4 t (ix2 0 y) = aG m c (ix2 0 y) := by
  blk_ext [iblk, V, idx t]

theorem iblk5 (c : Dev nD) (t : Fin cfg0.N) (y : Fin 1024) (i : Fin 8) (h : (i : ℕ) = 1 + t.val / 8) :
    iblk m c 5 t (ix5 0 0 0 0 y) = aMod m c (ix5 1 i 5 0 y) := by
  blk_ext [iblk, V, idx t]

set_option maxHeartbeats 1600000 in
/-- The result array is the reference's. -/
theorem final (c : Dev nD) : (dats m 0 c).arrAt 6 (cfgs 0).N
    = Cert.Reference5Ideal.Value.REF (aYg m c) (aW m c) (aX m c) (aMod m c) (aG m c) := by
  refine (dats m 0 c).arrAt_eq_of_covers 6 _ (by decide +kernel) fun t hfl y => ?_
  have ht : t.val < 32 := (idx t).2.2.2.2.2.2.2
  idx_vars y
  have hy : ((View.whole main_v0).slice (win0_6.rect t)).emb (ix2 y0 y1 : S512x1024.Idx) = ix2 ⟨t.val * 512 + (y0 : ℕ), by omega⟩ y1 := by
    blk_ext [idx t]
  blk_simp
  rw [after0_6]; unfold out0_6; frame_out
  rw [hy]
  refine (pay_at _ _ _ _ _ _ y0 y1).trans ?_
  unfold Cert.Reference5Ideal.Value.REF
  rw [Cert.Reference5Ideal.Value.refY_at, Cert.Reference5Ideal.Value.refN_at]
  simp only [Cert.Reference5Ideal.Value.refF_at]
  have e0 := fun z : Fin 1024 => iblk0 m c t y0 z ⟨4096 + (t.val * 512 + (y0 : ℕ)), by omega⟩ rfl
  have e1 := fun z : Fin 1024 => iblk1 m c t y0 z ⟨24576 + (t.val * 512 + (y0 : ℕ)), by omega⟩ rfl
  have e2 := fun z : Fin 128 => iblk2 m c t y0 z ⟨4096 + (t.val * 512 + (y0 : ℕ)), by omega⟩ rfl
  have e3 := fun z : Fin 1024 => iblk3 m c t y0 z ⟨4096 + (t.val * 512 + (y0 : ℕ)), by omega⟩ rfl
  have e5 := fun z : Fin 1024 => iblk5 m c t z ⟨1 + (t.val * 512 + (y0 : ℕ)) / 4096, by omega⟩ (by show 1 + (t.val * 512 + (y0 : ℕ)) / 4096 = _; omega)
  simp only [e0, e1, e2, e3, iblk4, e5]

/-- The call's value claim. -/
theorem algebraic : Cert.algebraic_Kernel5Ideal_Reference5Ideal := by
  pair_intro
  · run_from Cert.Kernel5Ideal.Value.run_blocks m g
  · run_from Cert.Reference5Ideal.Value.run m' g'
    refine Eq.trans ?_ (final m c).symm
    unfold Cert.Reference5Ideal.Value.REF Cert.Reference5Ideal.Value.refY Cert.Reference5Ideal.Value.refN Cert.Reference5Ideal.Value.refF
    rfl

end Cert.Kernel5Ideal.Value
-- ==== Proof.OutProj.Ref.lean ====
module

public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Reference6Ideal.Value

open Cert.Reference6Ideal Cert.Reference6Ideal.Gen Idealize.ShloMosaic Idealize.ShloMosaic.TcCoe Idealize.SL.Sem

/-! # The reference of the output projection, stage by stage and at an index -/

/-- The mixer's outputs of every token, for one half of the features. -/
def refA (a : FVec Ideal S4096x512 .bf16) (b : FVec Ideal S16384x512 .bf16) : FVec Ideal S20480x512 .bf16 :=
  concatenate S20480x512 0 [⟨S4096x512, a⟩, ⟨S16384x512, b⟩] concatenates_S4096x512_S16384x512_S20480x512_d0

/-- The two halves side by side. -/
def refO (a b : FVec Ideal S20480x512 .bf16) : FVec Ideal S20480x1024 .f32 :=
  concatenate S20480x1024 1 [⟨S20480x512, extf .f32 a bitsLt_bf16_f32⟩, ⟨S20480x512, extf .f32 b bitsLt_bf16_f32⟩] concatenates_S20480x512_S20480x512_S20480x1024_d1

/-- The layer's input of every token. -/
def refI (a : FVec Ideal S4096x1024 .f32) (b : FVec Ideal S16384x1024 .f32) : FVec Ideal S20480x1024 .f32 :=
  concatenate S20480x1024 0 [⟨S4096x1024, a⟩, ⟨S16384x1024, b⟩] concatenates_S4096x1024_S16384x1024_S20480x1024_d0

/-- The projection. -/
def refY (o : FVec Ideal S20480x1024 .f32) (w : FVec Ideal S1024x1024 .f32) : FVec Ideal S20480x1024 .f32 :=
  Host.dotGeneral dot_S20480x1024_S1024x1024_S20480x1024_1_0_0_1_n_n none o w

/-- The root mean square normalisation of each row. -/
def refN (f : FVec Ideal S20480x1024 .f32) (g : FVec Ideal S1x1024 .f32) : FVec Ideal S20480x1024 .f32 :=
  mulf (mulf f (broadcastInDim S20480x1024 ![0, 1] bcast_S20480x1_S20480x1024_0_1 (Host.rsqrt (addf (Host.divf
    (broadcastInDim S20480x1 ![0] bcast_S20480_S20480x1_0 (Host.reduceAdd (mulf f f) (constant S_ .f32 0x00000000#32) reducesTo_S20480x1024_S20480_d1 h_S_))
    (broadcastInDim S20480x1 ![] bcast_S_S20480x1 (constant S_ .f32 0x44800000#32)))
    (broadcastInDim S20480x1 ![] bcast_S_S20480x1 (constant S_ .f32 0x358637BD#32))))))
    (broadcastInDim S20480x1024 ![0, 1] bcast_S1x1024_S20480x1024_0_1 g)

/-- Each group's modulation of layer 0. -/
def refM (md : FVec Ideal S2x8x6x1x1024 .f32) : FVec Ideal S5x6x1x1024 .f32 :=
  shapeCast _ (extractStridedSlice S1x5x6x1x1024 ![0, 0, 0, 0, 0] md slices_S2x8x6x1x1024_S1x5x6x1x1024_0_0_0_0_0) shapeCasts_S1x5x6x1x1024_S5x6x1x1024

/-- The gate and the residual, group by group. -/
def refX (x : FVec Ideal S20480x1024 .f32) (md : FVec Ideal S5x6x1x1024 .f32) (n : FVec Ideal S20480x1024 .f32) : FVec Ideal S5x4096x1024 .f32 :=
  addf (shapeCast _ x shapeCasts_S20480x1024_S5x4096x1024) (mulf (broadcastInDim S5x4096x1024 ![0, 1, 2] bcast_S5x1x1024_S5x4096x1024_0_1_2
    (shapeCast _ (extractStridedSlice S5x1x1x1024 ![0, 2, 0, 0] md slices_S5x6x1x1024_S5x1x1x1024_0_2_0_0) shapeCasts_S5x1x1x1024_S5x1x1024))
    (shapeCast _ n shapeCasts_S20480x1024_S5x4096x1024))

/-- The second normalisation, scaled and shifted. -/
def refH (X : FVec Ideal S5x4096x1024 .f32) (md : FVec Ideal S5x6x1x1024 .f32) (g : FVec Ideal S1x1024 .f32) : FVec Ideal S5x4096x1024 .f32 :=
  addf (mulf (mulf (mulf X (broadcastInDim S5x4096x1024 ![0, 1, 2] bcast_S5x4096x1_S5x4096x1024_0_1_2 (Host.rsqrt (addf (Host.divf
      (broadcastInDim S5x4096x1 ![0, 1] bcast_S5x4096_S5x4096x1_0_1 (Host.reduceAdd (mulf X X) (constant S_ .f32 0x00000000#32) reducesTo_S5x4096x1024_S5x4096_d2 h_S_))
      (broadcastInDim S5x4096x1 ![] bcast_S_S5x4096x1 (constant S_ .f32 0x44800000#32)))
      (broadcastInDim S5x4096x1 ![] bcast_S_S5x4096x1 (constant S_ .f32 0x358637BD#32))))))
      (broadcastInDim S5x4096x1024 ![0, 1, 2] bcast_S1x1x1024_S5x4096x1024_0_1_2 (broadcastInDim S1x1x1024 ![1, 2] bcast_S1x1024_S1x1x1024_1_2 g)))
    (broadcastInDim S5x4096x1024 ![0, 1, 2] bcast_S5x1x1024_S5x4096x1024_0_1_2 (addf (broadcastInDim S5x1x1024 ![] bcast_S_S5x1x1024 (constant S_ .f32 0x3F800000#32))
      (shapeCast _ (extractStridedSlice S5x1x1x1024 ![0, 4, 0, 0] md slices_S5x6x1x1024_S5x1x1x1024_0_4_0_0) shapeCasts_S5x1x1x1024_S5x1x1024))))
    (broadcastInDim S5x4096x1024 ![0, 1, 2] bcast_S5x1x1024_S5x4096x1024_0_1_2
      (shapeCast _ (extractStridedSlice S5x1x1x1024 ![0, 3, 0, 0] md slices_S5x6x1x1024_S5x1x1x1024_0_3_0_0) shapeCasts_S5x1x1x1024_S5x1x1024))

/-- Group by group to token by token. -/
def flat (X : FVec Ideal S5x4096x1024 .f32) : FVec Ideal S20480x1024 .f32 := shapeCast _ X shapeCasts_S5x4096x1024_S20480x1024

/-- The residual stream after the mixer, from the arguments. -/
def REFX (ap : FVec Ideal S4096x512 .bf16) (as' : FVec Ideal S16384x512 .bf16) (bp : FVec Ideal S4096x512 .bf16) (bs : FVec Ideal S16384x512 .bf16)
    (w : FVec Ideal S1024x1024 .f32) (xp : FVec Ideal S4096x1024 .f32) (xs : FVec Ideal S16384x1024 .f32) (md : FVec Ideal S2x8x6x1x1024 .f32)
    (g : FVec Ideal S1x1024 .f32) : FVec Ideal S5x4096x1024 .f32 :=
  refX (refI xp xs) (refM md) (refN (refY (refO (refA ap as') (refA bp bs)) w) g)

/-- The channel mixer's input, from the arguments. -/
def REFH (ap : FVec Ideal S4096x512 .bf16) (as' : FVec Ideal S16384x512 .bf16) (bp : FVec Ideal S4096x512 .bf16) (bs : FVec Ideal S16384x512 .bf16)
    (w : FVec Ideal S1024x1024 .f32) (xp : FVec Ideal S4096x1024 .f32) (xs : FVec Ideal S16384x1024 .f32) (md : FVec Ideal S2x8x6x1x1024 .f32)
    (g g2 : FVec Ideal S1x1024 .f32) : FVec Ideal S20480x1024 .bf16 :=
  truncf .bf16 (flat (refH (REFX ap as' bp bs w xp xs md g) (refM md) g2)) bitsLt_bf16_f32

theorem refA_lo (a : FVec Ideal S4096x512 .bf16) (b : FVec Ideal S16384x512 .bf16) (r : Fin 20480) (j : Fin 512) (h : (r : ℕ) < 4096) :
    refA a b (ix2 r j) = a (ix2 ⟨r, h⟩ j) := by
  pointwise [refA, h]

theorem refA_hi (a : FVec Ideal S4096x512 .bf16) (b : FVec Ideal S16384x512 .bf16) (r : Fin 20480) (j : Fin 512) (h : ¬ (r : ℕ) < 4096) :
    refA a b (ix2 r j) = b (ix2 ⟨r - 4096, by omega⟩ j) := by
  pointwise [refA, h]

theorem refI_lo (a : FVec Ideal S4096x1024 .f32) (b : FVec Ideal S16384x1024 .f32) (r : Fin 20480) (j : Fin 1024) (h : (r : ℕ) < 4096) :
    refI a b (ix2 r j) = a (ix2 ⟨r, h⟩ j) := by
  pointwise [refI, h]

theorem refI_hi (a : FVec Ideal S4096x1024 .f32) (b : FVec Ideal S16384x1024 .f32) (r : Fin 20480) (j : Fin 1024) (h : ¬ (r : ℕ) < 4096) :
    refI a b (ix2 r j) = b (ix2 ⟨r - 4096, by omega⟩ j) := by
  pointwise [refI, h]

theorem refO_lo (a b : FVec Ideal S20480x512 .bf16) (r : Fin 20480) (j : Fin 1024) (h : (j : ℕ) < 512) :
    refO a b (ix2 r j) = a (ix2 r ⟨j, h⟩) := by
  pointwise [refO, h]

theorem refO_hi (a b : FVec Ideal S20480x512 .bf16) (r : Fin 20480) (j : Fin 1024) (h : ¬ (j : ℕ) < 512) :
    refO a b (ix2 r j) = b (ix2 r ⟨j - 512, by omega⟩) := by
  pointwise [refO, h]

theorem refY_at (o : FVec Ideal S20480x1024 .f32) (w : FVec Ideal S1024x1024 .f32) (r : Fin 20480) (y : Fin 1024) :
    refY o w (ix2 r y) = ∑ j : Fin 1024, o (ix2 r j) * w (ix2 j y) := by
  pointwise [refY]

/-- A row divided by its root mean square. -/
def nrm (f : Fin 1024 → EReal) (y : Fin 1024) : EReal :=
  f y * Ideal.rsqrt (Ideal.div (∑ z : Fin 1024, f z * f z) (Ideal.ofBits .f32 0x44800000#32) + Ideal.ofBits .f32 0x358637BD#32)

theorem refN_at (f : FVec Ideal S20480x1024 .f32) (g : FVec Ideal S1x1024 .f32) (r : Fin 20480) (y : Fin 1024) :
    refN f g (ix2 r y) = nrm (fun z => f (ix2 r z)) y * g (ix2 0 y) := by
  unfold nrm
  pointwise [refN]

theorem refM_at (md : FVec Ideal S2x8x6x1x1024 .f32) (a : Fin 5) (k : Fin 6) (y : Fin 1024) :
    refM md (ix4 a k 0 y) = md (ix5 0 ⟨a, by omega⟩ k 0 y) := by
  pointwise [refM]

theorem refX_at (x : FVec Ideal S20480x1024 .f32) (md : FVec Ideal S5x6x1x1024 .f32) (n : FVec Ideal S20480x1024 .f32)
    (a : Fin 5) (b : Fin 4096) (y : Fin 1024) (r : Fin 20480) (hr : (r : ℕ) = a * 4096 + b) :
    refX x md n (ix3 a b y) = x (ix2 r y) + md (ix4 a 2 0 y) * n (ix2 r y) := by
  obtain ⟨r, hlt⟩ := r
  replace hr : r = a * 4096 + b := hr
  subst hr
  pointwise [refX]

theorem refH_at (X : FVec Ideal S5x4096x1024 .f32) (md : FVec Ideal S5x6x1x1024 .f32) (g : FVec Ideal S1x1024 .f32)
    (a : Fin 5) (b : Fin 4096) (y : Fin 1024) :
    refH X md g (ix3 a b y) = nrm (fun z => X (ix3 a b z)) y * g (ix2 0 y) * (Ideal.ofBits .f32 0x3F800000#32 + md (ix4 a 4 0 y)) + md (ix4 a 3 0 y) := by
  unfold nrm
  pointwise [refH]

theorem flat_at (X : FVec Ideal S5x4096x1024 .f32) (r : Fin 20480) (y : Fin 1024) :
    flat X (ix2 r y) = X (ix3 ⟨r / 4096, by omega⟩ ⟨r % 4096, by omega⟩ y) := by
  pointwise [flat]

variable (m : (ℓ : Loc nD τ sig) → Buf (Elt Ideal) ℓ)

/-- The second result's term is the stages composed. -/
theorem res_eq (c : Dev nD) : res_main_v53 m c = REFH (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) := by
  unfold res_main_v53 REFH flat refH REFX refX refM refN refY refI refO refA
  rfl

/-- The reference's run, with its results as the stages composed. -/
theorem run_stages (ρ : Dev nD → PrngReg) : θ_run defs (onTc (τ := τ) (main (F := Ideal))) ⟨m, fun _ => 0, ρ⟩ fun r => ∀ c : Dev nD,
      r.2.mem ((c.tc : Thread nD τ).loc main_v51) = flat (REFX (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)))
      ∧ r.2.mem ((c.tc : Thread nD τ).loc main_v53) = REFH (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (by unfold flat REFX refX refM refN refY refI refO refA; rfl),
    (h c).2.1.trans (res_eq m c), (h c).2.2⟩) (run m ρ)

end Cert.Reference6Ideal.Value
-- ==== Proof.OutProj.Value.lean ====
module

public import proofs.«01_k».proof.Proof.OutProj.Ref
public import proofs.«01_k».proof.Proof.Gen.Kernel6Ideal.Value

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Reference6Ideal.Value (nrm refA refO refI refY refN refM refX refH flat REFX REFH)

/-! # The output projection's result arrays

Point `t` handles the rows `512 t … 512 t + 511`: a context block for the first eight points, a latent block after them. -/

/-- The two halves of a block's features side by side. -/
def halves (a b : FVec Ideal S512x512 .bf16) : FVec Ideal S512x1024 .bf16 :=
  concatenate S512x1024 1 [⟨S512x512, a⟩, ⟨S512x512, b⟩] concatenates_S512x512_S512x512_S512x1024_d1

theorem halves_lo (a b : FVec Ideal S512x512 .bf16) (r : Fin 512) (j : Fin 1024) (h : (j : ℕ) < 512) :
    halves a b (ix2 r j) = a (ix2 r ⟨j, h⟩) := by
  pointwise [halves, h]

theorem halves_hi (a b : FVec Ideal S512x512 .bf16) (r : Fin 512) (j : Fin 1024) (h : ¬ (j : ℕ) < 512) :
    halves a b (ix2 r j) = b (ix2 r ⟨j - 512, by omega⟩) := by
  pointwise [halves, h]

/-- The projection's normalised block. -/
def proj (o : FVec Ideal S512x1024 .bf16) (w : FVec Ideal S1024x1024 .bf16) (g : FVec Ideal S1x1024 .f32) : FVec Ideal S512x1024 .f32 :=
  have v14 : FVec Ideal S1024x1024 .bf16 := shapeCast S1024x1024 w shapeCasts_S1024x1024_S1024x1024
  have v15 : FVec Ideal S512x1024 .f32 := matmul dot_S512x1024_S1024x1024_S512x1024_1_0_0_1_n_n none o v14 (constant S512x1024 .f32 0x00000000#32)
  mulf (mulf v15 (broadcastTo S512x1024 (rsqrt (addf (divf (shapeCast S512x1
      (multiReduction .add [1] S512 (mulf v15 v15) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 g broadcasts_S1x1024_S512x1024)

theorem proj_at (o : FVec Ideal S512x1024 .bf16) (w : FVec Ideal S1024x1024 .bf16) (g : FVec Ideal S1x1024 .f32) (ρ : Fin 512) (y : Fin 1024) :
    proj o w g (ix2 ρ y) = nrm (fun z => ∑ j : Fin 1024, (o (ix2 ρ j) : EReal) * w (ix2 j z)) y * g (ix2 0 y) := by
  unfold nrm
  pointwise [proj]

theorem pay1_at (x : FVec Ideal S512x1024 .f32) (gt : FVec Ideal S1x1x1x1x1024 .f32) (n : FVec Ideal S512x1024 .f32) (ρ : Fin 512) (y : Fin 1024) :
    k0_pay1 x (k0_pay4 gt) n (ix2 ρ y) = x (ix2 ρ y) + gt (ix5 0 0 0 0 y) * n (ix2 ρ y) := by
  pointwise [k0_pay1, k0_pay4]

/-- The second normalisation of a block, scaled and shifted. -/
def modul (X : FVec Ideal S512x1024 .f32) (g : FVec Ideal S1x1024 .f32) (sh sc : FVec Ideal S1x1x1x1x1024 .f32) : FVec Ideal S512x1024 .f32 :=
  addf (mulf (mulf (mulf X (broadcastTo S512x1024 (rsqrt (addf (divf (shapeCast S512x1
        (multiReduction .add [1] S512 (mulf X X) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
      (broadcastTo S512x1024 g broadcasts_S1x1024_S512x1024))
    (broadcastTo S512x1024 (addf (broadcast S1x1024 (Scalar.ofBits .f32 0x3F800000#32)) (shapeCast S1x1024 sc shapeCasts_S1x1x1x1x1024_S1x1024)) broadcasts_S1x1024_S512x1024))
    (broadcastTo S512x1024 (shapeCast S1x1024 sh shapeCasts_S1x1x1x1x1024_S1x1024) broadcasts_S1x1024_S512x1024)

theorem modul_at (X : FVec Ideal S512x1024 .f32) (g : FVec Ideal S1x1024 .f32) (sh sc : FVec Ideal S1x1x1x1x1024 .f32) (ρ : Fin 512) (y : Fin 1024) :
    modul X g sh sc (ix2 ρ y) = nrm (fun z => X (ix2 ρ z)) y * g (ix2 0 y) * (Ideal.ofBits .f32 0x3F800000#32 + sc (ix5 0 0 0 0 y)) + sh (ix5 0 0 0 0 y) := by
  unfold nrm
  pointwise [modul]

/-- Which of the two token kinds a point's block is. -/
theorem sel : ∀ t : Fin cfg0.N, Scalar.cmpi .slt (BitVec.ofNat 32 (grid0.coords t 0).val) 8#32 = if t.val < 8 then 1#1 else 0#1 :=
  (by decide +kernel : ∀ t : Fin grid0.N, _)

/-- The blocks each point stages. -/
theorem idx : ∀ t : Fin cfg0.N, win0_0.index t = ![min t.val 7, 0] ∧ win0_1.index t = ![t.val - 8, 0] ∧ win0_2.index t = ![min t.val 7, 0]
    ∧ win0_3.index t = ![t.val - 8, 0] ∧ win0_4.index t = ![0, 0] ∧ win0_5.index t = ![min t.val 7, 0] ∧ win0_6.index t = ![t.val - 8, 0]
    ∧ win0_7.index t = ![0, 0] ∧ win0_8.index t = ![0, t.val / 8, 2, 0, 0] ∧ win0_9.index t = ![0, 0] ∧ win0_10.index t = ![0, t.val / 8, 3, 0, 0]
    ∧ win0_11.index t = ![0, t.val / 8, 4, 0, 0] ∧ win0_12.index t = ![t.val, 0] ∧ win0_13.index t = ![t.val, 0] :=
  (by decide +kernel : ∀ t : Fin grid0.N, _)

theorem ltN (t : Fin cfg0.N) : t.val < 40 := t.isLt

variable (m : (ℓ : Loc nD τ sig) → Buf (Elt Ideal) ℓ)

/-- The argument arrays. -/
abbrev aAp (c : Dev nD) : FVec Ideal S4096x512 .bf16 := m ((c : Thread nD τ).loc main_arg0)
abbrev aAs (c : Dev nD) : FVec Ideal S16384x512 .bf16 := m ((c : Thread nD τ).loc main_arg1)
abbrev aBp (c : Dev nD) : FVec Ideal S4096x512 .bf16 := m ((c : Thread nD τ).loc main_arg2)
abbrev aBs (c : Dev nD) : FVec Ideal S16384x512 .bf16 := m ((c : Thread nD τ).loc main_arg3)
abbrev aW (c : Dev nD) : FVec Ideal S1024x1024 .f32 := m ((c : Thread nD τ).loc main_arg4)
abbrev aXp (c : Dev nD) : FVec Ideal S4096x1024 .f32 := m ((c : Thread nD τ).loc main_arg5)
abbrev aXs (c : Dev nD) : FVec Ideal S16384x1024 .f32 := m ((c : Thread nD τ).loc main_arg6)
abbrev aMod (c : Dev nD) : FVec Ideal S2x8x6x1x1024 .f32 := m ((c : Thread nD τ).loc main_arg7)
abbrev aG (c : Dev nD) : FVec Ideal S1x1024 .f32 := m ((c : Thread nD τ).loc main_arg8)
abbrev aG2 (c : Dev nD) : FVec Ideal S1x1024 .f32 := m ((c : Thread nD τ).loc main_arg9)

/-- The first half of the features of the block's rows, whichever kind they are. -/
theorem rowA (c : Dev nD) (t : Fin cfg0.N) (ρ : Fin 512) (j : Fin 512) (r : Fin 20480) (hr : (r : ℕ) = t.val * 512 + ρ) :
    (Scalar.select (Scalar.cmpi .slt (BitVec.ofNat 32 (grid0.coords t 0).val) 8#32) (iblk m c 0 t) (iblk m c 1 t) : FVec Ideal S512x512 .bf16) (ix2 ρ j)
      = refA (aAp m c) (aAs m c) (ix2 r j) := by
  have ht := ltN t
  rw [sel t]
  by_cases h : t.val < 8
  · rw [if_pos h, Cert.Reference6Ideal.Value.refA_lo _ _ _ _ (by omega)]
    show iblk m c 0 t (ix2 ρ j) = _
    blk_ext [iblk, V, idx t]
  · rw [if_neg h, Cert.Reference6Ideal.Value.refA_hi _ _ _ _ (by omega)]
    show iblk m c 1 t (ix2 ρ j) = _
    blk_ext [iblk, V, idx t]

theorem rowB (c : Dev nD) (t : Fin cfg0.N) (ρ : Fin 512) (j : Fin 512) (r : Fin 20480) (hr : (r : ℕ) = t.val * 512 + ρ) :
    (Scalar.select (Scalar.cmpi .slt (BitVec.ofNat 32 (grid0.coords t 0).val) 8#32) (iblk m c 2 t) (iblk m c 3 t) : FVec Ideal S512x512 .bf16) (ix2 ρ j)
      = refA (aBp m c) (aBs m c) (ix2 r j) := by
  have ht := ltN t
  rw [sel t]
  by_cases h : t.val < 8
  · rw [if_pos h, Cert.Reference6Ideal.Value.refA_lo _ _ _ _ (by omega)]
    show iblk m c 2 t (ix2 ρ j) = _
    blk_ext [iblk, V, idx t]
  · rw [if_neg h, Cert.Reference6Ideal.Value.refA_hi _ _ _ _ (by omega)]
    show iblk m c 3 t (ix2 ρ j) = _
    blk_ext [iblk, V, idx t]

theorem rowX (c : Dev nD) (t : Fin cfg0.N) (ρ : Fin 512) (j : Fin 1024) (r : Fin 20480) (hr : (r : ℕ) = t.val * 512 + ρ) :
    k0_pay3 (grid0.coords t) (iblk m c 5 t) (iblk m c 6 t) (ix2 ρ j) = refI (aXp m c) (aXs m c) (ix2 r j) := by
  have ht := ltN t
  unfold k0_pay3
  simp only []
  rw [sel t]
  by_cases h : t.val < 8
  · rw [if_pos h, Cert.Reference6Ideal.Value.refI_lo _ _ _ _ (by omega)]
    show iblk m c 5 t (ix2 ρ j) = _
    blk_ext [iblk, V, idx t]
  · rw [if_neg h, Cert.Reference6Ideal.Value.refI_hi _ _ _ _ (by omega)]
    show iblk m c 6 t (ix2 ρ j) = _
    blk_ext [iblk, V, idx t]

/-- The weight as the call reads it. -/
theorem V_w (c : Dev nD) : V m c main_v0 = (truncf .bf16 (aW m c) bitsLt_bf16_f32 : FVec Ideal S1024x1024 .bf16) := by
  show StableHlo.after _ _ _ = _
  after_results <;> rfl

theorem iblk4 (c : Dev nD) (t : Fin cfg0.N) (j y : Fin 1024) : (iblk m c 4 t (ix2 j y) : EReal) = aW m c (ix2 j y) := by
  have e : iblk m c 4 t (ix2 j y) = V m c main_v0 (ix2 j y) := by blk_ext [iblk, idx t]
  rw [e, V_w]
  rfl

theorem iblk7 (c : Dev nD) (t : Fin cfg0.N) (y : Fin 1024) : iblk m c 7 t (ix2 0 y) = aG m c (ix2 0 y) := by
  blk_ext [iblk, V, idx t]

theorem iblk9 (c : Dev nD) (t : Fin cfg0.N) (y : Fin 1024) : iblk m c 9 t (ix2 0 y) = aG2 m c (ix2 0 y) := by
  blk_ext [iblk, V, idx t]

theorem iblk8 (c : Dev nD) (t : Fin cfg0.N) (y : Fin 1024) (a : Fin 5) (h : (a : ℕ) = t.val / 8) :
    iblk m c 8 t (ix5 0 0 0 0 y) = refM (aMod m c) (ix4 a 2 0 y) := by
  rw [Cert.Reference6Ideal.Value.refM_at]
  blk_ext [iblk, V, idx t]

theorem iblk10 (c : Dev nD) (t : Fin cfg0.N) (y : Fin 1024) (a : Fin 5) (h : (a : ℕ) = t.val / 8) :
    iblk m c 10 t (ix5 0 0 0 0 y) = refM (aMod m c) (ix4 a 3 0 y) := by
  rw [Cert.Reference6Ideal.Value.refM_at]
  blk_ext [iblk, V, idx t]

theorem iblk11 (c : Dev nD) (t : Fin cfg0.N) (y : Fin 1024) (a : Fin 5) (h : (a : ℕ) = t.val / 8) :
    iblk m c 11 t (ix5 0 0 0 0 y) = refM (aMod m c) (ix4 a 4 0 y) := by
  rw [Cert.Reference6Ideal.Value.refM_at]
  blk_ext [iblk, V, idx t]

/-- A point's features are the reference's. -/
theorem rowO (c : Dev nD) (t : Fin cfg0.N) (ρ : Fin 512) (j : Fin 1024) (r : Fin 20480) (hr : (r : ℕ) = t.val * 512 + ρ) :
    (halves (Scalar.select (Scalar.cmpi .slt (BitVec.ofNat 32 (grid0.coords t 0).val) 8#32) (iblk m c 0 t) (iblk m c 1 t))
      (Scalar.select (Scalar.cmpi .slt (BitVec.ofNat 32 (grid0.coords t 0).val) 8#32) (iblk m c 2 t) (iblk m c 3 t)) (ix2 ρ j) : EReal)
      = refO (refA (aAp m c) (aAs m c)) (refA (aBp m c) (aBs m c)) (ix2 r j) := by
  by_cases h : (j : ℕ) < 512
  · rw [halves_lo _ _ _ _ h, Cert.Reference6Ideal.Value.refO_lo _ _ _ _ h]
    exact rowA m c t ρ _ r hr
  · rw [halves_hi _ _ _ _ h, Cert.Reference6Ideal.Value.refO_hi _ _ _ _ h]
    exact rowB m c t ρ _ r hr

/-- What a point stores of the residual stream. -/
def blkX (c : Dev nD) (t : Fin cfg0.N) : FVec Ideal S512x1024 .f32 :=
  k0_pay1 (k0_pay3 (grid0.coords t) (iblk m c 5 t) (iblk m c 6 t)) (k0_pay4 (iblk m c 8 t))
    (k0_pay5 (grid0.coords t) (iblk m c 0 t) (iblk m c 1 t) (iblk m c 2 t) (iblk m c 3 t) (iblk m c 4 t) (iblk m c 7 t))

/-- The reference's residual stream. -/
abbrev RX (c : Dev nD) : FVec Ideal Cert.Reference6Ideal.S5x4096x1024 .f32 :=
  REFX (aAp m c) (aAs m c) (aBp m c) (aBs m c) (aW m c) (aXp m c) (aXs m c) (aMod m c) (aG m c)

theorem blkX_at (c : Dev nD) (t : Fin cfg0.N) (ρ : Fin 512) (y : Fin 1024) (a : Fin 5) (b : Fin 4096) (ha : (a : ℕ) = t.val / 8)
    (hb : (b : ℕ) = t.val % 8 * 512 + ρ) : blkX m c t (ix2 ρ y) = RX m c (ix3 a b y) := by
  have ht := ltN t
  have hr : ((⟨t.val * 512 + ρ, by omega⟩ : Fin 20480) : ℕ) = a * 4096 + b := by show t.val * 512 + (ρ : ℕ) = _; omega
  unfold RX REFX blkX
  rw [Cert.Reference6Ideal.Value.refX_at _ _ _ a b y _ hr, Cert.Reference6Ideal.Value.refN_at, pay1_at,
    rowX m c t ρ y ⟨t.val * 512 + ρ, by omega⟩ rfl, iblk8 m c t y a ha]
  refine congrArg (fun z : EReal => _ + _ * z) ?_
  refine (proj_at (halves _ _) _ _ ρ y).trans ?_
  rw [iblk7]
  refine congrArg (fun f : Fin 1024 → EReal => nrm f y * _) (funext fun z => ?_)
  rw [Cert.Reference6Ideal.Value.refY_at]
  refine Finset.sum_congr rfl fun j _ => ?_
  rw [rowO m c t ρ j ⟨t.val * 512 + ρ, by omega⟩ rfl, iblk4]

set_option maxHeartbeats 1600000 in
/-- The first result array is the reference's. -/
theorem final12 (c : Dev nD) : (dats m 0 c).arrAt 12 (cfgs 0).N = flat (RX m c) := by
  refine (dats m 0 c).arrAt_eq_of_covers 12 _ (by decide +kernel) fun t hfl y => ?_
  have ht := ltN t
  idx_vars y
  have hy : ((View.whole main_v1_0).slice (win0_12.rect t)).emb (ix2 y0 y1 : S512x1024.Idx) = ix2 ⟨t.val * 512 + (y0 : ℕ), by omega⟩ y1 := by
    blk_ext [idx t]
  blk_simp
  rw [after0_12]; unfold_out out0_12; frame_out
  rw [hy, Cert.Reference6Ideal.Value.flat_at]
  exact blkX_at m c t y0 y1 _ _ (by show (t.val * 512 + (y0 : ℕ)) / 4096 = _; omega) (by show (t.val * 512 + (y0 : ℕ)) % 4096 = _; omega)

set_option maxHeartbeats 1600000 in
/-- The second result array is the reference's. -/
theorem final13 (c : Dev nD) : (dats m 0 c).arrAt 13 (cfgs 0).N
    = REFH (aAp m c) (aAs m c) (aBp m c) (aBs m c) (aW m c) (aXp m c) (aXs m c) (aMod m c) (aG m c) (aG2 m c) := by
  refine (dats m 0 c).arrAt_eq_of_covers 13 _ (by decide +kernel) fun t hfl y => ?_
  have ht := ltN t
  idx_vars y
  have hy : ((View.whole main_v1_1).slice (win0_13.rect t)).emb (ix2 y0 y1 : S512x1024.Idx) = ix2 ⟨t.val * 512 + (y0 : ℕ), by omega⟩ y1 := by
    blk_ext [idx t]
  blk_simp
  rw [after0_13]; unfold_out out0_13; frame_out
  rw [hy]
  show (modul (blkX m c t) (iblk m c 9 t) (iblk m c 10 t) (iblk m c 11 t) (ix2 y0 y1) : EReal)
    = flat (refH (RX m c) (refM (aMod m c)) (aG2 m c)) (ix2 ⟨t.val * 512 + (y0 : ℕ), by omega⟩ y1)
  have ha : ((⟨(t.val * 512 + (y0 : ℕ)) / 4096, by omega⟩ : Fin 5) : ℕ) = t.val / 8 := by show (t.val * 512 + (y0 : ℕ)) / 4096 = _; omega
  have hb : ((⟨(t.val * 512 + (y0 : ℕ)) % 4096, by omega⟩ : Fin 4096) : ℕ) = t.val % 8 * 512 + y0 := by show (t.val * 512 + (y0 : ℕ)) % 4096 = _; omega
  rw [modul_at, Cert.Reference6Ideal.Value.flat_at, Cert.Reference6Ideal.Value.refH_at, iblk9, iblk10 m c t y1 _ ha, iblk11 m c t y1 _ ha]
  simp only [fun z : Fin 1024 => blkX_at m c t y0 z _ _ ha hb]

end Cert.Kernel6Ideal.Value
-- ==== Proof.OutProj.Claims.lean ====
module

public import proofs.«01_k».proof.Defs
public import proofs.«01_k».proof.Proof.OutProj.Value
public import Idealize.ShloMosaic.Lib.Claim

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Reference6Ideal.Value (refA refO refI refY refN refM refX refH flat REFX REFH)

/-! # The output projection's value claim -/

theorem algebraic : Cert.algebraic_Kernel6Ideal_Reference6Ideal := by
  pair_intro
  · run_from Cert.Kernel6Ideal.Value.run_blocks m g
  · run_from Cert.Reference6Ideal.Value.run_stages m' g'
    all_goals
      obtain ⟨h0, h1, h2, h3, h4, h5, h6, h7, h8, h9⟩ := hagree c
      try simp only [h0, h1, h2, h3, h4, h5, h6, h7, h8, h9]
    · exact (final12 m c).symm
    · exact (final13 m c).symm

end Cert.Kernel6Ideal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_scores
public import proofs.«01_k».proof.Proof.Gen.Pre_routed
public import proofs.«01_k».proof.Proof.Gen.KernelIdeal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.EvenIn.BitsFrame
public import proofs.«01_k».proof.Proof.EvenIn.IdealFrame
public import proofs.«01_k».proof.Proof.EvenIn.Claims
public import proofs.«01_k».proof.Proof.Gen.Reference7Ideal.Run
public import Idealize.ShloMosaic.Adequacy
public import Idealize.ShloMosaic.Init
public import proofs.«01_k».proof.Proof.GqaLocal.Claims
public import proofs.«01_k».proof.Proof.Moe.Claims
public import proofs.«01_k».proof.Proof.Ffn.Claims
public import proofs.«01_k».proof.Proof.Combine.Context
public import proofs.«01_k».proof.Proof.Combine.Latent
public import proofs.«01_k».proof.Proof.OutProj.Claims
public import Idealize.ShloMosaic.Lib.Claim

@[expose] public section

noncomputable section

namespace Cert.Proof

open Idealize.ShloMosaic Idealize.SL.Sem Cert.Kernel

/-- The reference runs on the host alone: its arguments stay and it has no semaphore. -/
theorem frame_r : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_r3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frame_r6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

theorem frame_r7 : Cert.quiescent_Reference7Ideal := fun m ρ _ =>
  (θ_run Cert.Reference7Ideal.defs _ _).mono
    (fun r h => ⟨fun c => (h c).2.2.2.2.2.2, Idealize.ShloMosaic.sem_eq_zero_of_no_sems (by decide) r.2⟩)
    (Cert.Reference7Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_scores.Gen.facts, Cert.Pre_routed.Gen.facts,
  fun m ρ _ => Cert.Kernel.Gen.frame m ρ,
  fun m ρ _ => Cert.KernelIdeal.Gen.frame m ρ,
  fun m ρ _ => Cert.KernelIdeal.Gen.frame m ρ,
  frame_r,
  fun m ρ _ => frame_r m ρ trivial,
  Cert.Kernel2.Moe.frame,
  Cert.Kernel2Ideal.Moe.frame,
  Cert.Kernel2Ideal.Moe.frame_reference,
  fun m ρ _ => Cert.Kernel2Ideal.Moe.frame_reference m ρ trivial,
  fun m ρ _ => Cert.Kernel3.Gen.frame m ρ,
  fun m ρ _ => Cert.Kernel3Ideal.Gen.frame m ρ,
  frame_r3,
  fun m ρ _ => Cert.Kernel4.Gen.frame m ρ,
  fun m ρ _ => Cert.Kernel4Ideal.Gen.frame m ρ,
  frame_r4,
  fun m ρ _ => Cert.Kernel5.Gen.frame m ρ,
  fun m ρ _ => Cert.Kernel5Ideal.Gen.frame m ρ,
  frame_r5,
  fun m ρ _ => Cert.Kernel6.Gen.frame m ρ,
  fun m ρ _ => Cert.Kernel6Ideal.Gen.frame m ρ,
  frame_r6,
  fun m ρ _ => Cert.Kernel7.Gen.frame m ρ,
  fun m ρ _ => Cert.Kernel7Ideal.Gen.frame m ρ,
  frame_r7,
  Cert.KernelIdeal.Value.preserves,
  Cert.KernelIdeal.Value.algebraic,
  trivial,
  Cert.Kernel2Ideal.Moe.algebraic,
  trivial,
  Cert.Kernel3Ideal.Value.algebraic,
  trivial,
  Cert.Kernel4Ideal.Value.algebraic,
  trivial,
  Cert.Kernel5Ideal.Value.algebraic,
  trivial,
  Cert.Kernel6Ideal.Value.algebraic,
  trivial,
  Cert.Kernel7Ideal.Value.algebraic⟩

end Cert.Proof

end
